-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)) (v6 : (c : Dev Cert.Kernel2Ideal.nD) → Buf (Elt Ideal) ((c.tc : Thread Cert.Kernel2Ideal.nD Cert.Kernel2Ideal.τ).loc Cert.Kernel2Ideal.main_v18_6)) (v7 : (c : Dev Cert.Kernel2Ideal.nD) → Buf (Elt Ideal) ((c.tc : Thread Cert.Kernel2Ideal.nD Cert.Kernel2Ideal.τ).loc Cert.Kernel2Ideal.main_v18_7)) (v8 : (c : Dev Cert.Kernel2Ideal.nD) → Buf (Elt Ideal) ((c.tc : Thread Cert.Kernel2Ideal.nD Cert.Kernel2Ideal.τ).loc Cert.Kernel2Ideal.main_v18_8)) (v9 : (c : Dev Cert.Kernel2Ideal.nD) → Buf (Elt Ideal) ((c.tc : Thread Cert.Kernel2Ideal.nD Cert.Kernel2Ideal.τ).loc Cert.Kernel2Ideal.main_v18_9)) (v10 : (c : Dev Cert.Kernel2Ideal.nD) → Buf (Elt Ideal) ((c.tc : Thread Cert.Kernel2Ideal.nD Cert.Kernel2Ideal.τ).loc Cert.Kernel2Ideal.main_v18_10)) (v11 : (c : Dev Cert.Kernel2Ideal.nD) → Buf (Elt Ideal) ((c.tc : Thread Cert.Kernel2Ideal.nD Cert.Kernel2Ideal.τ).loc Cert.Kernel2Ideal.main_v18_11)) (v12 : (c : Dev Cert.Kernel2Ideal.nD) → Buf (Elt Ideal) ((c.tc : Thread Cert.Kernel2Ideal.nD Cert.Kernel2Ideal.τ).loc Cert.Kernel2Ideal.main_v18_12)) (v13 : (c : Dev Cert.Kernel2Ideal.nD) → Buf (Elt Ideal) ((c.tc : Thread Cert.Kernel2Ideal.nD Cert.Kernel2Ideal.τ).loc Cert.Kernel2Ideal.main_v18_13)) (v14 : (c : Dev Cert.Kernel2Ideal.nD) → Buf (Elt Ideal) ((c.tc : Thread Cert.Kernel2Ideal.nD Cert.Kernel2Ideal.τ).loc Cert.Kernel2Ideal.main_v18_14)) (v15 : (c : Dev Cert.Kernel2Ideal.nD) → Buf (Elt Ideal) ((c.tc : Thread Cert.Kernel2Ideal.nD Cert.Kernel2Ideal.τ).loc Cert.Kernel2Ideal.main_v18_15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_v18_6) = v6 c
          ∧ r.2.mem ((c.tc : Thread Cert.Kernel2Ideal.nD Cert.Kernel2Ideal.τ).loc Cert.Kernel2Ideal.main_v18_7) = v7 c
          ∧ r.2.mem ((c.tc : Thread Cert.Kernel2Ideal.nD Cert.Kernel2Ideal.τ).loc Cert.Kernel2Ideal.main_v18_8) = v8 c
          ∧ r.2.mem ((c.tc : Thread Cert.Kernel2Ideal.nD Cert.Kernel2Ideal.τ).loc Cert.Kernel2Ideal.main_v18_9) = v9 c
          ∧ r.2.mem ((c.tc : Thread Cert.Kernel2Ideal.nD Cert.Kernel2Ideal.τ).loc Cert.Kernel2Ideal.main_v18_10) = v10 c
          ∧ r.2.mem ((c.tc : Thread Cert.Kernel2Ideal.nD Cert.Kernel2Ideal.τ).loc Cert.Kernel2Ideal.main_v18_11) = v11 c
          ∧ r.2.mem ((c.tc : Thread Cert.Kernel2Ideal.nD Cert.Kernel2Ideal.τ).loc Cert.Kernel2Ideal.main_v18_12) = v12 c
          ∧ r.2.mem ((c.tc : Thread Cert.Kernel2Ideal.nD Cert.Kernel2Ideal.τ).loc Cert.Kernel2Ideal.main_v18_13) = v13 c
          ∧ r.2.mem ((c.tc : Thread Cert.Kernel2Ideal.nD Cert.Kernel2Ideal.τ).loc Cert.Kernel2Ideal.main_v18_14) = v14 c
          ∧ r.2.mem ((c.tc : Thread Cert.Kernel2Ideal.nD Cert.Kernel2Ideal.τ).loc Cert.Kernel2Ideal.main_v18_15) = v15 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v103) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_v49) = v3 c
          ∧ r.2.mem ((c.tc : Thread Cert.Reference2Ideal.nD Cert.Reference2Ideal.τ).loc Cert.Reference2Ideal.main_v50) = v4 c
          ∧ r.2.mem ((c.tc : Thread Cert.Reference2Ideal.nD Cert.Reference2Ideal.τ).loc Cert.Reference2Ideal.main_v93) = v5 c
          ∧ r.2.mem ((c.tc : Thread Cert.Reference2Ideal.nD Cert.Reference2Ideal.τ).loc Cert.Reference2Ideal.main_v99) = v6 c
          ∧ r.2.mem ((c.tc : Thread Cert.Reference2Ideal.nD Cert.Reference2Ideal.τ).loc Cert.Reference2Ideal.main_v100) = v7 c
          ∧ r.2.mem ((c.tc : Thread Cert.Reference2Ideal.nD Cert.Reference2Ideal.τ).loc Cert.Reference2Ideal.main_v101) = v8 c
          ∧ r.2.mem ((c.tc : Thread Cert.Reference2Ideal.nD Cert.Reference2Ideal.τ).loc Cert.Reference2Ideal.main_v105) = v9 c
          ∧ r.2.mem ((c.tc : Thread Cert.Reference2Ideal.nD Cert.Reference2Ideal.τ).loc Cert.Reference2Ideal.main_v107) = v10 c
          ∧ r.2.mem ((c.tc : Thread Cert.Reference2Ideal.nD Cert.Reference2Ideal.τ).loc Cert.Reference2Ideal.main_v110) = v11 c
          ∧ r.2.mem ((c.tc : Thread Cert.Reference2Ideal.nD Cert.Reference2Ideal.τ).loc Cert.Reference2Ideal.main_v112) = v12 c
          ∧ r.2.mem ((c.tc : Thread Cert.Reference2Ideal.nD Cert.Reference2Ideal.τ).loc Cert.Reference2Ideal.main_v114) = v13 c
          ∧ r.2.mem ((c.tc : Thread Cert.Reference2Ideal.nD Cert.Reference2Ideal.τ).loc Cert.Reference2Ideal.main_v116) = v14 c
          ∧ r.2.mem ((c.tc : Thread Cert.Reference2Ideal.nD Cert.Reference2Ideal.τ).loc Cert.Reference2Ideal.main_v118) = v15 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)) (v3 : (c : Dev Cert.Kernel5Ideal.nD) → Buf (Elt Ideal) ((c.tc : Thread Cert.Kernel5Ideal.nD Cert.Kernel5Ideal.τ).loc Cert.Kernel5Ideal.main_v29_3)) (v4 : (c : Dev Cert.Kernel5Ideal.nD) → Buf (Elt Ideal) ((c.tc : Thread Cert.Kernel5Ideal.nD Cert.Kernel5Ideal.τ).loc Cert.Kernel5Ideal.main_v29_4)) (v5 : (c : Dev Cert.Kernel5Ideal.nD) → Buf (Elt Ideal) ((c.tc : Thread Cert.Kernel5Ideal.nD Cert.Kernel5Ideal.τ).loc Cert.Kernel5Ideal.main_v29_5)) (v6 : (c : Dev Cert.Kernel5Ideal.nD) → Buf (Elt Ideal) ((c.tc : Thread Cert.Kernel5Ideal.nD Cert.Kernel5Ideal.τ).loc Cert.Kernel5Ideal.main_v29_6)) (v7 : (c : Dev Cert.Kernel5Ideal.nD) → Buf (Elt Ideal) ((c.tc : Thread Cert.Kernel5Ideal.nD Cert.Kernel5Ideal.τ).loc Cert.Kernel5Ideal.main_v29_7)) (v8 : (c : Dev Cert.Kernel5Ideal.nD) → Buf (Elt Ideal) ((c.tc : Thread Cert.Kernel5Ideal.nD Cert.Kernel5Ideal.τ).loc Cert.Kernel5Ideal.main_v29_8)) (v9 : (c : Dev Cert.Kernel5Ideal.nD) → Buf (Elt Ideal) ((c.tc : Thread Cert.Kernel5Ideal.nD Cert.Kernel5Ideal.τ).loc Cert.Kernel5Ideal.main_v29_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_v29_3) = v3 c
          ∧ r.2.mem ((c.tc : Thread Cert.Kernel5Ideal.nD Cert.Kernel5Ideal.τ).loc Cert.Kernel5Ideal.main_v29_4) = v4 c
          ∧ r.2.mem ((c.tc : Thread Cert.Kernel5Ideal.nD Cert.Kernel5Ideal.τ).loc Cert.Kernel5Ideal.main_v29_5) = v5 c
          ∧ r.2.mem ((c.tc : Thread Cert.Kernel5Ideal.nD Cert.Kernel5Ideal.τ).loc Cert.Kernel5Ideal.main_v29_6) = v6 c
          ∧ r.2.mem ((c.tc : Thread Cert.Kernel5Ideal.nD Cert.Kernel5Ideal.τ).loc Cert.Kernel5Ideal.main_v29_7) = v7 c
          ∧ r.2.mem ((c.tc : Thread Cert.Kernel5Ideal.nD Cert.Kernel5Ideal.τ).loc Cert.Kernel5Ideal.main_v29_8) = v8 c
          ∧ r.2.mem ((c.tc : Thread Cert.Kernel5Ideal.nD Cert.Kernel5Ideal.τ).loc Cert.Kernel5Ideal.main_v29_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v75) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_v128) = v4 c
          ∧ r.2.mem ((c.tc : Thread Cert.Reference5Ideal.nD Cert.Reference5Ideal.τ).loc Cert.Reference5Ideal.main_v129) = v5 c
          ∧ r.2.mem ((c.tc : Thread Cert.Reference5Ideal.nD Cert.Reference5Ideal.τ).loc Cert.Reference5Ideal.main_v135) = v6 c
          ∧ r.2.mem ((c.tc : Thread Cert.Reference5Ideal.nD Cert.Reference5Ideal.τ).loc Cert.Reference5Ideal.main_v141) = v7 c
          ∧ r.2.mem ((c.tc : Thread Cert.Reference5Ideal.nD Cert.Reference5Ideal.τ).loc Cert.Reference5Ideal.main_v147) = v8 c
          ∧ r.2.mem ((c.tc : Thread Cert.Reference5Ideal.nD Cert.Reference5Ideal.τ).loc Cert.Reference5Ideal.main_v154) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
-- ==== Kernel.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S1024x1024 : Shape := ⟨2, ![1024, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 9
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x5632, .f32⟩
  | .hbm, ⟨23, _⟩ => ⟨S2816x1024, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x1024 : Shape := ⟨2, ![16, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x4096 : Shape := ⟨3, ![1, 1024, 4096]⟩
abbrev S1x512x1024 : Shape := ⟨3, ![1, 512, 1024]⟩
abbrev S1x1024x1024 : Shape := ⟨3, ![1, 1024, 1024]⟩
abbrev S1x512x512 : Shape := ⟨3, ![1, 512, 512]⟩
abbrev S1024 : Shape := ⟨1, ![1024]⟩
abbrev S1024x5632 : Shape := ⟨2, ![1024, 5632]⟩
abbrev S2816x1024 : Shape := ⟨2, ![2816, 1024]⟩
abbrev S1024x4096 : Shape := ⟨2, ![1024, 4096]⟩
abbrev S1024x2048 : Shape := ⟨2, ![1024, 2048]⟩
abbrev S512x1024 : Shape := ⟨2, ![512, 1024]⟩
abbrev S1024x1024 : Shape := ⟨2, ![1024, 1024]⟩
abbrev S512x512 : Shape := ⟨2, ![512, 512]⟩
abbrev S32768x512 : Shape := ⟨2, ![32768, 512]⟩
abbrev S16x2048x512 : Shape := ⟨3, ![16, 2048, 512]⟩
abbrev S16x512 : Shape := ⟨2, ![16, 512]⟩
abbrev S16x32x1024 : Shape := ⟨3, ![16, 32, 1024]⟩
abbrev S16x5632 : Shape := ⟨2, ![16, 5632]⟩
abbrev S64x1024 : Shape := ⟨2, ![64, 1024]⟩
abbrev S16x2048 : Shape := ⟨2, ![16, 2048]⟩
abbrev S16x32x512 : Shape := ⟨3, ![16, 32, 512]⟩
abbrev S16 : Shape := ⟨1, ![16]⟩
abbrev S16x1 : Shape := ⟨2, ![16, 1]⟩
abbrev S1024x2816 : Shape := ⟨2, ![1024, 2816]⟩
abbrev S16x2816 : Shape := ⟨2, ![16, 2816]⟩
abbrev S512 : Shape := ⟨1, ![512]⟩
abbrev S512x1 : Shape := ⟨2, ![512, 1]⟩
abbrev S512x2816 : Shape := ⟨2, ![512, 2816]⟩
abbrev S512x2048 : Shape := ⟨2, ![512, 2048]⟩
abbrev S32x16x512 : Shape := ⟨3, ![32, 16, 512]⟩

abbrev nBuf : Space → Nat
  | .hbm => 47
  | .vmem => 50
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S1x1024x4096, .f32⟩
  | .hbm, ⟨7, _⟩ => ⟨S1x1024x5632, .f32⟩
  | .hbm, ⟨8, _⟩ => ⟨S1x2816x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x512x512, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x5632, .f32⟩
  | .hbm, ⟨18, _⟩ => ⟨S1024x5632, .bf16⟩
  | .hbm, ⟨19, _⟩ => ⟨S2816x1024, .f32⟩
  | .hbm, ⟨20, _⟩ => ⟨S2816x1024, .bf16⟩
  | .hbm, ⟨21, _⟩ => ⟨S1024x4096, .f32⟩
  | .hbm, ⟨22, _⟩ => ⟨S1024x2048, .f32⟩
  | .hbm, ⟨23, _⟩ => ⟨S1024x2048, .bf16⟩
  | .hbm, ⟨24, _⟩ => ⟨S1024x5632, .f32⟩
  | .hbm, ⟨25, _⟩ => ⟨S2816x1024, .f32⟩
  | .hbm, ⟨26, _⟩ => ⟨S1024x4096, .f32⟩
  | .hbm, ⟨27, _⟩ => ⟨S512x1024, .f32⟩
  | .hbm, ⟨28, _⟩ => ⟨S512x1024, .f32⟩
  | .hbm, ⟨29, _⟩ => ⟨S1024x1024, .f32⟩
  | .hbm, ⟨30, _⟩ => ⟨S512x512, .f32⟩
  | .hbm, ⟨31, _⟩ => ⟨S16x2048x1024, .f32⟩
  | .hbm, ⟨32, _⟩ => ⟨S32768x512, .f32⟩
  | .hbm, ⟨33, _⟩ => ⟨S16x2048x512, .bf16⟩
  | .hbm, ⟨34, _⟩ => ⟨S16x2048x512, .bf16⟩
  | .hbm, ⟨35, _⟩ => ⟨S16x2048x512, .bf16⟩
  | .hbm, ⟨36, _⟩ => ⟨S16x512, .f32⟩
  | .hbm, ⟨37, _⟩ => ⟨S16x512, .bf16⟩
  | .hbm, ⟨38, _⟩ => ⟨S16x512, .bf16⟩
  | .hbm, ⟨39, _⟩ => ⟨S16x512, .bf16⟩
  | .hbm, ⟨40, _⟩ => ⟨S1024x5632, .bf16⟩
  | .hbm, ⟨41, _⟩ => ⟨S2816x1024, .bf16⟩
  | .hbm, ⟨42, _⟩ => ⟨S1024x2048, .bf16⟩
  | .hbm, ⟨43, _⟩ => ⟨S512x1024, .bf16⟩
  | .hbm, ⟨44, _⟩ => ⟨S512x1024, .bf16⟩
  | .hbm, ⟨45, _⟩ => ⟨S1024x1024, .bf16⟩
  | .hbm, ⟨46, _⟩ => ⟨S512x512, .bf16⟩
  | .local _ .vmem, ⟨0, _⟩ => ⟨S16x32x1024, .f32⟩
  | .local _ .vmem, ⟨1, _⟩ => ⟨S16x32x1024, .f32⟩
  | .local _ .vmem, ⟨2, _⟩ => ⟨S16x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1024x2048, .bf16⟩
  | .local _ .vmem, ⟨8, _⟩ => ⟨S16x5632, .f32⟩
  | .local _ .vmem, ⟨9, _⟩ => ⟨S16x5632, .f32⟩
  | .local _ .vmem, ⟨10, _⟩ => ⟨S64x1024, .f32⟩
  | .local _ .vmem, ⟨11, _⟩ => ⟨S64x1024, .f32⟩
  | .local _ .vmem, ⟨12, _⟩ => ⟨S16x2048, .f32⟩
  | .local _ .vmem, ⟨13, _⟩ => ⟨S16x2048, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x512, .f32⟩
  | .local _ .vmem, ⟨21, _⟩ => ⟨S16x512, .f32⟩
  | .local _ .vmem, ⟨22, _⟩ => ⟨S16x32x1024, .f32⟩
  | .local _ .vmem, ⟨23, _⟩ => ⟨S16x32x1024, .f32⟩
  | .local _ .vmem, ⟨24, _⟩ => ⟨S512x512, .f32⟩
  | .local _ .vmem, ⟨25, _⟩ => ⟨S512x512, .f32⟩
  | .local _ .vmem, ⟨26, _⟩ => ⟨S16x32x512, .bf16⟩
  | .local _ .vmem, ⟨27, _⟩ => ⟨S16x32x512, .bf16⟩
  | .local _ .vmem, ⟨28, _⟩ => ⟨S16x32x512, .bf16⟩
  | .local _ .vmem, ⟨29, _⟩ => ⟨S16x32x512, .bf16⟩
  | .local _ .vmem, ⟨30, _⟩ => ⟨S16x32x512, .bf16⟩
  | .local _ .vmem, ⟨31, _⟩ => ⟨S16x32x512, .bf16⟩
  | .local _ .vmem, ⟨32, _⟩ => ⟨S16x512, .f32⟩
  | .local _ .vmem, ⟨33, _⟩ => ⟨S16x512, .bf16⟩
  | .local _ .vmem, ⟨34, _⟩ => ⟨S16x512, .bf16⟩
  | .local _ .vmem, ⟨35, _⟩ => ⟨S16x512, .bf16⟩
  | .local _ .vmem, ⟨36, _⟩ => ⟨S16x5632, .bf16⟩
  | .local _ .vmem, ⟨37, _⟩ => ⟨S16x5632, .bf16⟩
  | .local _ .vmem, ⟨38, _⟩ => ⟨S64x1024, .bf16⟩
  | .local _ .vmem, ⟨39, _⟩ => ⟨S64x1024, .bf16⟩
  | .local _ .vmem, ⟨40, _⟩ => ⟨S16x2048, .bf16⟩
  | .local _ .vmem, ⟨41, _⟩ => ⟨S16x2048, .bf16⟩
  | .local _ .vmem, ⟨42, _⟩ => ⟨S16x1024, .bf16⟩
  | .local _ .vmem, ⟨43, _⟩ => ⟨S16x1024, .bf16⟩
  | .local _ .vmem, ⟨44, _⟩ => ⟨S16x1024, .bf16⟩
  | .local _ .vmem, ⟨45, _⟩ => ⟨S16x1024, .bf16⟩
  | .local _ .vmem, ⟨46, _⟩ => ⟨S16x1024, .bf16⟩
  | .local _ .vmem, ⟨47, _⟩ => ⟨S16x1024, .bf16⟩
  | .local _ .vmem, ⟨48, _⟩ => ⟨S16x512, .bf16⟩
  | .local _ .vmem, ⟨49, _⟩ => ⟨S16x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v18_7 : Ref sig .tc := ⟨.hbm, 38, rfl⟩
abbrev main_v18_8 : Ref sig .tc := ⟨.hbm, 39, rfl⟩
abbrev main_v18_9 : Ref sig .tc := ⟨.hbm, 40, rfl⟩
abbrev main_v18_10 : Ref sig .tc := ⟨.hbm, 41, rfl⟩
abbrev main_v18_11 : Ref sig .tc := ⟨.hbm, 42, rfl⟩
abbrev main_v18_12 : Ref sig .tc := ⟨.hbm, 43, rfl⟩
abbrev main_v18_13 : Ref sig .tc := ⟨.hbm, 44, rfl⟩
abbrev main_v18_14 : Ref sig .tc := ⟨.hbm, 45, rfl⟩
abbrev main_v18_15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg28_1 : Ref sig .tc := ⟨.vmem, 47, rfl⟩
abbrev cc0_stg29_0 : Ref sig .tc := ⟨.vmem, 48, rfl⟩
abbrev cc0_stg29_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47
abbrev cc0_sem29_0 : DmaSem sig := 48
abbrev cc0_sem29_1 : DmaSem sig := 49

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_27 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_29 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x32x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x32x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S16x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S16x5632 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S16x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S16x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S16x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S16x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S16x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== Reference2Ideal.lean ====
abbrev S16x2048x1024 : Shape := ⟨3, ![16, 2048, 1024]⟩
abbrev S16x1024 : Shape := ⟨2, ![16, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x4096 : Shape := ⟨3, ![1, 1024, 4096]⟩
abbrev S1x512x1024 : Shape := ⟨3, ![1, 512, 1024]⟩
abbrev S1x1024x1024 : Shape := ⟨3, ![1, 1024, 1024]⟩
abbrev S1x512x512 : Shape := ⟨3, ![1, 512, 512]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5632 : Shape := ⟨2, ![1024, 5632]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S1024x4096 : Shape := ⟨2, ![1024, 4096]⟩
abbrev S1024x2048 : Shape := ⟨2, ![1024, 2048]⟩
abbrev S16x2048x2048 : Shape := ⟨3, ![16, 2048, 2048]⟩
abbrev S16x2048x512 : Shape := ⟨3, ![16, 2048, 512]⟩
abbrev S16 : Shape := ⟨1, ![16]⟩
abbrev S16x1 : Shape := ⟨2, ![16, 1]⟩
abbrev S16x5632 : Shape := ⟨2, ![16, 5632]⟩
abbrev S16x2816 : Shape := ⟨2, ![16, 2816]⟩
abbrev S16x512 : Shape := ⟨2, ![16, 512]⟩
abbrev S2048x16x512 : Shape := ⟨3, ![2048, 16, 512]⟩
abbrev S32768x512 : Shape := ⟨2, ![32768, 512]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 164
  | .vmem => 0
  | .smem => 0
  | _ => 0

abbrev hbmTy0_0 (i : Nat) : BufTy := match i % 128 with
  | 0 => ⟨S16x2048x1024, .f32⟩
  | 1 => ⟨S16x1024, .f32⟩
  | 2 => ⟨S1x1024, .f32⟩
  | 3 => ⟨S1x1024x5632, .f32⟩
  | 4 => ⟨S1x2816x1024, .f32⟩
  | 5 => ⟨S1x1024, .f32⟩
  | 6 => ⟨S1x1024x4096, .f32⟩
  | 7 => ⟨S1x1024x5632, .f32⟩
  | 8 => ⟨S1x2816x1024, .f32⟩
  | 9 => ⟨S1x512x1024, .f32⟩
  | 10 => ⟨S1x512x1024, .f32⟩
  | 11 => ⟨S1x1024x1024, .f32⟩
  | 12 => ⟨S1x512x512, .f32⟩
  | 13 => ⟨S1024, .f32⟩
  | 14 => ⟨S16x2048x1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S_, .f32⟩
  | 22 => ⟨S16x2048x1, .f32⟩
  | 23 => ⟨S16x2048x1, .f32⟩
  | 24 => ⟨S16x2048x1, .f32⟩
  | 25 => ⟨S16x2048x1024, .f32⟩
  | 26 => ⟨S16x2048x1024, .f32⟩
  | 27 => ⟨S1x1x1024, .f32⟩
  | 28 => ⟨S16x2048x1024, .f32⟩
  | 29 => ⟨S16x2048x1024, .f32⟩
  | 30 => ⟨S1024x5632, .f32⟩
  | 31 => ⟨S2816x1024, .f32⟩
  | 32 => ⟨S16x2048x5632, .f32⟩
  | 33 => ⟨S16x2048x2816, .f32⟩
  | 34 => ⟨S16x2048x2816, .f32⟩
  | 35 => ⟨S16x2048x2816, .f32⟩
  | 36 => ⟨S16x2048x2816, .f32⟩
  | 37 => ⟨S_, .f32⟩
  | 38 => ⟨S16x2048x2816, .f32⟩
  | 39 => ⟨S16x2048x2816, .f32⟩
  | 40 => ⟨S_, .f32⟩
  | 41 => ⟨S16x2048x2816, .f32⟩
  | 42 => ⟨S16x2048x2816, .f32⟩
  | 43 => ⟨S16x2048x2816, .f32⟩
  | 44 => ⟨S16x2048x2816, .f32⟩
  | 45 => ⟨S16x2048x1024, .f32⟩
  | 46 => ⟨S_, .f32⟩
  | 47 => ⟨S16x2048x1024, .f32⟩
  | 48 => ⟨S16x2048x1024, .f32⟩
  | 49 => ⟨S16x2048x1024, .f32⟩
  | 50 => ⟨S1024, .f32⟩
  | 51 => ⟨S16x2048x1024, .f32⟩
  | 52 => ⟨S_, .f32⟩
  | 53 => ⟨S16x2048, .f32⟩
  | 54 => ⟨S16x2048x1, .f32⟩
  | 55 => ⟨S_, .f32⟩
  | 56 => ⟨S16x2048x1, .f32⟩
  | 57 => ⟨S16x2048x1, .f32⟩
  | 58 => ⟨S_, .f32⟩
  | 59 => ⟨S16x2048x1, .f32⟩
  | 60 => ⟨S16x2048x1, .f32⟩
  | 61 => ⟨S16x2048x1, .f32⟩
  | 62 => ⟨S16x2048x1024, .f32⟩
  | 63 => ⟨S16x2048x1024, .f32⟩
  | 64 => ⟨S1x1x1024, .f32⟩
  | 65 => ⟨S16x2048x1024, .f32⟩
  | 66 => ⟨S16x2048x1024, .f32⟩
  | 67 => ⟨S1024x4096, .f32⟩
  | 68 => ⟨S1024x2048, .f32⟩
  | 69 => ⟨S16x2048x2048, .f32⟩
  | 70 => ⟨S16x2048x512, .f32⟩
  | 71 => ⟨S16x2048x512, .f32⟩
  | 72 => ⟨S16x2048x512, .f32⟩
  | 73 => ⟨S16x2048x512, .f32⟩
  | 74 => ⟨S_, .f32⟩
  | 75 => ⟨S16x2048x512, .f32⟩
  | 76 => ⟨S16x2048x512, .f32⟩
  | 77 => ⟨S16x2048x512, .bf16⟩
  | 78 => ⟨S16x2048x512, .bf16⟩
  | 79 => ⟨S16x2048x512, .bf16⟩
  | 80 => ⟨S1024, .f32⟩
  | 81 => ⟨S16x1024, .f32⟩
  | 82 => ⟨S_, .f32⟩
  | 83 => ⟨S16, .f32⟩
  | 84 => ⟨S16x1, .f32⟩
  | 85 => ⟨S_, .f32⟩
  | 86 => ⟨S16x1, .f32⟩
  | 87 => ⟨S16x1, .f32⟩
  | 88 => ⟨S_, .f32⟩
  | 89 => ⟨S16x1, .f32⟩
  | 90 => ⟨S16x1, .f32⟩
  | 91 => ⟨S16x1, .f32⟩
  | 92 => ⟨S16x1024, .f32⟩
  | 93 => ⟨S16x1024, .f32⟩
  | 94 => ⟨S1x1024, .f32⟩
  | 95 => ⟨S16x1024, .f32⟩
  | 96 => ⟨S16x1024, .f32⟩
  | 97 => ⟨S1024x5632, .f32⟩
  | 98 => ⟨S2816x1024, .f32⟩
  | 99 => ⟨S16x5632, .f32⟩
  | 100 => ⟨S16x2816, .f32⟩
  | 101 => ⟨S16x2816, .f32⟩
  | 102 => ⟨S16x2816, .f32⟩
  | 103 => ⟨S16x2816, .f32⟩
  | 104 => ⟨S_, .f32⟩
  | 105 => ⟨S16x2816, .f32⟩
  | 106 => ⟨S16x2816, .f32⟩
  | 107 => ⟨S_, .f32⟩
  | 108 => ⟨S16x2816, .f32⟩
  | 109 => ⟨S16x2816, .f32⟩
  | 110 => ⟨S16x2816, .f32⟩
  | 111 => ⟨S16x2816, .f32⟩
  | 112 => ⟨S16x1024, .f32⟩
  | 113 => ⟨S_, .f32⟩
  | 114 => ⟨S16x1024, .f32⟩
  | 115 => ⟨S16x1024, .f32⟩
  | 116 => ⟨S16x1024, .f32⟩
  | 117 => ⟨S1024, .f32⟩
  | 118 => ⟨S16x1024, .f32⟩
  | 119 => ⟨S_, .f32⟩
  | 120 => ⟨S16, .f32⟩
  | 121 => ⟨S16x1, .f32⟩
  | 122 => ⟨S_, .f32⟩
  | 123 => ⟨S16x1, .f32⟩
  | 124 => ⟨S16x1, .f32⟩
  | 125 => ⟨S_, .f32⟩
  | 126 => ⟨S16x1, .f32⟩
  | 127 => ⟨S16x1, .f32⟩
  | _ => ⟨S16x2048x1024, .f32⟩

abbrev hbmTy0_1 (i : Nat) : BufTy := match i % 128 with
  | 0 => ⟨S16x1, .f32⟩
  | 1 => ⟨S16x1024, .f32⟩
  | 2 => ⟨S16x1024, .f32⟩
  | 3 => ⟨S1x1024, .f32⟩
  | 4 => ⟨S16x1024, .f32⟩
  | 5 => ⟨S16x1024, .f32⟩
  | 6 => ⟨S1024x4096, .f32⟩
  | 7 => ⟨S1024x2048, .f32⟩
  | 8 => ⟨S16x2048, .f32⟩
  | 9 => ⟨S16x512, .f32⟩
  | 10 => ⟨S16x512, .f32⟩
  | 11 => ⟨S16x512, .f32⟩
  | 12 => ⟨S16x512, .f32⟩
  | 13 => ⟨S_, .f32⟩
  | 14 => ⟨S16x512, .f32⟩
  | 15 => ⟨S16x512, .f32⟩
  | 16 => ⟨S16x512, .bf16⟩
  | 17 => ⟨S16x512, .bf16⟩
  | 18 => ⟨S16x512, .bf16⟩
  | 19 => ⟨S2048x16x512, .f32⟩
  | 20 => ⟨S32768x512, .f32⟩
  | 21 => ⟨S1024x5632, .f32⟩
  | 22 => ⟨S1024x5632, .bf16⟩
  | 23 => ⟨S2816x1024, .f32⟩
  | 24 => ⟨S2816x1024, .bf16⟩
  | 25 => ⟨S1024x4096, .f32⟩
  | 26 => ⟨S1024x2048, .f32⟩
  | 27 => ⟨S1024x2048, .bf16⟩
  | 28 => ⟨S512x1024, .f32⟩
  | 29 => ⟨S512x1024, .bf16⟩
  | 30 => ⟨S512x1024, .f32⟩
  | 31 => ⟨S512x1024, .bf16⟩
  | 32 => ⟨S1024x1024, .f32⟩
  | 33 => ⟨S1024x1024, .bf16⟩
  | 34 => ⟨S512x512, .f32⟩
  | 35 => ⟨S512x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_10 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_11 : Ref sig .tc := ⟨.hbm, 119, rfl⟩
abbrev main_v78 : Ref sig .tc := ⟨.hbm, 120, rfl⟩
abbrev main_v79 : Ref sig .tc := ⟨.hbm, 121, rfl⟩
abbrev main_cst_12 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_14 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩

abbrev nD : Nat := 1
abbrev τ : Topo := Topo.v7x

variable {F : FTy → Type} [FloatOps F]
-- ==== Kernel3.lean ====
abbrev S16x2048x1024 : Shape := ⟨3, ![16, 2048, 1024]⟩
abbrev S32768x512 : Shape := ⟨2, ![32768, 512]⟩
abbrev S16x2048x256 : Shape := ⟨3, ![16, 2048, 256]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S16x64x1024 : Shape := ⟨3, ![16, 64, 1024]⟩
abbrev S1024x512 : Shape := ⟨2, ![1024, 512]⟩
abbrev S16x64x256 : Shape := ⟨3, ![16, 64, 256]⟩
abbrev S1024x1 : Shape := ⟨2, ![1024, 1]⟩
abbrev S64x16x512 : Shape := ⟨3, ![64, 16, 512]⟩
abbrev S16x64x512 : Shape := ⟨3, ![16, 64, 512]⟩
abbrev S1024x256 : Shape := ⟨2, ![1024, 256]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S16x2048x256, .bf16⟩
  | .hbm, ⟨3, _⟩ => ⟨S16x2048x256, .bf16⟩
  | .hbm, ⟨4, _⟩ => ⟨S1x1024, .f32⟩
  | .hbm, ⟨5, _⟩ => ⟨S1024x2048, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S16x2048x1024, .f32⟩
  | .local _ .vmem, ⟨0, _⟩ => ⟨S16x64x1024, .f32⟩
  | .local _ .vmem, ⟨1, _⟩ => ⟨S16x64x1024, .f32⟩
  | .local _ .vmem, ⟨2, _⟩ => ⟨S1024x512, .bf16⟩
  | .local _ .vmem, ⟨3, _⟩ => ⟨S1024x512, .bf16⟩
  | .local _ .vmem, ⟨4, _⟩ => ⟨S16x64x256, .bf16⟩
  | .local _ .vmem, ⟨5, _⟩ => ⟨S16x64x256, .bf16⟩
  | .local _ .vmem, ⟨6, _⟩ => ⟨S16x64x256, .bf16⟩
  | .local _ .vmem, ⟨7, _⟩ => ⟨S16x64x256, .bf16⟩
  | .local _ .vmem, ⟨8, _⟩ => ⟨S1x1024, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S16x64x1024, .f32⟩
  | .local _ .vmem, ⟨14, _⟩ => ⟨S16x64x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S32768x512 : Shape := ⟨2, ![32768, 512]⟩
abbrev S16x2048x256 : Shape := ⟨3, ![16, 2048, 256]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S2048x16x512 : Shape := ⟨3, ![2048, 16, 512]⟩
abbrev S16x2048x512 : Shape := ⟨3, ![16, 2048, 512]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S16x2048x256, .bf16⟩
  | .hbm, ⟨3, _⟩ => ⟨S16x2048x256, .bf16⟩
  | .hbm, ⟨4, _⟩ => ⟨S1x1024, .f32⟩
  | .hbm, ⟨5, _⟩ => ⟨S1024x2048, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S1024x2048, .f32⟩
  | .hbm, ⟨27, _⟩ => ⟨S16x2048x2048, .f32⟩
  | .hbm, ⟨28, _⟩ => ⟨S16x2048x1024, .f32⟩
  | .hbm, ⟨29, _⟩ => ⟨S16x2048x1024, .f32⟩
  | .hbm, ⟨30, _⟩ => ⟨S32768x512, .f32⟩
  | .hbm, ⟨31, _⟩ => ⟨S2048x16x512, .f32⟩
  | .hbm, ⟨32, _⟩ => ⟨S16x2048x512, .f32⟩
  | .hbm, ⟨33, _⟩ => ⟨S512x1024, .f32⟩
  | .hbm, ⟨34, _⟩ => ⟨S16x2048x1024, .f32⟩
  | .hbm, ⟨35, _⟩ => ⟨S16x2048x256, .f32⟩
  | .hbm, ⟨36, _⟩ => ⟨S16x2048x256, .f32⟩
  | .hbm, ⟨37, _⟩ => ⟨S16x2048x512, .f32⟩
  | .hbm, ⟨38, _⟩ => ⟨S512x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S1024x1024, .f32⟩
  | .hbm, ⟨60, _⟩ => ⟨S16x2048x1024, .f32⟩
  | .hbm, ⟨61, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel4.lean ====
abbrev S32768x512 : Shape := ⟨2, ![32768, 512]⟩
abbrev S16x4096 : Shape := ⟨2, ![16, 4096]⟩
abbrev S1x2048 : Shape := ⟨2, ![1, 2048]⟩
abbrev S8x128x256 : Shape := ⟨3, ![8, 128, 256]⟩
abbrev S16x512 : Shape := ⟨2, ![16, 512]⟩
abbrev S1x8x15x31 : Shape := ⟨4, ![1, 8, 15, 31]⟩
abbrev S_ : Shape := ⟨0, ![]⟩
abbrev S64x512 : Shape := ⟨2, ![64, 512]⟩
abbrev S8x15x31 : Shape := ⟨3, ![8, 15, 31]⟩
abbrev S8x15x128 : Shape := ⟨3, ![8, 15, 128]⟩
abbrev S8x15x16 : Shape := ⟨3, ![8, 15, 16]⟩
abbrev S1 : Shape := ⟨1, ![1]⟩
abbrev S8x15x15 : Shape := ⟨3, ![8, 15, 15]⟩
abbrev S32768x256 : Shape := ⟨2, ![32768, 256]⟩
abbrev S1024x512 : Shape := ⟨2, ![1024, 512]⟩
abbrev S2048x128 : Shape := ⟨2, ![2048, 128]⟩
abbrev S64x128 : Shape := ⟨2, ![64, 128]⟩
abbrev S2x15x128 : Shape := ⟨3, ![2, 15, 128]⟩
abbrev S8x1024x256 : Shape := ⟨3, ![8, 1024, 256]⟩
abbrev S16x2048 : Shape := ⟨2, ![16, 2048]⟩
abbrev S3x2x256x768 : Shape := ⟨4, ![3, 2, 256, 768]⟩
abbrev S64x64 : Shape := ⟨2, ![64, 64]⟩
abbrev S1x1x128 : Shape := ⟨3, ![1, 1, 128]⟩
abbrev S1x128 : Shape := ⟨2, ![1, 128]⟩
abbrev S1x1x64x128 : Shape := ⟨4, ![1, 1, 64, 128]⟩
abbrev S1024x128 : Shape := ⟨2, ![1024, 128]⟩
abbrev S1x128x256 : Shape := ⟨3, ![1, 128, 256]⟩
abbrev S128x256 : Shape := ⟨2, ![128, 256]⟩
abbrev S1024x256 : Shape := ⟨2, ![1024, 256]⟩
abbrev S1x1024x256 : Shape := ⟨3, ![1, 1024, 256]⟩
abbrev S1x256 : Shape := ⟨2, ![1, 256]⟩
abbrev S16x256 : Shape := ⟨2, ![16, 256]⟩
abbrev S1x16x256 : Shape := ⟨3, ![1, 16, 256]⟩
abbrev S256x128 : Shape := ⟨2, ![256, 128]⟩
abbrev S512x128 : Shape := ⟨2, ![512, 128]⟩
abbrev S704x128 : Shape := ⟨2, ![704, 128]⟩
abbrev S768x128 : Shape := ⟨2, ![768, 128]⟩
abbrev S512x768 : Shape := ⟨2, ![512, 768]⟩
abbrev S1x2x256x768 : Shape := ⟨4, ![1, 2, 256, 768]⟩
abbrev S2x256x768 : Shape := ⟨3, ![2, 256, 768]⟩
abbrev S512 : Shape := ⟨1, ![512]⟩
abbrev S512x1 : Shape := ⟨2, ![512, 1]⟩

abbrev nBuf : Space → Nat
  | .hbm => 33
  | .vmem => 30
  | .smem => 0
  | _ => 0

abbrev bufTy : (tb : Table) → Fin (tcTables nBuf tb) → BufTy
  | .hbm, ⟨0, _⟩ => ⟨S32768x512, .f32⟩
  | .hbm, ⟨1, _⟩ => ⟨S16x4096, .f32⟩
  | .hbm, ⟨2, _⟩ => ⟨S1x2048, .f32⟩
  | .hbm, ⟨3, _⟩ => ⟨S1x2048, .f32⟩
  | .hbm, ⟨4, _⟩ => ⟨S8x128x256, .bf16⟩
  | .hbm, ⟨5, _⟩ => ⟨S8x128x256, .bf16⟩
  | .hbm, ⟨6, _⟩ => ⟨S8x128x256, .bf16⟩
  | .hbm, ⟨7, _⟩ => ⟨S8x128x256, .bf16⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S16x512, .bf16⟩
  | .hbm, ⟨12, _⟩ => ⟨S16x512, .bf16⟩
  | .hbm, ⟨13, _⟩ => ⟨S1x8x15x31, .f32⟩
  | .hbm, ⟨14, _⟩ => ⟨S_, .i32⟩
  | .hbm, ⟨15, _⟩ => ⟨S_, .bf16⟩
  | .hbm, ⟨16, _⟩ => ⟨S64x512, .bf16⟩
  | .hbm, ⟨17, _⟩ => ⟨S_, .i32⟩
  | .hbm, ⟨18, _⟩ => ⟨S_, .bf16⟩
  | .hbm, ⟨19, _⟩ => ⟨S64x512, .bf16⟩
  | .hbm, ⟨20, _⟩ => ⟨S8x15x31, .f32⟩
  | .hbm, ⟨21, _⟩ => ⟨S_, .f32⟩
  | .hbm, ⟨22, _⟩ => ⟨S8x15x128, .f32⟩
  | .hbm, ⟨23, _⟩ => ⟨S8x15x16, .f32⟩
  | .hbm, ⟨24, _⟩ => ⟨S_, .i32⟩
  | .hbm, ⟨25, _⟩ => ⟨S1, .i32⟩
  | .hbm, ⟨26, _⟩ => ⟨S8x15x128, .f32⟩
  | .hbm, ⟨27, _⟩ => ⟨S8x15x15, .f32⟩
  | .hbm, ⟨28, _⟩ => ⟨S_, .i32⟩
  | .hbm, ⟨29, _⟩ => ⟨S1, .i32⟩
  | .hbm, ⟨30, _⟩ => ⟨S8x15x128, .f32⟩
  | .hbm, ⟨31, _⟩ => ⟨S32768x512, .f32⟩
  | .hbm, ⟨32, _⟩ => ⟨S32768x256, .bf16⟩
  | .local _ .vmem, ⟨0, _⟩ => ⟨S1024x512, .f32⟩
  | .local _ .vmem, ⟨1, _⟩ => ⟨S1024x512, .f32⟩
  | .local _ .vmem, ⟨2, _⟩ => ⟨S16x4096, .f32⟩
  | .local _ .vmem, ⟨3, _⟩ => ⟨S1x2048, .f32⟩
  | .local _ .vmem, ⟨4, _⟩ => ⟨S1x2048, .f32⟩
  | .local _ .vmem, ⟨5, _⟩ => ⟨S8x128x256, .bf16⟩
  | .local _ .vmem, ⟨6, _⟩ => ⟨S8x128x256, .bf16⟩
  | .local _ .vmem, ⟨7, _⟩ => ⟨S8x128x256, .bf16⟩
  | .local _ .vmem, ⟨8, _⟩ => ⟨S8x128x256, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S64x128, .bf16⟩
  | .local _ .vmem, ⟨16, _⟩ => ⟨S64x128, .bf16⟩
  | .local _ .vmem, ⟨17, _⟩ => ⟨S64x128, .bf16⟩
  | .local _ .vmem, ⟨18, _⟩ => ⟨S64x128, .bf16⟩
  | .local _ .vmem, ⟨19, _⟩ => ⟨S2x15x128, .f32⟩
  | .local _ .vmem, ⟨20, _⟩ => ⟨S2x15x128, .f32⟩
  | .local _ .vmem, ⟨21, _⟩ => ⟨S1024x512, .f32⟩
  | .local _ .vmem, ⟨22, _⟩ => ⟨S1024x512, .f32⟩
  | .local _ .vmem, ⟨23, _⟩ => ⟨S2048x128, .bf16⟩
  | .local _ .vmem, ⟨24, _⟩ => ⟨S2048x128, .bf16⟩
  | .local _ .vmem, ⟨25, _⟩ => ⟨S8x1024x256, .f32⟩
  | .local _ .vmem, ⟨26, _⟩ => ⟨S8x1024x256, .f32⟩
  | .local _ .vmem, ⟨27, _⟩ => ⟨S16x2048, .f32⟩
  | .local _ .vmem, ⟨28, _⟩ => ⟨S16x2048, .f32⟩
  | .local _ .vmem, ⟨29, _⟩ => ⟨S3x2x256x768, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  ![v9.toNat, v27.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  ![v9.toNat, v27.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  ![v9.toNat, v27.toNat]

def cc0_transform_11 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc0_transform_12 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![c0_i32_5.toNat, v17.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x15x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel5.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S16x512 : Shape := ⟨2, ![16, 512]⟩
abbrev S32x64x16 : Shape := ⟨3, ![32, 64, 16]⟩
abbrev S2048x16 : Shape := ⟨2, ![2048, 16]⟩
abbrev S16x2048 : Shape := ⟨2, ![16, 2048]⟩
abbrev S_ : Shape := ⟨0, ![]⟩
abbrev S16x4096 : Shape := ⟨2, ![16, 4096]⟩
abbrev S16x16x512 : Shape := ⟨3, ![16, 16, 512]⟩
abbrev S256x512 : Shape := ⟨2, ![256, 512]⟩
abbrev S32x64 : Shape := ⟨2, ![32, 64]⟩
abbrev S1x2048 : Shape := ⟨2, ![1, 2048]⟩
abbrev S32 : Shape := ⟨1, ![32]⟩
abbrev S2048 : Shape := ⟨1, ![2048]⟩
abbrev S32x16x64 : Shape := ⟨3, ![32, 16, 64]⟩
abbrev S512x64 : Shape := ⟨2, ![512, 64]⟩
abbrev S8x128x256 : Shape := ⟨3, ![8, 128, 256]⟩
abbrev S8x256x256 : Shape := ⟨3, ![8, 256, 256]⟩
abbrev S128x256 : Shape := ⟨2, ![128, 256]⟩
abbrev S16x256 : Shape := ⟨2, ![16, 256]⟩
abbrev S1x128x256 : Shape := ⟨3, ![1, 128, 256]⟩
abbrev S128x64 : Shape := ⟨2, ![128, 64]⟩
abbrev S256x128 : Shape := ⟨2, ![256, 128]⟩
abbrev S256x256 : Shape := ⟨2, ![256, 256]⟩
abbrev S1x256x256 : Shape := ⟨3, ![1, 256, 256]⟩
abbrev S1x256 : Shape := ⟨2, ![1, 256]⟩
abbrev S1x16x256 : Shape := ⟨3, ![1, 16, 256]⟩

abbrev nBuf : Space → Nat
  | .hbm => 53
  | .vmem => 28
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64, .f32⟩
  | .hbm, ⟨4, _⟩ => ⟨S1x32x64, .f32⟩
  | .hbm, ⟨5, _⟩ => ⟨S1x32, .f32⟩
  | .hbm, ⟨6, _⟩ => ⟨S1x32x64x16, .f32⟩
  | .hbm, ⟨7, _⟩ => ⟨S1x32x64x16, .f32⟩
  | .hbm, ⟨8, _⟩ => ⟨S1x32x16x64, .f32⟩
  | .hbm, ⟨9, _⟩ => ⟨S1x32x16x64, .f32⟩
  | .hbm, ⟨10, _⟩ => ⟨S16x512, .f32⟩
  | .hbm, ⟨11, _⟩ => ⟨S32x64x16, .f32⟩
  | .hbm, ⟨12, _⟩ => ⟨S2048x16, .f32⟩
  | .hbm, ⟨13, _⟩ => ⟨S16x2048, .f32⟩
  | .hbm, ⟨14, _⟩ => ⟨S32x64x16, .f32⟩
  | .hbm, ⟨15, _⟩ => ⟨S2048x16, .f32⟩
  | .hbm, ⟨16, _⟩ => ⟨S16x2048, .f32⟩
  | .hbm, ⟨17, _⟩ => ⟨S_, .f32⟩
  | .hbm, ⟨18, _⟩ => ⟨S16x4096, .f32⟩
  | .hbm, ⟨19, _⟩ => ⟨S16x16x512, .f32⟩
  | .hbm, ⟨20, _⟩ => ⟨S256x512, .f32⟩
  | .hbm, ⟨21, _⟩ => ⟨S32x64, .f32⟩
  | .hbm, ⟨22, _⟩ => ⟨S1x2048, .f32⟩
  | .hbm, ⟨23, _⟩ => ⟨S32x64, .f32⟩
  | .hbm, ⟨24, _⟩ => ⟨S1x2048, .f32⟩
  | .hbm, ⟨25, _⟩ => ⟨S32, .f32⟩
  | .hbm, ⟨26, _⟩ => ⟨S32x64, .f32⟩
  | .hbm, ⟨27, _⟩ => ⟨S2048, .f32⟩
  | .hbm, ⟨28, _⟩ => ⟨S1x2048, .f32⟩
  | .hbm, ⟨29, _⟩ => ⟨S32x64, .f32⟩
  | .hbm, ⟨30, _⟩ => ⟨S1x2048, .f32⟩
  | .hbm, ⟨31, _⟩ => ⟨S32x64, .f32⟩
  | .hbm, ⟨32, _⟩ => ⟨S1x2048, .f32⟩
  | .hbm, ⟨33, _⟩ => ⟨S32, .f32⟩
  | .hbm, ⟨34, _⟩ => ⟨S32x64, .f32⟩
  | .hbm, ⟨35, _⟩ => ⟨S2048, .f32⟩
  | .hbm, ⟨36, _⟩ => ⟨S1x2048, .f32⟩
  | .hbm, ⟨37, _⟩ => ⟨S32x16x64, .f32⟩
  | .hbm, ⟨38, _⟩ => ⟨S512x64, .f32⟩
  | .hbm, ⟨39, _⟩ => ⟨S32x16x64, .f32⟩
  | .hbm, ⟨40, _⟩ => ⟨S512x64, .f32⟩
  | .hbm, ⟨41, _⟩ => ⟨S1x2048, .f32⟩
  | .hbm, ⟨42, _⟩ => ⟨S1x2048, .f32⟩
  | .hbm, ⟨43, _⟩ => ⟨S8x128x256, .bf16⟩
  | .hbm, ⟨44, _⟩ => ⟨S8x128x256, .bf16⟩
  | .hbm, ⟨45, _⟩ => ⟨S1x2048, .f32⟩
  | .hbm, ⟨46, _⟩ => ⟨S1x2048, .f32⟩
  | .hbm, ⟨47, _⟩ => ⟨S8x128x256, .bf16⟩
  | .hbm, ⟨48, _⟩ => ⟨S8x128x256, .bf16⟩
  | .hbm, ⟨49, _⟩ => ⟨S8x128x256, .bf16⟩
  | .hbm, ⟨50, _⟩ => ⟨S8x128x256, .bf16⟩
  | .hbm, ⟨51, _⟩ => ⟨S256x512, .f32⟩
  | .hbm, ⟨52, _⟩ => ⟨S16x4096, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S16x2048, .f32⟩
  | .local _ .vmem, ⟨7, _⟩ => ⟨S16x2048, .f32⟩
  | .local _ .vmem, ⟨8, _⟩ => ⟨S512x64, .f32⟩
  | .local _ .vmem, ⟨9, _⟩ => ⟨S512x64, .f32⟩
  | .local _ .vmem, ⟨10, _⟩ => ⟨S256x512, .f32⟩
  | .local _ .vmem, ⟨11, _⟩ => ⟨S16x4096, .f32⟩
  | .local _ .vmem, ⟨12, _⟩ => ⟨S1x2048, .f32⟩
  | .local _ .vmem, ⟨13, _⟩ => ⟨S1x2048, .f32⟩
  | .local _ .vmem, ⟨14, _⟩ => ⟨S8x128x256, .bf16⟩
  | .local _ .vmem, ⟨15, _⟩ => ⟨S8x128x256, .bf16⟩
  | .local _ .vmem, ⟨16, _⟩ => ⟨S1x2048, .f32⟩
  | .local _ .vmem, ⟨17, _⟩ => ⟨S1x2048, .f32⟩
  | .local _ .vmem, ⟨18, _⟩ => ⟨S8x128x256, .bf16⟩
  | .local _ .vmem, ⟨19, _⟩ => ⟨S8x128x256, .bf16⟩
  | .local _ .vmem, ⟨20, _⟩ => ⟨S8x128x256, .bf16⟩
  | .local _ .vmem, ⟨21, _⟩ => ⟨S8x128x256, .bf16⟩
  | .local _ .vmem, ⟨22, _⟩ => ⟨S256x512, .f32⟩
  | .local _ .vmem, ⟨23, _⟩ => ⟨S16x4096, .f32⟩
  | .local _ .vmem, ⟨24, _⟩ => ⟨S8x256x256, .f32⟩
  | .local _ .vmem, ⟨25, _⟩ => ⟨S8x256x256, .f32⟩
  | .local _ .vmem, ⟨26, _⟩ => ⟨S16x2048, .f32⟩
  | .local _ .vmem, ⟨27, _⟩ => ⟨S16x2048, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev main_v29_6 : Ref sig .tc := ⟨.hbm, 47, rfl⟩
abbrev main_v29_7 : Ref sig .tc := ⟨.hbm, 48, rfl⟩
abbrev main_v29_8 : Ref sig .tc := ⟨.hbm, 49, rfl⟩
abbrev main_v29_9 : Ref sig .tc := ⟨.hbm, 50, rfl⟩
abbrev main_v29_10 : Ref sig .tc := ⟨.hbm, 51, rfl⟩
abbrev main_v29_11 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S16x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference5Ideal.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S16x512 : Shape := ⟨2, ![16, 512]⟩
abbrev S8x128x256 : Shape := ⟨3, ![8, 128, 256]⟩
abbrev S_ : Shape := ⟨0, ![]⟩
abbrev S32x64 : Shape := ⟨2, ![32, 64]⟩
abbrev S32 : Shape := ⟨1, ![32]⟩
abbrev S32x1 : Shape := ⟨2, ![32, 1]⟩
abbrev S32x64x1 : Shape := ⟨3, ![32, 64, 1]⟩
abbrev S32x64x16 : Shape := ⟨3, ![32, 64, 16]⟩
abbrev S1x2048 : Shape := ⟨2, ![1, 2048]⟩
abbrev S8x1x256x16 : Shape := ⟨4, ![8, 1, 256, 16]⟩
abbrev S8x8x256x16 : Shape := ⟨4, ![8, 8, 256, 16]⟩
abbrev S8x8x16x256 : Shape := ⟨4, ![8, 8, 16, 256]⟩
abbrev S32x16x64 : Shape := ⟨3, ![32, 16, 64]⟩
abbrev S4x1x128x1x64 : Shape := ⟨5, ![4, 1, 128, 1, 64]⟩
abbrev S4x2x128x4x64 : Shape := ⟨5, ![4, 2, 128, 4, 64]⟩

abbrev nBuf : Space → Nat
  | .hbm => 193
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S16x512, .f32⟩
  | 11 => ⟨S8x128x256, .i32⟩
  | 12 => ⟨S8x128x256, .i32⟩
  | 13 => ⟨S_, .i32⟩
  | 14 => ⟨S8x128x256, .i32⟩
  | 15 => ⟨S8x128x256, .i32⟩
  | 16 => ⟨S_, .i32⟩
  | 17 => ⟨S8x128x256, .i32⟩
  | 18 => ⟨S8x128x256, .i32⟩
  | 19 => ⟨S8x128x256, .i32⟩
  | 20 => ⟨S8x128x256, .i32⟩
  | 21 => ⟨S_, .i32⟩
  | 22 => ⟨S8x128x256, .i32⟩
  | 23 => ⟨S8x128x256, .i32⟩
  | 24 => ⟨S8x128x256, .i32⟩
  | 25 => ⟨S_, .i32⟩
  | 26 => ⟨S8x128x256, .i32⟩
  | 27 => ⟨S8x128x256, .i32⟩
  | 28 => ⟨S_, .i32⟩
  | 29 => ⟨S8x128x256, .i32⟩
  | 30 => ⟨S8x128x256, .i32⟩
  | 31 => ⟨S8x128x256, .i1⟩
  | 32 => ⟨S32x64, .f32⟩
  | 33 => ⟨S32x64, .f32⟩
  | 34 => ⟨S32, .f32⟩
  | 35 => ⟨S32x64, .f32⟩
  | 36 => ⟨S32x64, .f32⟩
  | 37 => ⟨S32, .f32⟩
  | 38 => ⟨S32, .f32⟩
  | 39 => ⟨S32x1, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S_, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S32x64, .f32⟩
  | 68 => ⟨S32x64x1, .f32⟩
  | 69 => ⟨S32x64x16, .f32⟩
  | 70 => ⟨S32x64x16, .f32⟩
  | 71 => ⟨S32x64x16, .f32⟩
  | 72 => ⟨S32x64x1, .f32⟩
  | 73 => ⟨S32x64x16, .f32⟩
  | 74 => ⟨S32x64x16, .f32⟩
  | 75 => ⟨S32x64x16, .f32⟩
  | 76 => ⟨S32x64x16, .f32⟩
  | 77 => ⟨S32x64x1, .f32⟩
  | 78 => ⟨S32x64x16, .f32⟩
  | 79 => ⟨S32x64x16, .f32⟩
  | 80 => ⟨S32x64x16, .f32⟩
  | 81 => ⟨S32x64x1, .f32⟩
  | 82 => ⟨S32x64x16, .f32⟩
  | 83 => ⟨S32x64x16, .f32⟩
  | 84 => ⟨S32x64x16, .f32⟩
  | 85 => ⟨S32x64x16, .f32⟩
  | 86 => ⟨S1x2048, .f32⟩
  | 87 => ⟨S1x2048, .f32⟩
  | 88 => ⟨S8x1x256x16, .f32⟩
  | 89 => ⟨S8x8x256x16, .f32⟩
  | 90 => ⟨S8x8x16x256, .f32⟩
  | 91 => ⟨S8x128x256, .f32⟩
  | 92 => ⟨S_, .f32⟩
  | 93 => ⟨S_, .f32⟩
  | 94 => ⟨S8x128x256, .f32⟩
  | 95 => ⟨S8x128x256, .f32⟩
  | 96 => ⟨S8x128x256, .bf16⟩
  | 97 => ⟨S8x1x256x16, .f32⟩
  | 98 => ⟨S8x8x256x16, .f32⟩
  | 99 => ⟨S8x8x16x256, .f32⟩
  | 100 => ⟨S8x128x256, .f32⟩
  | 101 => ⟨S_, .f32⟩
  | 102 => ⟨S_, .f32⟩
  | 103 => ⟨S8x128x256, .f32⟩
  | 104 => ⟨S8x128x256, .f32⟩
  | 105 => ⟨S8x128x256, .bf16⟩
  | 106 => ⟨S32, .f32⟩
  | 107 => ⟨S32x1, .f32⟩
  | 108 => ⟨S_, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S_, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64x1, .f32⟩
  | 9 => ⟨S32x64x16, .f32⟩
  | 10 => ⟨S32x64x16, .f32⟩
  | 11 => ⟨S32x64x16, .f32⟩
  | 12 => ⟨S32x64x1, .f32⟩
  | 13 => ⟨S32x64x16, .f32⟩
  | 14 => ⟨S32x64x16, .f32⟩
  | 15 => ⟨S32x64x16, .f32⟩
  | 16 => ⟨S32x64x16, .f32⟩
  | 17 => ⟨S32x64x1, .f32⟩
  | 18 => ⟨S32x64x16, .f32⟩
  | 19 => ⟨S32x64x16, .f32⟩
  | 20 => ⟨S32x64x16, .f32⟩
  | 21 => ⟨S32x64x1, .f32⟩
  | 22 => ⟨S32x64x16, .f32⟩
  | 23 => ⟨S32x64x16, .f32⟩
  | 24 => ⟨S32x64x16, .f32⟩
  | 25 => ⟨S32x64x16, .f32⟩
  | 26 => ⟨S1x2048, .f32⟩
  | 27 => ⟨S1x2048, .f32⟩
  | 28 => ⟨S8x1x256x16, .f32⟩
  | 29 => ⟨S8x8x256x16, .f32⟩
  | 30 => ⟨S8x8x16x256, .f32⟩
  | 31 => ⟨S8x128x256, .f32⟩
  | 32 => ⟨S_, .f32⟩
  | 33 => ⟨S_, .f32⟩
  | 34 => ⟨S8x128x256, .f32⟩
  | 35 => ⟨S8x128x256, .f32⟩
  | 36 => ⟨S8x128x256, .bf16⟩
  | 37 => ⟨S8x1x256x16, .f32⟩
  | 38 => ⟨S8x8x256x16, .f32⟩
  | 39 => ⟨S8x8x16x256, .f32⟩
  | 40 => ⟨S8x128x256, .f32⟩
  | 41 => ⟨S_, .f32⟩
  | 42 => ⟨S_, .f32⟩
  | 43 => ⟨S8x128x256, .f32⟩
  | 44 => ⟨S8x128x256, .f32⟩
  | 45 => ⟨S8x128x256, .bf16⟩
  | 46 => ⟨S32x16x64, .f32⟩
  | 47 => ⟨S4x1x128x1x64, .f32⟩
  | 48 => ⟨S4x2x128x4x64, .f32⟩
  | 49 => ⟨S8x128x256, .f32⟩
  | 50 => ⟨S_, .f32⟩
  | 51 => ⟨S_, .f32⟩
  | 52 => ⟨S8x128x256, .f32⟩
  | 53 => ⟨S8x128x256, .f32⟩
  | 54 => ⟨S8x128x256, .bf16⟩
  | 55 => ⟨S32x16x64, .f32⟩
  | 56 => ⟨S32x16x64, .f32⟩
  | 57 => ⟨S4x1x128x1x64, .f32⟩
  | 58 => ⟨S4x2x128x4x64, .f32⟩
  | 59 => ⟨S8x128x256, .f32⟩
  | 60 => ⟨S_, .f32⟩
  | 61 => ⟨S_, .f32⟩
  | 62 => ⟨S8x128x256, .f32⟩
  | 63 => ⟨S8x128x256, .f32⟩
  | 64 => ⟨S8x128x256, .bf16⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_5 : Ref sig .tc := ⟨.hbm, 92, rfl⟩
abbrev main_call0_v0 : Ref sig .tc := ⟨.hbm, 93, rfl⟩
abbrev main_call0_v1 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_6 : Ref sig .tc := ⟨.hbm, 101, rfl⟩
abbrev main_call1_v0 : Ref sig .tc := ⟨.hbm, 102, rfl⟩
abbrev main_call1_v1 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_7 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_8 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_9 : Ref sig .tc := ⟨.hbm, 160, rfl⟩
abbrev main_call2_v0 : Ref sig .tc := ⟨.hbm, 161, rfl⟩
abbrev main_call2_v1 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_10 : Ref sig .tc := ⟨.hbm, 169, rfl⟩
abbrev main_call3_v0 : Ref sig .tc := ⟨.hbm, 170, rfl⟩
abbrev main_call3_v1 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_11 : Ref sig .tc := ⟨.hbm, 178, rfl⟩
abbrev main_call4_v0 : Ref sig .tc := ⟨.hbm, 179, rfl⟩
abbrev main_call4_v1 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_12 : Ref sig .tc := ⟨.hbm, 188, rfl⟩
abbrev main_call5_v0 : Ref sig .tc := ⟨.hbm, 189, rfl⟩
abbrev main_call5_v1 : Ref sig .tc := ⟨.hbm, 190, rfl⟩
abbrev main_v153 : Ref sig .tc := ⟨.hbm, 191, rfl⟩
abbrev main_v154 : Ref sig .tc := ⟨.hbm, 192, rfl⟩

abbrev nD : Nat := 1
abbrev τ : Topo := Topo.v7x

variable {F : FTy → Type} [FloatOps F]
-- ==== Proof.Algebra.lean ====
module

public import Idealize.ShloMosaic.Lib.Pointwise

/-!
Extended-real algebra of a root-mean-square norm followed by a gated product.

The kernel multiplies a row by the norm's gain, takes the matrix product and only then scales the
result by the reciprocal root mean square of the row; the textbook formula scales first. The scale is
a nonnegative number below infinity, whatever the row holds, so it may be moved through any finite sum.
-/

@[expose] public section

noncomputable section

namespace RowMath

open Idealize.ShloMosaic

/-- The number 1024 as the 32-bit float literal of the programs. -/
theorem ofBits_1024 : Ideal.ofBits .f32 0x44800000#32 = ((1024 : ℝ) : EReal) := by
  simp [Ideal.ofBits, Ideal.ieee, -EReal.coe_mul]
  norm_num

/-- The norm's epsilon is a positive real number. -/
theorem ofBits_eps : ∃ e : ℝ, 0 < e ∧ Ideal.ofBits .f32 0x358637BD#32 = (e : EReal) := by
  refine ⟨(2 ^ 23 + 407485 : ℕ) * (2 : ℝ) ^ (-43 : ℤ), by positivity, ?_⟩
  simp [Ideal.ofBits, Ideal.ieee, -EReal.coe_mul]

/-- A square is never negative. -/
theorem sq_nonneg (x : EReal) : 0 ≤ x * x := by
  rcases le_total 0 x with h | h
  · exact EReal.mul_nonneg h h
  · have h' : 0 ≤ -x := by simpa using h
    have := EReal.mul_nonneg h' h'
    simpa using this

/-- Reciprocal root mean square of a row of 1024 entries, with the norm's epsilon. -/
def scale (x : Fin 1024 → EReal) : EReal :=
  Ideal.rsqrt (Ideal.div (∑ k, x k * x k) (Ideal.ofBits .f32 0x44800000#32) + Ideal.ofBits .f32 0x358637BD#32)

/-- The reciprocal square root of a positive extended real is nonnegative and below infinity. -/
theorem rsqrt_pos {y : EReal} (h : 0 < y) : 0 ≤ Ideal.rsqrt y ∧ Ideal.rsqrt y ≠ ⊤ := by
  induction y with
  | bot => simp at h
  | top => exact ⟨le_refl (0 : EReal), EReal.zero_ne_top⟩
  | coe r =>
    have hr : 0 < r := by exact_mod_cast h
    have e : Ideal.rsqrt (r : EReal) = ((Real.sqrt r)⁻¹ : ℝ) := by
      show (if r < 0 then (⊥ : EReal) else if r = 0 then ⊤ else ((Real.sqrt r)⁻¹ : ℝ)) = _
      rw [if_neg (not_lt.mpr hr.le), if_neg hr.ne']
    rw [e]
    exact ⟨by exact_mod_cast inv_nonneg.mpr (Real.sqrt_nonneg r), EReal.coe_ne_top _⟩

/-- The argument of the reciprocal square root is positive. -/
theorem meansq_pos (s : EReal) (hs : 0 ≤ s) :
    0 < Ideal.div s (Ideal.ofBits .f32 0x44800000#32) + Ideal.ofBits .f32 0x358637BD#32 := by
  obtain ⟨e, he, hb⟩ := ofBits_eps
  rw [hb, ofBits_1024]
  have h1 : 0 ≤ Ideal.div s ((1024 : ℝ) : EReal) := by
    unfold Ideal.div
    rw [if_neg (by norm_num)]
    refine EReal.mul_nonneg hs ?_
    rw [← EReal.coe_inv]
    exact_mod_cast (by norm_num : (0 : ℝ) ≤ (1024 : ℝ)⁻¹)
  have h2 : (0 : EReal) < (e : EReal) := by exact_mod_cast he
  calc (0 : EReal) < (e : EReal) := h2
    _ = 0 + (e : EReal) := (zero_add _).symm
    _ ≤ _ := by gcongr

/-- The scale of a row is nonnegative and below infinity, whatever the row holds. -/
theorem scale_range (x : Fin 1024 → EReal) : 0 ≤ scale x ∧ scale x ≠ ⊤ :=
  rsqrt_pos (meansq_pos _ (Finset.sum_nonneg fun k _ => sq_nonneg (x k)))

/-- A nonnegative factor below infinity moves out of a finite sum. -/
theorem sum_mul_of_range {ι : Type} (s : Finset ι) (f : ι → EReal) {r : EReal} (h0 : 0 ≤ r) (ht : r ≠ ⊤) :
    ∑ k ∈ s, f k * r = (∑ k ∈ s, f k) * r := by
  classical
  induction s using Finset.induction_on with
  | empty => simp
  | insert a s ha ih =>
    rw [Finset.sum_insert ha, Finset.sum_insert ha, ih, EReal.right_distrib_of_nonneg_of_ne_top h0 ht]

/-- The root-mean-square norm of a row with gain `g`. -/
def rms (x g : Fin 1024 → EReal) (k : Fin 1024) : EReal := x k * scale x * g k

/-- A matrix product of the normalized row is the product of the row times its gain, scaled afterwards. -/
theorem rms_dot (x g w : Fin 1024 → EReal) :
    (∑ k, x k * g k * w k) * scale x = ∑ k, rms x g k * w k := by
  rw [← sum_mul_of_range _ _ (scale_range x).1 (scale_range x).2]
  refine Finset.sum_congr rfl fun k _ => ?_
  unfold rms
  ac_rfl

/-- Multiplication by the logistic function of itself. -/
def silu (a : EReal) : EReal := a * Ideal.logistic a

/-- The textbook spelling of the logistic function is the one operation. -/
theorem logistic_spelt (a : EReal) :
    Ideal.div (Ideal.ofBits .f32 0x3F800000#32) (Ideal.ofBits .f32 0x3F800000#32 + Ideal.exp (-a)) = Ideal.logistic a := by
  rw [Ideal.ofBits_one_f32]
  rfl

/-- A sum over 2816 entries is the sum over the first 1536 plus the sum over the remaining 1280. -/
theorem sum_2816 (f : Fin 2816 → EReal) :
    (∑ k : Fin 1536, f ⟨k.val, by omega⟩) + ∑ k : Fin 1280, f ⟨1536 + k.val, by omega⟩ = ∑ k, f k :=
  (Fin.sum_univ_add (a := 1536) (b := 1280) f).symm

/-- Gate column `j` of the first feed-forward matrix. -/
abbrev gateCol (j : Fin 2816) : Fin 5632 := ⟨j.val, by omega⟩
/-- Value column `j` of the first feed-forward matrix. -/
abbrev valCol (j : Fin 2816) : Fin 5632 := ⟨2816 + j.val, by omega⟩

/-- Hidden entry `j` of the gated feed-forward network of a normalized row. -/
def hidden (x g : Fin 1024 → EReal) (win : Fin 1024 → Fin 5632 → EReal) (j : Fin 2816) : EReal :=
  silu (∑ k, rms x g k * win k (gateCol j)) * ∑ k, rms x g k * win k (valCol j)

/-- The row plus half its gated feed-forward network: entry `c`. -/
def ffn (x g : Fin 1024 → EReal) (win : Fin 1024 → Fin 5632 → EReal) (wout : Fin 2816 → Fin 1024 → EReal)
    (c : Fin 1024) : EReal :=
  x c + Ideal.ofBits .f32 0x3F000000#32 * ∑ j, hidden x g win j * wout j c

/-- The merge of the two branches of one token: the residual row plus the output projection of the branches'
    projections, each times the logistic function of its gate. The attention branch's input comes in two halves. -/
def merged (x g : Fin 1024 → EReal) (z : Fin 512 → EReal) (lo hi : Fin 256 → EReal) (wg : Fin 1024 → Fin 2048 → EReal)
    (ws wn : Fin 512 → Fin 1024 → EReal) (wo : Fin 1024 → Fin 1024 → EReal) (c : Fin 1024) : EReal :=
  x c + ∑ j : Fin 1024,
    (Ideal.logistic (∑ k, rms x g k * wg k ⟨j.val, by omega⟩) * (∑ k, z k * ws k j)
      + Ideal.logistic (∑ k, rms x g k * wg k ⟨1024 + j.val, by omega⟩) *
        ((∑ k : Fin 256, lo k * wn ⟨k.val, by omega⟩ j) + ∑ k : Fin 256, hi k * wn ⟨256 + k.val, by omega⟩ j)) * wo j c

/-- A sum over 512 entries is the sum over the first 256 plus the sum over the remaining 256. -/
theorem sum_512 (f : Fin 512 → EReal) :
    (∑ k : Fin 256, f ⟨k.val, by omega⟩) + ∑ k : Fin 256, f ⟨256 + k.val, by omega⟩ = ∑ k, f k :=
  (Fin.sum_univ_add (a := 256) (b := 256) f).symm

/-- Row `r` of a two-axis array. -/
abbrev row {n m : Nat} (x : (⟨2, ![n, m]⟩ : Shape).Idx → EReal) (r : Fin n) : Fin m → EReal := fun k => x (ix2 r k)
/-- A two-axis array as a function of its two coordinates. -/
abbrev mat {n m : Nat} (x : (⟨2, ![n, m]⟩ : Shape).Idx → EReal) : Fin n → Fin m → EReal := fun r k => x (ix2 r k)

/-- A load of part of a two-axis block reads the block at the shifted index. -/
theorem ld_apply {φ : EltTy} {n m p q : Nat} (x : (⟨2, ![n, m]⟩ : Shape).Idx → Elt Ideal φ) (o₀ o₁ : Nat)
    (inb : ∀ a, (![o₀, o₁] : Fin 2 → Nat) a + (![p, q] : Fin 2 → Nat) a ≤ (![n, m] : Fin 2 → Nat) a)
    (r : Fin p) (c : Fin q) (r' : Fin n) (c' : Fin m) (hr : o₀ + r.val = r'.val) (hc : o₁ + c.val = c'.val) :
    View.ld x (Rect.unit (s := ⟨2, ![n, m]⟩) ![o₀, o₁] ![p, q] inb) (ix2 r c) = x (ix2 r' c') := by
  refine congrArg x (funext fun a => Fin.ext ?_)
  match a with
  | ⟨0, _⟩ => show o₀ + 1 * r.val = r'.val; omega
  | ⟨1, _⟩ => show o₁ + 1 * c.val = c'.val; omega

end RowMath

end
-- ==== Proof.FfnKernelRow.lean ====
module

public import proofs.«01_k».proof.Proof.Algebra
public import proofs.«01_k».proof.Proof.Gen.KernelIdeal.Value

/-!
The block program of the second feed-forward call, read at an index: what it stores for a row is the
final norm of the row plus half its gated feed-forward network.
-/

@[expose] public section

set_option maxRecDepth 16384

noncomputable section

namespace Cert.KernelIdeal.Row

open Cert.KernelIdeal Cert.KernelIdeal.Gen Idealize.ShloMosaic Idealize.SL.Sem RowMath

variable (x : Vec Ideal S1024x1024 .f32) (g : Vec Ideal S1x1024 .f32)

/-- The scale column holds the scale of each row. -/
theorem pay2_apply (r : Fin 1024) (z : Fin 1) : k0_pay2 (F := Ideal) x (ix2 r z) = scale (row x r) := by
  pointwise [k0_pay2]
  rfl

/-- The multiplicand is the row times the gain. -/
theorem pay3_apply (r k : Fin 1024) : k0_pay3 (F := Ideal) x g (ix2 r k) = x (ix2 r k) * g (ix2 0 k) := by
  pointwise [k0_pay3]

/-- A gate entry of the second chunk. -/
theorem pay5_apply (w : Vec Ideal S1024x1280 .bf16) (r : Fin 1024) (j : Fin 1280) :
    k0_pay5 (F := Ideal) x g w (ix2 r j) = ∑ k, rms (row x r) (row g 0) k * w (ix2 k j) := by
  pointwise [k0_pay5]
  simp only [pay2_apply, pay3_apply]
  exact rms_dot _ _ _

/-- A value entry of the second chunk. -/
theorem pay6_apply (w : Vec Ideal S1024x1280 .bf16) (r : Fin 1024) (j : Fin 1280) :
    k0_pay6 (F := Ideal) x g w (ix2 r j) = ∑ k, rms (row x r) (row g 0) k * w (ix2 k j) := by
  pointwise [k0_pay6]
  simp only [pay2_apply, pay3_apply]
  exact rms_dot _ _ _

/-- The logistic function of a gate entry of the second chunk. -/
theorem pay7_apply (w : Vec Ideal S1024x1280 .bf16) (r : Fin 1024) (j : Fin 1280) :
    k0_pay7 (F := Ideal) x g w (ix2 r j) = Ideal.logistic (∑ k, rms (row x r) (row g 0) k * w (ix2 k j)) := by
  pointwise [k0_pay7]
  rw [pay5_apply]

/-- The first chunk's share of the second product. -/
theorem pay4_apply (wg wv : Vec Ideal S1024x1536 .bf16) (wo : Vec Ideal S1536x1024 .bf16) (r c : Fin 1024) :
    k0_pay4 (F := Ideal) x g wg wv wo (ix2 r c) =
      ∑ j : Fin 1536, silu (∑ k, rms (row x r) (row g 0) k * wg (ix2 k j)) * (∑ k, rms (row x r) (row g 0) k * wv (ix2 k j))
        * wo (ix2 j c) := by
  pointwise [k0_pay4]
  simp only [pay2_apply, pay3_apply, rms_dot (row x r) (row g 0), silu]

/-- The stored block: the final norm of the row plus half the two chunks' products. -/
theorem pay1_apply (acc : FVec Ideal S1024x1024 .f32) (a b l : FVec Ideal S1024x1280 .f32) (wo : Vec Ideal S1280x1024 .bf16)
    (gf : Vec Ideal S1x1024 .f32) (r c : Fin 1024) :
    k0_pay1 (F := Ideal) x acc a b l wo gf (ix2 r c) =
      rms (fun c => x (ix2 r c) + Ideal.ofBits .f32 0x3F000000#32 *
        (acc (ix2 r c) + ∑ j : Fin 1280, a (ix2 r j) * l (ix2 r j) * b (ix2 r j) * wo (ix2 j c))) (row gf 0) c := by
  pointwise [k0_pay1]
  rfl

/-- What the block program stores, read at row `r` and column `c`. -/
theorem out_apply (wi : Vec Ideal S1024x5632 .bf16) (wo : Vec Ideal S2816x1024 .bf16) (gf : Vec Ideal S1x1024 .f32)
    (r c : Fin 1024) :
    out0_5 (F := Ideal) x g wi wo gf (ix2 r c) = rms (ffn (row x r) (row g 0) (mat wi) (mat wo)) (row gf 0) c := by
  have hz : (![0, 0] : Fin 2 → Nat) = fun _ => 0 := funext fun a => by fin_cases a <;> rfl
  unfold out0_5
  rw [View.canon_unit_zero hz, View.ld_unit_zero hz, View.ld_unit_zero hz, View.ld_unit_zero hz]
  have e : ∀ c : Fin 1024, x (ix2 r c) + Ideal.ofBits .f32 0x3F000000#32 *
      (k0_pay4 (F := Ideal) x g (View.ld wi r0_2) (View.ld wi r0_3) (View.ld wo r0_4) (ix2 r c)
        + ∑ j : Fin 1280, k0_pay5 (F := Ideal) x g (View.ld wi r0_5) (ix2 r j) * k0_pay7 (F := Ideal) x g (View.ld wi r0_5) (ix2 r j)
          * k0_pay6 (F := Ideal) x g (View.ld wi r0_6) (ix2 r j) * View.ld wo r0_7 (ix2 j c))
      = ffn (row x r) (row g 0) (mat wi) (mat wo) c := fun c => by
    rw [ffn, ← sum_2816, pay4_apply]
    simp only [pay5_apply, pay6_apply, pay7_apply]
    refine congrArg (fun z => _ + _ * z) (congrArg₂ (· + ·) (Finset.sum_congr rfl fun j _ => ?_) (Finset.sum_congr rfl fun j _ => ?_))
    · have e1 : ∀ k : Fin 1024, View.ld wi r0_2 (ix2 k j) = wi (ix2 k (gateCol ⟨j.val, by omega⟩)) := fun k =>
        ld_apply wi 0 0 _ k j _ _ (Nat.zero_add _) (Nat.zero_add _)
      have e2 : ∀ k : Fin 1024, View.ld wi r0_3 (ix2 k j) = wi (ix2 k (valCol ⟨j.val, by omega⟩)) := fun k =>
        ld_apply wi 0 2816 _ k j _ _ (Nat.zero_add _) rfl
      have e3 : View.ld wo r0_4 (ix2 j c) = wo (ix2 ⟨j.val, by omega⟩ c) :=
        ld_apply wo 0 0 _ j c _ _ (Nat.zero_add _) (Nat.zero_add _)
      simp only [e1, e2, e3]
      rfl
    · have e1 : ∀ k : Fin 1024, View.ld wi r0_5 (ix2 k j) = wi (ix2 k (gateCol ⟨1536 + j.val, by omega⟩)) := fun k =>
        ld_apply wi 0 1536 _ k j _ _ (Nat.zero_add _) rfl
      have e2 : ∀ k : Fin 1024, View.ld wi r0_6 (ix2 k j) = wi (ix2 k (valCol ⟨1536 + j.val, by omega⟩)) := fun k =>
        ld_apply wi 0 4352 _ k j _ _ (Nat.zero_add _) (show 4352 + j.val = 2816 + (1536 + j.val) by omega)
      have e3 : View.ld wo r0_7 (ix2 j c) = wo (ix2 ⟨1536 + j.val, by omega⟩ c) :=
        ld_apply wo 1536 0 _ j c _ _ rfl (Nat.zero_add _)
      simp only [e1, e2, e3]
      rfl
  rw [pay1_apply]
  simp only [e]

end Cert.KernelIdeal.Row

end
-- ==== Proof.FfnKernelArray.lean ====
module

public import proofs.«01_k».proof.Proof.FfnKernelRow

/-!
The array the second feed-forward call leaves: entry `(r, c)` is the row function of row `r` of its
argument at column `c`.
-/

@[expose] public section

set_option maxRecDepth 16384

noncomputable section

namespace Cert.KernelIdeal.Row

open Cert.KernelIdeal Cert.KernelIdeal.Gen Idealize.ShloMosaic Idealize.ShloMosaic.TcCoe Idealize.SL.Sem RowMath
open Idealize.ShloMosaic.Pipeline (Dat)

variable (m : (ℓ : Loc nD τ sig) → Buf (Elt Ideal) ℓ) (c : Dev nD)

/-- The gain row the region reads is the gain argument. -/
theorem gain_in : (V m c main_v1 : S1x1024.Idx → EReal) = m ((c : Thread nD τ).loc main_arg1) := by
  have e : (V m c main_v1 : S1x1024.Idx → EReal) =
      shapeCast S1x1024 (shapeCast S1024 (m ((c : Thread nD τ).loc main_arg1)) shapeCasts_S1x1024_S1024) shapeCasts_S1024_S1x1024 := by
    simp only [V, hostOps0]
    after_results_simp
    rfl
  rw [e]
  funext j
  pointwise

/-- The final gain row the region reads is the final gain argument as a row. -/
theorem gain_out (k : Fin 1024) : (V m c main_v2 : S1x1024.Idx → EReal) (ix2 0 k) = m ((c : Thread nD τ).loc main_arg4) (ix1 k) := by
  have e : (V m c main_v2 : S1x1024.Idx → EReal) =
      shapeCast S1x1024 (m ((c : Thread nD τ).loc main_arg4)) shapeCasts_S1024_S1x1024 := by
    simp only [V, hostOps0]
    after_results_simp
    rfl
  rw [e]
  pointwise

/-- Where the windows of the grid's points lie. -/
theorem idx_facts : ∀ t : Fin cfg0.N, (win0_0.index t 0 = t.val ∧ win0_0.index t 1 = 0) ∧ (win0_5.index t 0 = t.val ∧ win0_5.index t 1 = 0)
    ∧ (∀ a, win0_1.index t a = 0) ∧ (∀ a, win0_2.index t a = 0) ∧ (∀ a, win0_3.index t a = 0) ∧ (∀ a, win0_4.index t a = 0) :=
  (by decide +kernel : ∀ t : Fin grid0.N, (win0_0.index t 0 = t.val ∧ win0_0.index t 1 = 0) ∧ (win0_5.index t 0 = t.val ∧ win0_5.index t 1 = 0)
    ∧ (∀ a, win0_1.index t a = 0) ∧ (∀ a, win0_2.index t a = 0) ∧ (∀ a, win0_3.index t a = 0) ∧ (∀ a, win0_4.index t a = 0))

/-- A point's block of the residual stream is its 1024 rows. -/
theorem blk0 (t : Fin cfg0.N) (r k : Fin 1024) (i : Fin 32768) (hi : i.val = t.val * 1024 + r.val) :
    (iblk m c 0 t : S1024x1024.Idx → EReal) (ix2 r k) = m ((c : Thread nD τ).loc main_arg0) (ix2 i k) := by
  show V m c main_arg0 ((win0_0.rect t).idx (ix2 r k)) = _
  rw [V_main_arg0]
  refine congrArg _ (funext fun a => Fin.ext ?_)
  match a with
  | ⟨0, _⟩ => show win0_0.index t 0 * 1024 + 1 * r.val = i.val; rw [(idx_facts t).1.1]; omega
  | ⟨1, _⟩ => show win0_0.index t 1 * 1024 + 1 * k.val = k.val; rw [(idx_facts t).1.2]; omega

theorem blk1 (t : Fin cfg0.N) : (iblk m c 1 t : S1x1024.Idx → EReal) = m ((c : Thread nD τ).loc main_arg1) := by
  rw [← gain_in m c]
  funext j
  show V m c main_v1 ((win0_1.rect t).idx j) = _
  refine congrArg _ (funext fun a => Fin.ext ?_)
  show win0_1.index t a * _ + 1 * (j a).val = (j a).val
  rw [(idx_facts t).2.2.1 a]; omega

theorem blk2 (t : Fin cfg0.N) : (iblk m c 2 t : S1024x5632.Idx → EReal) = m ((c : Thread nD τ).loc main_arg2) := by
  funext j
  show V m c main_arg2 ((win0_2.rect t).idx j) = _
  rw [V_main_arg2]
  refine congrArg _ (funext fun a => Fin.ext ?_)
  show win0_2.index t a * _ + 1 * (j a).val = (j a).val
  rw [(idx_facts t).2.2.2.1 a]; omega

theorem blk3 (t : Fin cfg0.N) : (iblk m c 3 t : S2816x1024.Idx → EReal) = m ((c : Thread nD τ).loc main_arg3) := by
  funext j
  show V m c main_arg3 ((win0_3.rect t).idx j) = _
  rw [V_main_arg3]
  refine congrArg _ (funext fun a => Fin.ext ?_)
  show win0_3.index t a * _ + 1 * (j a).val = (j a).val
  rw [(idx_facts t).2.2.2.2.1 a]; omega

theorem blk4 (t : Fin cfg0.N) (k : Fin 1024) :
    (iblk m c 4 t : S1x1024.Idx → EReal) (ix2 0 k) = m ((c : Thread nD τ).loc main_arg4) (ix1 k) := by
  rw [← gain_out m c k]
  show V m c main_v2 ((win0_4.rect t).idx (ix2 0 k)) = _
  refine congrArg _ (funext fun a => Fin.ext ?_)
  show win0_4.index t a * _ + 1 * (ix2 (0 : Fin 1) k a).val = (ix2 (0 : Fin 1) k a).val
  rw [(idx_facts t).2.2.2.2.2 a]; omega

/-- What the result array is shown to hold. -/
def result : Buf (Elt Ideal) ((c : Thread nD τ).loc main_v3) := fun i : S32768x1024.Idx =>
  rms (ffn (row (m ((c : Thread nD τ).loc main_arg0)) (i 0)) (row (m ((c : Thread nD τ).loc main_arg1)) 0)
    (mat (m ((c : Thread nD τ).loc main_arg2))) (mat (m ((c : Thread nD τ).loc main_arg3))))
    (fun k => m ((c : Thread nD τ).loc main_arg4) (ix1 k)) (i 1)

/-- What a point writes back is its block of that array. -/
theorem flushed_eq (t : Fin cfg0.N) :
    (dats m 0 c).flushed 5 t = (win0_5.blk t).view.read (Elt Ideal) (result m c) := by
  rw [Value.flushed5]
  funext j
  obtain ⟨r, k, rfl⟩ : ∃ (r k : Fin 1024), j = ix2 r k := ⟨j 0, j 1, eq_ix2 (n0 := 1024) (n1 := 1024) j⟩
  have ht : t.val < 32 := lt_of_lt_of_eq t.isLt N_0
  have e : (win0_5.rect t).idx (ix2 r k) = ix2 (n0 := 32768) (n1 := 1024) ⟨t.val * 1024 + r.val, by omega⟩ k := by
    refine funext fun a => Fin.ext ?_
    match a with
    | ⟨0, _⟩ => show win0_5.index t 0 * 1024 + 1 * r.val = t.val * 1024 + r.val; rw [(idx_facts t).2.1.1]; omega
    | ⟨1, _⟩ => show win0_5.index t 1 * 1024 + 1 * k.val = k.val; rw [(idx_facts t).2.1.2]; omega
  show out0_5 (F := Ideal) (iblk m c 0 t) (iblk m c 1 t) (iblk m c 2 t) (iblk m c 3 t) (iblk m c 4 t) (ix2 r k)
    = result m c ((win0_5.rect t).idx (ix2 r k))
  rw [e, out_apply]
  have h0 : row (iblk m c 0 t : S1024x1024.Idx → EReal) r
      = row (m ((c : Thread nD τ).loc main_arg0)) (⟨t.val * 1024 + r.val, by omega⟩ : Fin 32768) :=
    funext fun k => blk0 m c t r k _ rfl
  have h4 : row (iblk m c 4 t : S1x1024.Idx → EReal) 0 = fun k => m ((c : Thread nD τ).loc main_arg4) (ix1 k) :=
    funext fun k => blk4 m c t k
  rw [h0, h4, blk1, blk2, blk3]
  rfl

/-- An index of the result array is in point `t`'s block when its row is one of the block's. -/
theorem mem_blk (t : Fin cfg0.N) (i : S32768x1024.Idx) :
    i ∈ ((cfg0.win 5).blk t).view.set ↔ t.val * 1024 ≤ (i 0 : Nat) ∧ (i 0 : Nat) < t.val * 1024 + 1024 := by
  show i ∈ ((View.whole main_v3).slice (win0_5.rect t)).set ↔ _
  rw [View.set_slice_whole, Rect.mem_set_unit]
  have h1 : (i 1 : Nat) < 1024 := (i 1).isLt
  have e := (idx_facts t).2.1
  refine ⟨fun h => ?_, fun h a => ?_⟩
  · have := h 0
    change win0_5.index t 0 * 1024 ≤ (i 0 : Nat) ∧ (i 0 : Nat) < win0_5.index t 0 * 1024 + 1024 at this
    rwa [e.1] at this
  · match a with
    | ⟨0, _⟩ => show win0_5.index t 0 * 1024 ≤ (i 0 : Nat) ∧ (i 0 : Nat) < win0_5.index t 0 * 1024 + 1024; rw [e.1]; exact h
    | ⟨1, _⟩ => show win0_5.index t 1 * 1024 ≤ (i 1 : Nat) ∧ (i 1 : Nat) < win0_5.index t 1 * 1024 + 1024; rw [e.2, Nat.zero_mul, Nat.zero_add]; exact ⟨Nat.zero_le _, h1⟩

/-- The blocks cover the result array. -/
theorem cover (i : S32768x1024.Idx) : ∃ t : Fin cfg0.N, (cfg0.win 5).flush t = true ∧ i ∈ ((cfg0.win 5).blk t).view.set := by
  have h0 : (i 0 : Nat) < 32768 := (i 0).isLt
  have hN : cfg0.N = 32 := N_0
  refine ⟨⟨(i 0 : Nat) / 1024, by rw [hN]; omega⟩, flush0_5 _, ?_⟩
  rw [mem_blk]
  dsimp only
  omega

/-- The result array ends holding the row function of the arguments. -/
theorem final : (dats m 0 c).arrAt 5 cfg0.N = result m c :=
  (dats m 0 c).arrAt_eq_of_cover 5 (result m c) (fun t _ => flushed_eq m c t) cover

end Cert.KernelIdeal.Row

end
-- ==== Proof.FfnReferenceRow.lean ====
module

public import proofs.«01_k».proof.Proof.Algebra
public import proofs.«01_k».proof.Proof.Gen.ReferenceIdeal.Read

/-!
The reference of the second feed-forward call, read at an index: the final norm of the row plus half its
gated feed-forward network.
-/

@[expose] public section

set_option maxRecDepth 16384

noncomputable section

namespace Cert.ReferenceIdeal.Row

open Cert.ReferenceIdeal Cert.ReferenceIdeal.Gen Cert.ReferenceIdeal.Read Idealize.ShloMosaic Idealize.SL.Sem RowMath

variable (x : S32768x1024.Idx → EReal) (g : S1x1024.Idx → EReal) (wi : S1024x5632.Idx → EReal) (wo : S2816x1024.Idx → EReal)
  (gf : S1024.Idx → EReal)

/-- The normalized row times the gain. -/
theorem normed (r : Fin 32768) (k : Fin 1024) : val_main_v13 (F := Ideal) x g (ix2 r k) = rms (row x r) (row g 0) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem gated (r : Fin 32768) (j : Fin 2816) : val_main_v20 (F := Ideal) x g wi (ix2 r j) = hidden (row x r) (row g 0) (mat wi) j := by
  pointwise [val_main_v20, val_main_v19, val_main_call0_v5, val_main_call0_v4, val_main_call0_cst_0, val_main_call0_v3, val_main_call0_v2, val_main_call0_v1, val_main_call0_v0, val_main_call0_cst, val_main_v18, val_main_v17, val_main_v16, val_main_v14]
  simp only [normed]
  rfl

theorem stream (r : Fin 32768) (c : Fin 1024) :
    val_main_v24 (F := Ideal) x g wi wo (ix2 r c) = ffn (row x r) (row g 0) (mat wi) (mat wo) c := by
  pointwise [val_main_v24, val_main_v23, val_main_v22, val_main_v21, val_main_cst_2, val_main_v15]
  simp only [gated]
  rfl

theorem final (r : Fin 32768) (c : Fin 1024) :
    val_main_v37 (F := Ideal) x g wi wo gf (ix2 r c) = rms (ffn (row x r) (row g 0) (mat wi) (mat wo)) (fun k => gf (ix1 k)) c := by
  pointwise [val_main_v37, val_main_v36, val_main_v35, val_main_v34, val_main_v33, val_main_v32, val_main_v31, val_main_v30, val_main_v29, val_main_v28, val_main_v27, val_main_v26, val_main_v25, val_main_cst_3, val_main_cst_4, val_main_cst_5]
  simp only [stream]
  rfl

end Cert.ReferenceIdeal.Row

end
-- ==== Proof.Ffn.lean ====
module

public import proofs.«01_k».proof.Defs
public import proofs.«01_k».proof.Proof.FfnKernelArray
public import proofs.«01_k».proof.Proof.FfnReferenceRow
public import proofs.«01_k».proof.Proof.Gen.Kernel.Frame
public import Idealize.ShloMosaic.Lib.Quiescent

/-!
The claims about the second feed-forward call.
-/

@[expose] public section

set_option maxRecDepth 16384

noncomputable section

namespace Ffn

open Idealize.ShloMosaic Idealize.ShloMosaic.TcCoe Idealize.SL.Sem RowMath

/-- The reference terminates with its arguments unchanged and its counters at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The reference's result is the row function of its arguments. -/
theorem reference_result (m : (ℓ : Loc Cert.ReferenceIdeal.nD Cert.ReferenceIdeal.τ Cert.ReferenceIdeal.sig) → Buf (Elt Ideal) ℓ)
    (c : Dev Cert.ReferenceIdeal.nD) (r : Fin 32768) (k : Fin 1024) :
    Cert.ReferenceIdeal.Value.res_main_v37 m c (ix2 r k) =
      rms (ffn (row (m ((c.tc : Thread _ Cert.ReferenceIdeal.τ).loc Cert.ReferenceIdeal.main_arg0)) r)
        (row (m ((c.tc : Thread _ Cert.ReferenceIdeal.τ).loc Cert.ReferenceIdeal.main_arg1)) 0)
        (mat (m ((c.tc : Thread _ Cert.ReferenceIdeal.τ).loc Cert.ReferenceIdeal.main_arg2)))
        (mat (m ((c.tc : Thread _ Cert.ReferenceIdeal.τ).loc Cert.ReferenceIdeal.main_arg3))))
        (fun k => m ((c.tc : Thread _ Cert.ReferenceIdeal.τ).loc Cert.ReferenceIdeal.main_arg4) (ix1 k)) k := by
  rw [Cert.ReferenceIdeal.Read.val_main_v37_eq]
  exact Cert.ReferenceIdeal.Row.final _ _ _ _ _ r k

/-- On the extended reals the call and its reference compute the same array. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Row.result m c, ?_, ?_⟩
  · exact (θ_run Cert.KernelIdeal.defs _ _).mono
      (fun r h c => ⟨(h c).1.trans (Cert.KernelIdeal.Row.final m c), (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4⟩ := hagree c
    funext i
    obtain ⟨r, k, rfl⟩ : ∃ (r : Fin 32768) (k : Fin 1024), i = ix2 r k := ⟨i 0, i 1, eq_ix2 (n0 := 32768) (n1 := 1024) i⟩
    refine (reference_result m' c r k).trans ?_
    rw [h0, h1, h2, h3, h4]
    rfl

end Ffn

end
-- ==== Proof.MergeKernelRow.lean ====
module

public import proofs.«01_k».proof.Proof.Algebra
public import proofs.«01_k».proof.Proof.Gen.Kernel3Ideal.Value

/-!
The block program of the merge, read at an index: for each token it gates the two branches' outputs with
the logistic function of a projection of the token's normalized residual stream, multiplies by the output
matrix and adds the residual stream.
-/

@[expose] public section

set_option maxRecDepth 16384

noncomputable section

namespace Cert.Kernel3Ideal.Row

open Cert.Kernel3Ideal Cert.Kernel3Ideal.Gen Idealize.ShloMosaic Idealize.SL.Sem RowMath

/-- The row of the flattened block that holds token `s` of sequence `b`. -/
abbrev flat (b : Fin 16) (s : Fin 64) : Fin 1024 := ⟨b.val * 64 + s.val, by omega⟩

theorem flat_div (b : Fin 16) (s : Fin 64) : (b.val * 64 + s.val) / 64 = b.val := by omega
theorem flat_mod (b : Fin 16) (s : Fin 64) : (b.val * 64 + s.val) % 64 = s.val := by omega

variable (b : Fin 16) (s : Fin 64)

/-- The residual stream's block, flattened. -/
theorem pay2_apply (x : Vec Ideal S16x64x1024 .f32) (k : Fin 1024) :
    k0_pay2 (F := Ideal) x (ix2 (flat b s) k) = x (ix3 b s k) := by
  pointwise [k0_pay2]
  simp only [flat_div, flat_mod]

/-- The two gates' projection of the normalized token. -/
theorem pay3_apply (x : Vec Ideal S16x64x1024 .f32) (g : Vec Ideal S1x1024 .f32) (w : Vec Ideal S1024x2048 .bf16)
    (j : Fin 2048) :
    k0_pay3 (F := Ideal) x g w (ix2 (flat b s) j) = ∑ k, rms (fun k => x (ix3 b s k)) (row g 0) k * w (ix2 k j) := by
  pointwise [k0_pay3]
  simp only [pay2_apply]
  rfl

/-- The recurrence branch's projection; its rows come in time-major order. -/
theorem pay4_apply (z : Vec Ideal S1024x512 .bf16) (w : Vec Ideal S512x1024 .bf16) (j : Fin 1024) :
    k0_pay4 (F := Ideal) z w (ix2 (flat b s) j)
      = ∑ k, z (ix2 (⟨s.val * 16 + b.val, by omega⟩ : Fin 1024) k) * w (ix2 k j) := by
  pointwise [k0_pay4]
  simp only [flat_div, flat_mod]

/-- The first half of the attention branch's projection. -/
theorem pay5_apply (a : Vec Ideal S16x64x256 .bf16) (w : Vec Ideal S256x1024 .bf16) (j : Fin 1024) :
    k0_pay5 (F := Ideal) a w (ix2 (flat b s) j) = ∑ k, a (ix3 b s k) * w (ix2 k j) := by
  pointwise [k0_pay5]
  simp only [flat_div, flat_mod]

/-- The second half of the attention branch's input, flattened. -/
theorem pay6_apply (a : Vec Ideal S16x64x256 .bf16) (j : Fin 256) :
    k0_pay6 (F := Ideal) a (ix2 (flat b s) j) = a (ix3 b s j) := by
  pointwise [k0_pay6]
  simp only [flat_div, flat_mod]

/-- The stored block: the residual stream plus the output projection of the gated branches. -/
theorem pay1_apply (x : FVec Ideal S1024x1024 .f32) (g : FVec Ideal S1024x2048 .f32) (y a : FVec Ideal S1024x1024 .f32)
    (h : FVec Ideal S1024x256 .bf16) (w : Vec Ideal S256x1024 .bf16) (wo : Vec Ideal S1024x1024 .bf16) (c : Fin 1024) :
    k0_pay1 (F := Ideal) x g y a h w wo (ix3 b s c) = x (ix2 (flat b s) c) + ∑ j : Fin 1024,
      (Ideal.logistic (g (ix2 (flat b s) ⟨j.val, by omega⟩)) * y (ix2 (flat b s) j)
        + Ideal.logistic (g (ix2 (flat b s) ⟨1024 + j.val, by omega⟩)) *
          (a (ix2 (flat b s) j) + ∑ k : Fin 256, h (ix2 (flat b s) k) * w (ix2 k j))) * wo (ix2 j c) := by
  pointwise [k0_pay1]

/-- What the block program stores, read at token `s` of sequence `b` and column `c`. -/
theorem out_apply (x : Vec Ideal S16x64x1024 .f32) (z : Vec Ideal S1024x512 .bf16) (lo hi : Vec Ideal S16x64x256 .bf16)
    (g : Vec Ideal S1x1024 .f32) (wg : Vec Ideal S1024x2048 .bf16) (ws wn : Vec Ideal S512x1024 .bf16)
    (wo : Vec Ideal S1024x1024 .bf16) (c : Fin 1024) :
    out0_9 (F := Ideal) x z lo hi g wg ws wn wo (ix3 b s c) =
      merged (fun k => x (ix3 b s k)) (row g 0) (fun k => z (ix2 (⟨s.val * 16 + b.val, by omega⟩ : Fin 1024) k))
        (fun k => lo (ix3 b s k)) (fun k => hi (ix3 b s k)) (mat wg) (mat ws) (mat wn) (mat wo) c := by
  have hz : (![0, 0] : Fin 2 → Nat) = fun _ => 0 := funext fun a => by fin_cases a <;> rfl
  have hz3 : (![0, 0, 0] : Fin 3 → Nat) = fun _ => 0 := funext fun a => by fin_cases a <;> rfl
  unfold out0_9
  rw [View.canon_unit_zero hz3, View.ld_unit_zero hz3, View.ld_unit_zero hz, View.ld_unit_zero hz, View.ld_unit_zero hz,
    View.ld_unit_zero hz, View.ld_unit_zero hz3, View.ld_unit_zero hz3, View.ld_unit_zero hz, pay1_apply]
  simp only [pay2_apply, pay3_apply, pay4_apply, pay5_apply, pay6_apply, merged]
  refine congrArg (_ + ·) (Finset.sum_congr rfl fun j _ => ?_)
  have e1 : ∀ k : Fin 256, View.ld wn r0_6 (ix2 k j) = wn (ix2 (⟨k.val, by omega⟩ : Fin 512) j) := fun k =>
    ld_apply wn 0 0 _ k j _ _ (Nat.zero_add _) (Nat.zero_add _)
  have e2 : ∀ k : Fin 256, View.ld wn r0_7 (ix2 k j) = wn (ix2 (⟨256 + k.val, by omega⟩ : Fin 512) j) := fun k =>
    ld_apply wn 256 0 _ k j _ _ rfl (Nat.zero_add _)
  simp only [e1, e2]

end Cert.Kernel3Ideal.Row

end
-- ==== Proof.MergeKernelArray.lean ====
module

public import proofs.«01_k».proof.Proof.MergeKernelRow

/-!
The array the merge leaves: entry `(b, s, c)` is the token function of token `s` of sequence `b` at column `c`.
-/

@[expose] public section

set_option maxRecDepth 16384

noncomputable section

namespace Cert.Kernel3Ideal.Row

open Cert.Kernel3Ideal Cert.Kernel3Ideal.Gen Idealize.ShloMosaic Idealize.ShloMosaic.TcCoe Idealize.SL.Sem RowMath
open Idealize.ShloMosaic.Pipeline (Dat)

variable (m : (ℓ : Loc nD τ sig) → Buf (Elt Ideal) ℓ) (c : Dev nD)

/-- The gain row the region reads is the gain argument. -/
theorem gain_in : (V m c main_v1 : S1x1024.Idx → EReal) = m ((c : Thread nD τ).loc main_arg4) := by
  have e : (V m c main_v1 : S1x1024.Idx → EReal) =
      shapeCast S1x1024 (shapeCast S1024 (m ((c : Thread nD τ).loc main_arg4)) shapeCasts_S1x1024_S1024) shapeCasts_S1024_S1x1024 := by
    simp only [V, hostOps0]
    after_results_simp
    rfl
  rw [e]
  funext j
  pointwise

/-- Where the windows of the grid's points lie. -/
theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = 0 ∧ win0_2.index t 1 = t.val ∧ win0_2.index t 2 = 0) ∧ (win0_3.index t 0 = 0 ∧ win0_3.index t 1 = t.val ∧ win0_3.index t 2 = 0) ∧ (win0_9.index t 0 = 0 ∧ win0_9.index t 1 = t.val ∧ win0_9.index t 2 = 0)
    ∧ (∀ a, win0_4.index t a = 0) ∧ (∀ a, win0_5.index t a = 0) ∧ (∀ a, win0_6.index t a = 0) ∧ (∀ a, win0_7.index t a = 0) ∧ (∀ a, win0_8.index t a = 0) :=
  (by decide +kernel : ∀ t : Fin grid0.N, (win0_0.index t 0 = 0 ∧ win0_0.index t 1 = t.val ∧ win0_0.index t 2 = 0)
    ∧ (win0_1.index t 0 = t.val ∧ win0_1.index t 1 = 0) ∧ (win0_2.index t 0 = 0 ∧ win0_2.index t 1 = t.val ∧ win0_2.index t 2 = 0) ∧ (win0_3.index t 0 = 0 ∧ win0_3.index t 1 = t.val ∧ win0_3.index t 2 = 0) ∧ (win0_9.index t 0 = 0 ∧ win0_9.index t 1 = t.val ∧ win0_9.index t 2 = 0)
    ∧ (∀ a, win0_4.index t a = 0) ∧ (∀ a, win0_5.index t a = 0) ∧ (∀ a, win0_6.index t a = 0) ∧ (∀ a, win0_7.index t a = 0) ∧ (∀ a, win0_8.index t a = 0))

/-- A point's block of the residual stream is 64 tokens of every sequence. -/
theorem blk0 (t : Fin cfg0.N) (b : Fin 16) (s : Fin 64) (k : Fin 1024) (i : Fin 2048) (hi : i.val = t.val * 64 + s.val) :
    (iblk m c 0 t : S16x64x1024.Idx → EReal) (ix3 b s k) = m ((c : Thread nD τ).loc main_arg0) (ix3 b i k) := by
  show V m c main_arg0 ((win0_0.rect t).idx (ix3 b s k)) = _
  rw [V_main_arg0]
  refine congrArg _ (funext fun a => Fin.ext ?_)
  match a with
  | ⟨0, _⟩ => show win0_0.index t 0 * 16 + 1 * b.val = b.val; rw [(idx_facts t).1.1]; omega
  | ⟨1, _⟩ => show win0_0.index t 1 * 64 + 1 * s.val = i.val; rw [(idx_facts t).1.2.1]; omega
  | ⟨2, _⟩ => show win0_0.index t 2 * 1024 + 1 * k.val = k.val; rw [(idx_facts t).1.2.2]; omega

/-- A point's block of the recurrence branch is the 16 rows of each of its 64 times. -/
theorem blk1 (t : Fin cfg0.N) (r : Fin 1024) (k : Fin 512) (i : Fin 32768) (hi : i.val = t.val * 1024 + r.val) :
    (iblk m c 1 t : S1024x512.Idx → EReal) (ix2 r k) = m ((c : Thread nD τ).loc main_arg1) (ix2 i k) := by
  show V m c main_arg1 ((win0_1.rect t).idx (ix2 r k)) = _
  rw [V_main_arg1]
  refine congrArg _ (funext fun a => Fin.ext ?_)
  match a with
  | ⟨0, _⟩ => show win0_1.index t 0 * 1024 + 1 * r.val = i.val; rw [(idx_facts t).2.1.1]; omega
  | ⟨1, _⟩ => show win0_1.index t 1 * 512 + 1 * k.val = k.val; rw [(idx_facts t).2.1.2]; omega

theorem blk2 (t : Fin cfg0.N) (b : Fin 16) (s : Fin 64) (k : Fin 256) (i : Fin 2048) (hi : i.val = t.val * 64 + s.val) :
    (iblk m c 2 t : S16x64x256.Idx → EReal) (ix3 b s k) = m ((c : Thread nD τ).loc main_arg2) (ix3 b i k) := by
  show V m c main_arg2 ((win0_2.rect t).idx (ix3 b s k)) = _
  rw [V_main_arg2]
  refine congrArg _ (funext fun a => Fin.ext ?_)
  match a with
  | ⟨0, _⟩ => show win0_2.index t 0 * 16 + 1 * b.val = b.val; rw [(idx_facts t).2.2.1.1]; omega
  | ⟨1, _⟩ => show win0_2.index t 1 * 64 + 1 * s.val = i.val; rw [(idx_facts t).2.2.1.2.1]; omega
  | ⟨2, _⟩ => show win0_2.index t 2 * 256 + 1 * k.val = k.val; rw [(idx_facts t).2.2.1.2.2]; omega

theorem blk3 (t : Fin cfg0.N) (b : Fin 16) (s : Fin 64) (k : Fin 256) (i : Fin 2048) (hi : i.val = t.val * 64 + s.val) :
    (iblk m c 3 t : S16x64x256.Idx → EReal) (ix3 b s k) = m ((c : Thread nD τ).loc main_arg3) (ix3 b i k) := by
  show V m c main_arg3 ((win0_3.rect t).idx (ix3 b s k)) = _
  rw [V_main_arg3]
  refine congrArg _ (funext fun a => Fin.ext ?_)
  match a with
  | ⟨0, _⟩ => show win0_3.index t 0 * 16 + 1 * b.val = b.val; rw [(idx_facts t).2.2.2.1.1]; omega
  | ⟨1, _⟩ => show win0_3.index t 1 * 64 + 1 * s.val = i.val; rw [(idx_facts t).2.2.2.1.2.1]; omega
  | ⟨2, _⟩ => show win0_3.index t 2 * 256 + 1 * k.val = k.val; rw [(idx_facts t).2.2.2.1.2.2]; omega

theorem blk4 (t : Fin cfg0.N) : (iblk m c 4 t : S1x1024.Idx → EReal) = m ((c : Thread nD τ).loc main_arg4) := by
  rw [← gain_in m c]
  funext j
  show V m c main_v1 ((win0_4.rect t).idx j) = _
  refine congrArg _ (funext fun a => Fin.ext ?_)
  show win0_4.index t a * _ + 1 * (j a).val = (j a).val
  rw [(idx_facts t).2.2.2.2.2.1 a]; omega

theorem blk5 (t : Fin cfg0.N) : (iblk m c 5 t : S1024x2048.Idx → EReal) = m ((c : Thread nD τ).loc main_arg5) := by
  funext j
  show V m c main_arg5 ((win0_5.rect t).idx j) = _
  rw [V_main_arg5]
  refine congrArg _ (funext fun a => Fin.ext ?_)
  show win0_5.index t a * _ + 1 * (j a).val = (j a).val
  rw [(idx_facts t).2.2.2.2.2.2.1 a]; omega

theorem blk6 (t : Fin cfg0.N) : (iblk m c 6 t : S512x1024.Idx → EReal) = m ((c : Thread nD τ).loc main_arg6) := by
  funext j
  show V m c main_arg6 ((win0_6.rect t).idx j) = _
  rw [V_main_arg6]
  refine congrArg _ (funext fun a => Fin.ext ?_)
  show win0_6.index t a * _ + 1 * (j a).val = (j a).val
  rw [(idx_facts t).2.2.2.2.2.2.2.1 a]; omega

theorem blk7 (t : Fin cfg0.N) : (iblk m c 7 t : S512x1024.Idx → EReal) = m ((c : Thread nD τ).loc main_arg7) := by
  funext j
  show V m c main_arg7 ((win0_7.rect t).idx j) = _
  rw [V_main_arg7]
  refine congrArg _ (funext fun a => Fin.ext ?_)
  show win0_7.index t a * _ + 1 * (j a).val = (j a).val
  rw [(idx_facts t).2.2.2.2.2.2.2.2.1 a]; omega

theorem blk8 (t : Fin cfg0.N) : (iblk m c 8 t : S1024x1024.Idx → EReal) = m ((c : Thread nD τ).loc main_arg8) := by
  funext j
  show V m c main_arg8 ((win0_8.rect t).idx j) = _
  rw [V_main_arg8]
  refine congrArg _ (funext fun a => Fin.ext ?_)
  show win0_8.index t a * _ + 1 * (j a).val = (j a).val
  rw [(idx_facts t).2.2.2.2.2.2.2.2.2 a]; omega

/-- What the result array is shown to hold. -/
def result : Buf (Elt Ideal) ((c : Thread nD τ).loc main_v2) := fun i : S16x2048x1024.Idx =>
  merged (fun k => m ((c : Thread nD τ).loc main_arg0) (ix3 (i 0) (i 1) k)) (row (m ((c : Thread nD τ).loc main_arg4)) 0)
    (fun k => m ((c : Thread nD τ).loc main_arg1) (ix2 (⟨(i 1).val * 16 + (i 0).val, by
      have h0 : (i 0).val < 16 := (i 0).isLt
      have h1 : (i 1).val < 2048 := (i 1).isLt
      omega⟩ : Fin 32768) k))
    (fun k => m ((c : Thread nD τ).loc main_arg2) (ix3 (i 0) (i 1) k)) (fun k => m ((c : Thread nD τ).loc main_arg3) (ix3 (i 0) (i 1) k))
    (mat (m ((c : Thread nD τ).loc main_arg5))) (mat (m ((c : Thread nD τ).loc main_arg6))) (mat (m ((c : Thread nD τ).loc main_arg7))) (mat (m ((c : Thread nD τ).loc main_arg8))) (i 2)

/-- What a point writes back is its block of that array. -/
theorem flushed_eq (t : Fin cfg0.N) :
    (dats m 0 c).flushed 9 t = (win0_9.blk t).view.read (Elt Ideal) (result m c) := by
  rw [Value.flushed9]
  funext j
  obtain ⟨b, s, k, rfl⟩ : ∃ (b : Fin 16) (s : Fin 64) (k : Fin 1024), j = ix3 b s k :=
    ⟨j 0, j 1, j 2, eq_ix3 (n0 := 16) (n1 := 64) (n2 := 1024) j⟩
  have ht : t.val < 32 := lt_of_lt_of_eq t.isLt N_0
  have e : (win0_9.rect t).idx (ix3 b s k) = ix3 (n0 := 16) (n1 := 2048) (n2 := 1024) b ⟨t.val * 64 + s.val, by omega⟩ k := by
    refine funext fun a => Fin.ext ?_
    match a with
    | ⟨0, _⟩ => show win0_9.index t 0 * 16 + 1 * b.val = b.val; rw [(idx_facts t).2.2.2.2.1.1]; omega
    | ⟨1, _⟩ => show win0_9.index t 1 * 64 + 1 * s.val = t.val * 64 + s.val; rw [(idx_facts t).2.2.2.2.1.2.1]; omega
    | ⟨2, _⟩ => show win0_9.index t 2 * 1024 + 1 * k.val = k.val; rw [(idx_facts t).2.2.2.2.1.2.2]; omega
  show out0_9 (F := Ideal) (iblk m c 0 t) (iblk m c 1 t) (iblk m c 2 t) (iblk m c 3 t) (iblk m c 4 t) (iblk m c 5 t) (iblk m c 6 t)
    (iblk m c 7 t) (iblk m c 8 t) (ix3 b s k) = result m c ((win0_9.rect t).idx (ix3 b s k))
  rw [e, out_apply]
  have h0 : (fun k => (iblk m c 0 t : S16x64x1024.Idx → EReal) (ix3 b s k))
      = fun k => m ((c : Thread nD τ).loc main_arg0) (ix3 b (⟨t.val * 64 + s.val, by omega⟩ : Fin 2048) k) := funext fun k => blk0 m c t b s k _ rfl
  have h1 : (fun k => (iblk m c 1 t : S1024x512.Idx → EReal) (ix2 (⟨s.val * 16 + b.val, by omega⟩ : Fin 1024) k))
      = fun k => m ((c : Thread nD τ).loc main_arg1) (ix2 (⟨(t.val * 64 + s.val) * 16 + b.val, by omega⟩ : Fin 32768) k) :=
    funext fun k => blk1 m c t _ k _ (show (t.val * 64 + s.val) * 16 + b.val = t.val * 1024 + (s.val * 16 + b.val) by omega)
  have h2 : (fun k => (iblk m c 2 t : S16x64x256.Idx → EReal) (ix3 b s k))
      = fun k => m ((c : Thread nD τ).loc main_arg2) (ix3 b (⟨t.val * 64 + s.val, by omega⟩ : Fin 2048) k) := funext fun k => blk2 m c t b s k _ rfl
  have h3 : (fun k => (iblk m c 3 t : S16x64x256.Idx → EReal) (ix3 b s k))
      = fun k => m ((c : Thread nD τ).loc main_arg3) (ix3 b (⟨t.val * 64 + s.val, by omega⟩ : Fin 2048) k) := funext fun k => blk3 m c t b s k _ rfl
  rw [h0, h1, h2, h3, blk4, blk5, blk6, blk7, blk8]
  rfl

/-- An index of the result array is in point `t`'s block when its time is one of the block's. -/
theorem mem_blk (t : Fin cfg0.N) (i : S16x2048x1024.Idx) (h : t.val * 64 ≤ (i 1 : Nat) ∧ (i 1 : Nat) < t.val * 64 + 64) :
    i ∈ ((cfg0.win 9).blk t).view.set := by
  show i ∈ ((View.whole main_v2).slice (win0_9.rect t)).set
  rw [View.set_slice_whole, Rect.mem_set_unit]
  have h0 : (i 0 : Nat) < 16 := (i 0).isLt
  have h2 : (i 2 : Nat) < 1024 := (i 2).isLt
  have e := (idx_facts t).2.2.2.2.1
  intro a
  match a with
  | ⟨0, _⟩ => show win0_9.index t 0 * 16 ≤ (i 0 : Nat) ∧ (i 0 : Nat) < win0_9.index t 0 * 16 + 16; rw [e.1, Nat.zero_mul, Nat.zero_add]; exact ⟨Nat.zero_le _, h0⟩
  | ⟨1, _⟩ => show win0_9.index t 1 * 64 ≤ (i 1 : Nat) ∧ (i 1 : Nat) < win0_9.index t 1 * 64 + 64; rw [e.2.1]; exact h
  | ⟨2, _⟩ => show win0_9.index t 2 * 1024 ≤ (i 2 : Nat) ∧ (i 2 : Nat) < win0_9.index t 2 * 1024 + 1024; rw [e.2.2, Nat.zero_mul, Nat.zero_add]; exact ⟨Nat.zero_le _, h2⟩

/-- The blocks cover the result array. -/
theorem cover (i : S16x2048x1024.Idx) : ∃ t : Fin cfg0.N, (cfg0.win 9).flush t = true ∧ i ∈ ((cfg0.win 9).blk t).view.set := by
  have h1 : (i 1 : Nat) < 2048 := (i 1).isLt
  have hN : cfg0.N = 32 := N_0
  refine ⟨⟨(i 1 : Nat) / 64, by rw [hN]; omega⟩, flush0_9 _, mem_blk _ i ?_⟩
  dsimp only
  omega

/-- The result array ends holding the token function of the arguments. -/
theorem final : (dats m 0 c).arrAt 9 cfg0.N = result m c :=
  (dats m 0 c).arrAt_eq_of_cover 9 (result m c) (fun t _ => flushed_eq m c t) cover

end Cert.Kernel3Ideal.Row

end
-- ==== Proof.MergeReferenceRow.lean ====
module

public import proofs.«01_k».proof.Proof.Algebra
public import proofs.«01_k».proof.Proof.Gen.Reference3Ideal.Read

/-!
The reference of the merge, read at an index.
-/

@[expose] public section

set_option maxRecDepth 16384

noncomputable section

namespace Cert.Reference3Ideal.Row

open Cert.Reference3Ideal Cert.Reference3Ideal.Gen Cert.Reference3Ideal.Read Idealize.ShloMosaic Idealize.SL.Sem RowMath

variable (x : S16x2048x1024.Idx → EReal) (z : S32768x512.Idx → EReal) (lo hi : S16x2048x256.Idx → EReal)
  (g : S1x1024.Idx → EReal) (wg : S1024x2048.Idx → EReal) (ws wn : S512x1024.Idx → EReal) (wo : S1024x1024.Idx → EReal)
  (b : Fin 16) (s : Fin 2048)

/-- The normalized token times the gain. -/
theorem normed (k : Fin 1024) : val_main_v13 (F := Ideal) x g (ix3 b s k) = rms (fun k => x (ix3 b s k)) (row g 0) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The two gates' projection. -/
theorem gates (j : Fin 2048) :
    val_main_v15 (F := Ideal) x g wg (ix3 b s j) = ∑ k, rms (fun k => x (ix3 b s k)) (row g 0) k * wg (ix2 k j) := by
  pointwise [val_main_v15, val_main_v14]
  simp only [normed]

/-- The recurrence branch's projection. -/
theorem ssm (j : Fin 1024) :
    val_main_v22 (F := Ideal) z ws (ix3 b s j) = ∑ k, z (ix2 (⟨s.val * 16 + b.val, by omega⟩ : Fin 32768) k) * ws (ix2 k j) := by
  pointwise [val_main_v22, val_main_v21, val_main_v20, val_main_v19, val_main_v18]

/-- The attention branch's projection. -/
theorem na (j : Fin 1024) :
    val_main_v27 (F := Ideal) lo hi wn (ix3 b s j) =
      (∑ k : Fin 256, lo (ix3 b s k) * wn (ix2 ⟨k.val, by omega⟩ j))
        + ∑ k : Fin 256, hi (ix3 b s k) * wn (ix2 ⟨256 + k.val, by omega⟩ j) := by
  pointwise [val_main_v27, val_main_v26, val_main_v25, val_main_v24, val_main_v23]

theorem final (c : Fin 1024) :
    val_main_v45 (F := Ideal) x z lo hi g wg ws wn wo (ix3 b s c) =
      merged (fun k => x (ix3 b s k)) (row g 0) (fun k => z (ix2 (⟨s.val * 16 + b.val, by omega⟩ : Fin 32768) k))
        (fun k => lo (ix3 b s k)) (fun k => hi (ix3 b s k)) (mat wg) (mat ws) (mat wn) (mat wo) c := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v17, val_main_v16, val_main_cst_2, val_main_cst_3, val_main_cst_4, val_main_cst_5]
  simp only [gates, ssm, na, logistic_spelt]
  rfl

end Cert.Reference3Ideal.Row

end
-- ==== Proof.Merge.lean ====
module

public import proofs.«01_k».proof.Defs
public import proofs.«01_k».proof.Proof.MergeKernelArray
public import proofs.«01_k».proof.Proof.MergeReferenceRow
public import proofs.«01_k».proof.Proof.Gen.Kernel3.Frame
public import Idealize.ShloMosaic.Lib.Quiescent

/-!
The claims about the merge of the two branches.
-/

@[expose] public section

set_option maxRecDepth 16384

noncomputable section

namespace Merge

open Idealize.ShloMosaic Idealize.ShloMosaic.TcCoe Idealize.SL.Sem RowMath

/-- The reference terminates with its arguments unchanged and its counters at zero. -/
theorem reference_frame : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩)
    (Cert.Reference3Ideal.Value.run (F := Ideal) m ρ)

/-- On the extended reals the call and its reference compute the same array. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Row.result m c, ?_, ?_⟩
  · exact (θ_run Cert.Kernel3Ideal.defs _ _).mono
      (fun r h c => ⟨(h c).1.trans (Cert.Kernel3Ideal.Row.final m c), (h c).2⟩) (Cert.Kernel3Ideal.Value.run_blocks m ρ)
  · refine (θ_run Cert.Reference3Ideal.defs _ _).mono (fun r h c => ⟨(h c).1.trans ?_, (h c).2⟩)
      (Cert.Reference3Ideal.Value.run (F := Ideal) m' ρ')
    rw [Cert.Reference3Ideal.Read.val_main_v45_eq]
    obtain ⟨h0, h1, h2, h3, h4, h5, h6, h7, h8⟩ := hagree c
    funext i
    obtain ⟨b, s, k, rfl⟩ : ∃ (b : Fin 16) (s : Fin 2048) (k : Fin 1024), i = ix3 b s k :=
      ⟨i 0, i 1, i 2, eq_ix3 (n0 := 16) (n1 := 2048) (n2 := 1024) i⟩
    refine (Cert.Reference3Ideal.Row.final _ _ _ _ _ _ _ _ _ b s k).trans ?_
    rw [h0, h1, h2, h3, h4, h5, h6, h7, h8]
    rfl

end Merge

end
-- ==== Proof.ProjMath.lean ====
module

public import proofs.«01_k».proof.Proof.Algebra

/-!
The four projections of a normalized row of the residual stream.
-/

@[expose] public section

noncomputable section

namespace RowMath

open Idealize.ShloMosaic

/-- Column `j` of the projections of the normalized row `h`. -/
def proj (h gm : Fin 1024 → EReal) (w : Fin 1024 → Fin 2048 → EReal) (j : Fin 2048) : EReal :=
  ∑ k, rms h gm k * w k j

/-- Columns of the recurrence's input. -/
abbrev uCol (j : Fin 512) : Fin 2048 := ⟨j.val, by omega⟩
/-- Columns of the queries. -/
abbrev qCol (j : Fin 512) : Fin 2048 := ⟨512 + j.val, by omega⟩
/-- Columns of the keys. -/
abbrev kCol (j : Fin 512) : Fin 2048 := ⟨1024 + j.val, by omega⟩
/-- Columns of the values. -/
abbrev vCol (j : Fin 512) : Fin 2048 := ⟨1536 + j.val, by omega⟩

/-- The one matrix of a stack of one. -/
abbrev mat1 {n m : Nat} (x : (⟨3, ![1, n, m]⟩ : Shape).Idx → EReal) : Fin n → Fin m → EReal := fun r k => x (ix3 0 r k)
/-- The row of entry `(b, s)` of a three-axis array. -/
abbrev row3 {a n m : Nat} (x : (⟨3, ![a, n, m]⟩ : Shape).Idx → EReal) (b : Fin a) (s : Fin n) : Fin m → EReal := fun k => x (ix3 b s k)

end RowMath

end
-- ==== Proof.ProjSpec.lean ====
module

public import proofs.«01_k».proof.Proof.ProjMath

/-!
The sixteen arrays the first feed-forward call leaves, as functions of its arguments.
-/

@[expose] public section

noncomputable section

namespace RowMath

open Idealize.ShloMosaic

/-- The first 2048 columns of the mixing matrix. -/
def projCols (x6 : (⟨3, ![1, 1024, 4096]⟩ : Shape).Idx → EReal) : Fin 1024 → Fin 2048 → EReal := fun k j => x6 (ix3 0 k ⟨j.val, by omega⟩)

/-- A token's row of the residual stream after the feed-forward network. -/
def tokenRow (x0 : (⟨3, ![16, 2048, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (b : Fin 16) (s : Fin 2048) : Fin 1024 → EReal :=
  ffn (row3 x0 b s) (row x2 0) (mat1 x3) (mat1 x4)

/-- A meta token's row of the residual stream after the feed-forward network. -/
def metaRow (x1 : (⟨2, ![16, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (r : Fin 16) : Fin 1024 → EReal :=
  ffn (row x1 r) (row x2 0) (mat1 x3) (mat1 x4)

/-- The residual stream after the feed-forward network. -/
def specH (x0 : (⟨3, ![16, 2048, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) : (⟨3, ![16, 2048, 1024]⟩ : Shape).Idx → EReal := fun i =>
  tokenRow x0 x2 x3 x4 (i 0) (i 1) (i 2)

/-- The recurrence's input, rows ordered by time and then by sequence. -/
def specU (x0 : (⟨3, ![16, 2048, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨2, ![32768, 512]⟩ : Shape).Idx → EReal := fun i =>
  proj (tokenRow x0 x2 x3 x4 ⟨(i 0).val % 16, Nat.mod_lt _ (by omega)⟩ ⟨(i 0).val / 16, by have h : (i 0).val < 32768 := (i 0).isLt; omega⟩) (row x5 0) (projCols x6) (uCol (i 1))

/-- The queries, scaled. -/
def specQ (x0 : (⟨3, ![16, 2048, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨3, ![16, 2048, 512]⟩ : Shape).Idx → EReal := fun i =>
  proj (tokenRow x0 x2 x3 x4 (i 0) (i 1)) (row x5 0) (projCols x6) (qCol (i 2)) * Ideal.ofBits .f32 0x3E000000#32

/-- The keys. -/
def specK (x0 : (⟨3, ![16, 2048, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨3, ![16, 2048, 512]⟩ : Shape).Idx → EReal := fun i =>
  proj (tokenRow x0 x2 x3 x4 (i 0) (i 1)) (row x5 0) (projCols x6) (kCol (i 2))

/-- The values. -/
def specV (x0 : (⟨3, ![16, 2048, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨3, ![16, 2048, 512]⟩ : Shape).Idx → EReal := fun i =>
  proj (tokenRow x0 x2 x3 x4 (i 0) (i 1)) (row x5 0) (projCols x6) (vCol (i 2))

/-- The meta tokens' recurrence's input. -/
def specUm (x1 : (⟨2, ![16, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨2, ![16, 512]⟩ : Shape).Idx → EReal := fun i =>
  proj (metaRow x1 x2 x3 x4 (i 0)) (row x5 0) (projCols x6) (uCol (i 1))

/-- The meta tokens' queries, scaled. -/
def specQm (x1 : (⟨2, ![16, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨2, ![16, 512]⟩ : Shape).Idx → EReal := fun i =>
  proj (metaRow x1 x2 x3 x4 (i 0)) (row x5 0) (projCols x6) (qCol (i 1)) * Ideal.ofBits .f32 0x3E000000#32

/-- The meta tokens' keys. -/
def specKm (x1 : (⟨2, ![16, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨2, ![16, 512]⟩ : Shape).Idx → EReal := fun i =>
  proj (metaRow x1 x2 x3 x4 (i 0)) (row x5 0) (projCols x6) (kCol (i 1))

/-- The meta tokens' values. -/
def specVm (x1 : (⟨2, ![16, 1024]⟩ : Shape).Idx → EReal) (x2 : (⟨2, ![1, 1024]⟩ : Shape).Idx → EReal) (x3 : (⟨3, ![1, 1024, 5632]⟩ : Shape).Idx → EReal) (x4 : (⟨3, ![1, 2816, 1024]⟩ : Shape).Idx → EReal) (x5 : (⟨2, ![1, 1024]⟩ : Shape).Idx → EReal) (x6 : (⟨3, ![1, 1024, 4096]⟩ : Shape).Idx → EReal) : (⟨2, ![16, 512]⟩ : Shape).Idx → EReal := fun i =>
  proj (metaRow x1 x2 x3 x4 (i 0)) (row x5 0) (projCols x6) (vCol (i 1))

/-- The one matrix of a stack of one, as an array. -/
def specOne {n k : Nat} (w : (⟨3, ![1, n, k]⟩ : Shape).Idx → EReal) : (⟨2, ![n, k]⟩ : Shape).Idx → EReal := fun i => w (ix3 0 (i 0) (i 1))

/-- The last 2048 columns of the mixing matrix. -/
def specGate (x6 : (⟨3, ![1, 1024, 4096]⟩ : Shape).Idx → EReal) : (⟨2, ![1024, 2048]⟩ : Shape).Idx → EReal := fun i =>
  x6 (ix3 0 (i 0) ⟨2048 + (i 1).val, by have h : (i 1).val < 2048 := (i 1).isLt; omega⟩)

end RowMath

end
-- ==== Proof.ProjInputs.lean ====
module

public import proofs.«01_k».proof.Proof.ProjSpec
public import proofs.«01_k».proof.Proof.Gen.Kernel2Ideal.Frame
public import Idealize.ShloMosaic.Lib.ValueLayout

/-!
The blocks the first feed-forward call's points read, in terms of its arguments.
-/

@[expose] public section

set_option maxHeartbeats 2000000
set_option maxRecDepth 16384

noncomputable section

namespace Cert.Kernel2Ideal.Row

open Cert.Kernel2Ideal Cert.Kernel2Ideal.Gen Idealize.ShloMosaic Idealize.ShloMosaic.TcCoe Idealize.SL.Sem RowMath
open Idealize.ShloMosaic.Pipeline (Dat)

variable (m : (ℓ : Loc nD τ sig) → Buf (Elt Ideal) ℓ) (c : Dev nD)

theorem in_v1 : (V m c main_v1 : S1x1024.Idx → EReal) = m ((c : Thread nD τ).loc main_arg2) := by
  have e : (V m c main_v1 : S1x1024.Idx → EReal) =
      shapeCast S1x1024 (shapeCast S1024 (m ((c : Thread nD τ).loc main_arg2)) shapeCasts_S1x1024_S1024) shapeCasts_S1024_S1x1024 := by
    simp only [V, hostOps0]
    after_results_simp
    rfl
  rw [e]
  funext j
  pointwise

theorem in_v3 : (V m c main_v3 : S1x1024.Idx → EReal) = m ((c : Thread nD τ).loc main_arg5) := by
  have e : (V m c main_v3 : S1x1024.Idx → EReal) =
      shapeCast S1x1024 (shapeCast S1024 (m ((c : Thread nD τ).loc main_arg5)) shapeCasts_S1x1024_S1024) shapeCasts_S1024_S1x1024 := by
    simp only [V, hostOps0]
    after_results_simp
    rfl
  rw [e]
  funext j
  pointwise

theorem in_v5 (r : Fin 1024) (j : Fin 5632) : (V m c main_v5 : S1024x5632.Idx → EReal) (ix2 r j) = m ((c : Thread nD τ).loc main_arg3) (ix3 0 r j) := by
  have e : (V m c main_v5 : S1024x5632.Idx → EReal) = truncf (F := Ideal) .bf16 (shapeCast S1024x5632 (m ((c : Thread nD τ).loc main_arg3)) shapeCasts_S1x1024x5632_S1024x5632) bitsLt_bf16_f32 := by
    simp only [V, hostOps0]
    after_results_simp
    rfl
  rw [e]
  exact ValueIdx.shapeCast_1ab_ab_apply _ _ r j

theorem in_v7 (r : Fin 2816) (j : Fin 1024) : (V m c main_v7 : S2816x1024.Idx → EReal) (ix2 r j) = m ((c : Thread nD τ).loc main_arg4) (ix3 0 r j) := by
  have e : (V m c main_v7 : S2816x1024.Idx → EReal) = truncf (F := Ideal) .bf16 (shapeCast S2816x1024 (m ((c : Thread nD τ).loc main_arg4)) shapeCasts_S1x2816x1024_S2816x1024) bitsLt_bf16_f32 := by
    simp only [V, hostOps0]
    after_results_simp
    rfl
  rw [e]
  exact ValueIdx.shapeCast_1ab_ab_apply _ _ r j

theorem in_v10 (r : Fin 1024) (j : Fin 2048) : (V m c main_v10 : S1024x2048.Idx → EReal) (ix2 r j) = m ((c : Thread nD τ).loc main_arg6) (ix3 0 r (⟨j.val, by omega⟩ : Fin 4096)) := by
  have e : (V m c main_v10 : S1024x2048.Idx → EReal) = truncf (F := Ideal) .bf16 (extractStridedSlice S1024x2048 ![0, 0] (shapeCast S1024x4096 (m ((c : Thread nD τ).loc main_arg6)) shapeCasts_S1x1024x4096_S1024x4096) slices_S1024x4096_S1024x2048_0_0) bitsLt_bf16_f32 := by
    simp only [V, hostOps0]
    after_results_simp
    rfl
  rw [e]
  refine (congrArg (shapeCast S1024x4096 (m ((c : Thread nD τ).loc main_arg6)) shapeCasts_S1x1024x4096_S1024x4096) (?_ : _ = ix2 r (⟨j.val, by omega⟩ : Fin 4096))).trans
    (ValueIdx.shapeCast_1ab_ab_apply _ _ r _)
  refine funext fun a => Fin.ext ?_
  match a with
  | ⟨0, _⟩ => show 0 + r.val = r.val; omega
  | ⟨1, _⟩ => show 0 + j.val = j.val; omega

theorem in_v11 (r : Fin 1024) (j : Fin 5632) : (V m c main_v11 : S1024x5632.Idx → EReal) (ix2 r j) = m ((c : Thread nD τ).loc main_arg7) (ix3 0 r j) := by
  have e : (V m c main_v11 : S1024x5632.Idx → EReal) = shapeCast S1024x5632 (m ((c : Thread nD τ).loc main_arg7)) shapeCasts_S1x1024x5632_S1024x5632 := by
    simp only [V, hostOps0]
    after_results_simp
    rfl
  rw [e]
  exact ValueIdx.shapeCast_1ab_ab_apply _ _ r j

theorem in_v12 (r : Fin 2816) (j : Fin 1024) : (V m c main_v12 : S2816x1024.Idx → EReal) (ix2 r j) = m ((c : Thread nD τ).loc main_arg8) (ix3 0 r j) := by
  have e : (V m c main_v12 : S2816x1024.Idx → EReal) = shapeCast S2816x1024 (m ((c : Thread nD τ).loc main_arg8)) shapeCasts_S1x2816x1024_S2816x1024 := by
    simp only [V, hostOps0]
    after_results_simp
    rfl
  rw [e]
  exact ValueIdx.shapeCast_1ab_ab_apply _ _ r j

theorem in_v13 (r : Fin 1024) (j : Fin 4096) : (V m c main_v13 : S1024x4096.Idx → EReal) (ix2 r j) = m ((c : Thread nD τ).loc main_arg6) (ix3 0 r j) := by
  have e : (V m c main_v13 : S1024x4096.Idx → EReal) = shapeCast S1024x4096 (m ((c : Thread nD τ).loc main_arg6)) shapeCasts_S1x1024x4096_S1024x4096 := by
    simp only [V, hostOps0]
    after_results_simp
    rfl
  rw [e]
  exact ValueIdx.shapeCast_1ab_ab_apply _ _ r j

theorem in_v14 (r : Fin 512) (j : Fin 1024) : (V m c main_v14 : S512x1024.Idx → EReal) (ix2 r j) = m ((c : Thread nD τ).loc main_arg9) (ix3 0 r j) := by
  have e : (V m c main_v14 : S512x1024.Idx → EReal) = shapeCast S512x1024 (m ((c : Thread nD τ).loc main_arg9)) shapeCasts_S1x512x1024_S512x1024 := by
    simp only [V, hostOps0]
    after_results_simp
    rfl
  rw [e]
  exact ValueIdx.shapeCast_1ab_ab_apply _ _ r j

theorem in_v15 (r : Fin 512) (j : Fin 1024) : (V m c main_v15 : S512x1024.Idx → EReal) (ix2 r j) = m ((c : Thread nD τ).loc main_arg10) (ix3 0 r j) := by
  have e : (V m c main_v15 : S512x1024.Idx → EReal) = shapeCast S512x1024 (m ((c : Thread nD τ).loc main_arg10)) shapeCasts_S1x512x1024_S512x1024 := by
    simp only [V, hostOps0]
    after_results_simp
    rfl
  rw [e]
  exact ValueIdx.shapeCast_1ab_ab_apply _ _ r j

theorem in_v16 (r : Fin 1024) (j : Fin 1024) : (V m c main_v16 : S1024x1024.Idx → EReal) (ix2 r j) = m ((c : Thread nD τ).loc main_arg11) (ix3 0 r j) := by
  have e : (V m c main_v16 : S1024x1024.Idx → EReal) = shapeCast S1024x1024 (m ((c : Thread nD τ).loc main_arg11)) shapeCasts_S1x1024x1024_S1024x1024 := by
    simp only [V, hostOps0]
    after_results_simp
    rfl
  rw [e]
  exact ValueIdx.shapeCast_1ab_ab_apply _ _ r j

theorem in_v17 (r : Fin 512) (j : Fin 512) : (V m c main_v17 : S512x512.Idx → EReal) (ix2 r j) = m ((c : Thread nD τ).loc main_arg12) (ix3 0 r j) := by
  have e : (V m c main_v17 : S512x512.Idx → EReal) = shapeCast S512x512 (m ((c : Thread nD τ).loc main_arg12)) shapeCasts_S1x512x512_S512x512 := by
    simp only [V, hostOps0]
    after_results_simp
    rfl
  rw [e]
  exact ValueIdx.shapeCast_1ab_ab_apply _ _ r j

theorem idx_0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- A point's block of the tokens is 32 tokens of every sequence. -/
theorem blk0 (t : Fin cfg0.N) (b : Fin 16) (s : Fin 32) (k : Fin 1024) (i : Fin 2048) (hi : i.val = t.val * 32 + s.val) :
    (iblk m c 0 t : S16x32x1024.Idx → EReal) (ix3 b s k) = m ((c : Thread nD τ).loc main_arg0) (ix3 b i k) := by
  show V m c main_arg0 ((win0_0.rect t).idx (ix3 b s k)) = _
  rw [V_main_arg0]
  refine congrArg _ (funext fun a => Fin.ext ?_)
  match a with
  | ⟨0, _⟩ => show win0_0.index t 0 * 16 + 1 * b.val = b.val; rw [(idx_0 t).1]; omega
  | ⟨1, _⟩ => show win0_0.index t 1 * 32 + 1 * s.val = i.val; rw [(idx_0 t).2.1]; omega
  | ⟨2, _⟩ => show win0_0.index t 2 * 1024 + 1 * k.val = k.val; rw [(idx_0 t).2.2]; omega

theorem idx_1 : ∀ t : Fin cfg0.N, win0_1.index t 0 = 0 ∧ win0_1.index t 1 = 0 :=
  (by decide +kernel : ∀ t : Fin grid0.N, win0_1.index t 0 = 0 ∧ win0_1.index t 1 = 0)

theorem whole_1 (t : Fin cfg0.N) : (iblk m c 1 t : S16x1024.Idx → EReal) = V m c main_arg1 := by
  funext j
  show V m c main_arg1 ((win0_1.rect t).idx j) = _
  refine congrArg _ (funext fun a => Fin.ext ?_)
  match a with
  | ⟨0, _⟩ => show win0_1.index t 0 * _ + 1 * (j 0).val = (j 0).val; rw [(idx_1 t).1]; omega
  | ⟨1, _⟩ => show win0_1.index t 1 * _ + 1 * (j 1).val = (j 1).val; rw [(idx_1 t).2]; omega

theorem idx_2 : ∀ t : Fin cfg0.N, win0_2.index t 0 = 0 ∧ win0_2.index t 1 = 0 :=
  (by decide +kernel : ∀ t : Fin grid0.N, win0_2.index t 0 = 0 ∧ win0_2.index t 1 = 0)

theorem whole_2 (t : Fin cfg0.N) : (iblk m c 2 t : S1x1024.Idx → EReal) = V m c main_v1 := by
  funext j
  show V m c main_v1 ((win0_2.rect t).idx j) = _
  refine congrArg _ (funext fun a => Fin.ext ?_)
  match a with
  | ⟨0, _⟩ => show win0_2.index t 0 * _ + 1 * (j 0).val = (j 0).val; rw [(idx_2 t).1]; omega
  | ⟨1, _⟩ => show win0_2.index t 1 * _ + 1 * (j 1).val = (j 1).val; rw [(idx_2 t).2]; omega

theorem idx_3 : ∀ t : Fin cfg0.N, win0_3.index t 0 = 0 ∧ win0_3.index t 1 = 0 :=
  (by decide +kernel : ∀ t : Fin grid0.N, win0_3.index t 0 = 0 ∧ win0_3.index t 1 = 0)

theorem whole_3 (t : Fin cfg0.N) : (iblk m c 3 t : S1024x5632.Idx → EReal) = V m c main_v5 := by
  funext j
  show V m c main_v5 ((win0_3.rect t).idx j) = _
  refine congrArg _ (funext fun a => Fin.ext ?_)
  match a with
  | ⟨0, _⟩ => show win0_3.index t 0 * _ + 1 * (j 0).val = (j 0).val; rw [(idx_3 t).1]; omega
  | ⟨1, _⟩ => show win0_3.index t 1 * _ + 1 * (j 1).val = (j 1).val; rw [(idx_3 t).2]; omega

theorem idx_4 : ∀ t : Fin cfg0.N, win0_4.index t 0 = 0 ∧ win0_4.index t 1 = 0 :=
  (by decide +kernel : ∀ t : Fin grid0.N, win0_4.index t 0 = 0 ∧ win0_4.index t 1 = 0)

theorem whole_4 (t : Fin cfg0.N) : (iblk m c 4 t : S2816x1024.Idx → EReal) = V m c main_v7 := by
  funext j
  show V m c main_v7 ((win0_4.rect t).idx j) = _
  refine congrArg _ (funext fun a => Fin.ext ?_)
  match a with
  | ⟨0, _⟩ => show win0_4.index t 0 * _ + 1 * (j 0).val = (j 0).val; rw [(idx_4 t).1]; omega
  | ⟨1, _⟩ => show win0_4.index t 1 * _ + 1 * (j 1).val = (j 1).val; rw [(idx_4 t).2]; omega

theorem idx_5 : ∀ t : Fin cfg0.N, win0_5.index t 0 = 0 ∧ win0_5.index t 1 = 0 :=
  (by decide +kernel : ∀ t : Fin grid0.N, win0_5.index t 0 = 0 ∧ win0_5.index t 1 = 0)

theorem whole_5 (t : Fin cfg0.N) : (iblk m c 5 t : S1x1024.Idx → EReal) = V m c main_v3 := by
  funext j
  show V m c main_v3 ((win0_5.rect t).idx j) = _
  refine congrArg _ (funext fun a => Fin.ext ?_)
  match a with
  | ⟨0, _⟩ => show win0_5.index t 0 * _ + 1 * (j 0).val = (j 0).val; rw [(idx_5 t).1]; omega
  | ⟨1, _⟩ => show win0_5.index t 1 * _ + 1 * (j 1).val = (j 1).val; rw [(idx_5 t).2]; omega

theorem idx_6 : ∀ t : Fin cfg0.N, win0_6.index t 0 = 0 ∧ win0_6.index t 1 = 0 :=
  (by decide +kernel : ∀ t : Fin grid0.N, win0_6.index t 0 = 0 ∧ win0_6.index t 1 = 0)

theorem whole_6 (t : Fin cfg0.N) : (iblk m c 6 t : S1024x2048.Idx → EReal) = V m c main_v10 := by
  funext j
  show V m c main_v10 ((win0_6.rect t).idx j) = _
  refine congrArg _ (funext fun a => Fin.ext ?_)
  match a with
  | ⟨0, _⟩ => show win0_6.index t 0 * _ + 1 * (j 0).val = (j 0).val; rw [(idx_6 t).1]; omega
  | ⟨1, _⟩ => show win0_6.index t 1 * _ + 1 * (j 1).val = (j 1).val; rw [(idx_6 t).2]; omega

theorem blk1 (t : Fin cfg0.N) : (iblk m c 1 t : S16x1024.Idx → EReal) = m ((c : Thread nD τ).loc main_arg1) := by
  rw [whole_1, V_main_arg1]
theorem blk2 (t : Fin cfg0.N) : (iblk m c 2 t : S1x1024.Idx → EReal) = m ((c : Thread nD τ).loc main_arg2) := by
  rw [whole_2, in_v1]
theorem blk3 (t : Fin cfg0.N) : mat (iblk m c 3 t : S1024x5632.Idx → EReal) = mat1 (m ((c : Thread nD τ).loc main_arg3)) := by
  rw [whole_3]; funext r j; exact in_v5 m c r j
theorem blk4 (t : Fin cfg0.N) : mat (iblk m c 4 t : S2816x1024.Idx → EReal) = mat1 (m ((c : Thread nD τ).loc main_arg4)) := by
  rw [whole_4]; funext r j; exact in_v7 m c r j
theorem blk5 (t : Fin cfg0.N) : (iblk m c 5 t : S1x1024.Idx → EReal) = m ((c : Thread nD τ).loc main_arg5) := by
  rw [whole_5, in_v3]
theorem blk6 (t : Fin cfg0.N) : mat (iblk m c 6 t : S1024x2048.Idx → EReal) = projCols (m ((c : Thread nD τ).loc main_arg6)) := by
  rw [whole_6]; funext r j; exact in_v10 m c r j

theorem idx_7 : ∀ t : Fin cfg0.N, win0_7.index t 0 = min t.val 63 ∧ win0_7.index t 1 = 0 :=
  (by decide +kernel : ∀ t : Fin grid0.N, win0_7.index t 0 = min t.val 63 ∧ win0_7.index t 1 = 0)

theorem blk7 (t : Fin cfg0.N) (r : Fin 16) (j : Fin 5632) (i : Fin 1024) (hi : i.val = min t.val 63 * 16 + r.val) :
    (iblk m c 7 t : S16x5632.Idx → EReal) (ix2 r j) = m ((c : Thread nD τ).loc main_arg7) (ix3 0 i j) := by
  rw [← in_v11 m c i]
  show V m c main_v11 ((win0_7.rect t).idx (ix2 r j)) = _
  refine congrArg _ (funext fun a => Fin.ext ?_)
  match a with
  | ⟨0, _⟩ => show win0_7.index t 0 * 16 + 1 * r.val = i.val; rw [(idx_7 t).1]; omega
  | ⟨1, _⟩ => show win0_7.index t 1 * 5632 + 1 * j.val = j.val; rw [(idx_7 t).2]; omega

theorem idx_8 : ∀ t : Fin cfg0.N, win0_8.index t 0 = min t.val 43 ∧ win0_8.index t 1 = 0 :=
  (by decide +kernel : ∀ t : Fin grid0.N, win0_8.index t 0 = min t.val 43 ∧ win0_8.index t 1 = 0)

theorem blk8 (t : Fin cfg0.N) (r : Fin 64) (j : Fin 1024) (i : Fin 2816) (hi : i.val = min t.val 43 * 64 + r.val) :
    (iblk m c 8 t : S64x1024.Idx → EReal) (ix2 r j) = m ((c : Thread nD τ).loc main_arg8) (ix3 0 i j) := by
  rw [← in_v12 m c i]
  show V m c main_v12 ((win0_8.rect t).idx (ix2 r j)) = _
  refine congrArg _ (funext fun a => Fin.ext ?_)
  match a with
  | ⟨0, _⟩ => show win0_8.index t 0 * 64 + 1 * r.val = i.val; rw [(idx_8 t).1]; omega
  | ⟨1, _⟩ => show win0_8.index t 1 * 1024 + 1 * j.val = j.val; rw [(idx_8 t).2]; omega

theorem idx_9 : ∀ t : Fin cfg0.N, win0_9.index t 0 = min t.val 63 ∧ win0_9.index t 1 = 1 :=
  (by decide +kernel : ∀ t : Fin grid0.N, win0_9.index t 0 = min t.val 63 ∧ win0_9.index t 1 = 1)

theorem blk9 (t : Fin cfg0.N) (r : Fin 16) (j : Fin 2048) (i : Fin 1024) (hi : i.val = min t.val 63 * 16 + r.val) :
    (iblk m c 9 t : S16x2048.Idx → EReal) (ix2 r j) = m ((c : Thread nD τ).loc main_arg6) (ix3 0 i (⟨2048 + j.val, by omega⟩ : Fin 4096)) := by
  rw [← in_v13 m c i]
  show V m c main_v13 ((win0_9.rect t).idx (ix2 r j)) = _
  refine congrArg _ (funext fun a => Fin.ext ?_)
  match a with
  | ⟨0, _⟩ => show win0_9.index t 0 * 16 + 1 * r.val = i.val; rw [(idx_9 t).1]; omega
  | ⟨1, _⟩ => show win0_9.index t 1 * 2048 + 1 * j.val = 2048 + j.val; rw [(idx_9 t).2]; omega

theorem idx_10 : ∀ t : Fin cfg0.N, win0_10.index t 0 = min t.val 31 ∧ win0_10.index t 1 = 0 :=
  (by decide +kernel : ∀ t : Fin grid0.N, win0_10.index t 0 = min t.val 31 ∧ win0_10.index t 1 = 0)

theorem blk10 (t : Fin cfg0.N) (r : Fin 16) (j : Fin 1024) (i : Fin 512) (hi : i.val = min t.val 31 * 16 + r.val) :
    (iblk m c 10 t : S16x1024.Idx → EReal) (ix2 r j) = m ((c : Thread nD τ).loc main_arg9) (ix3 0 i j) := by
  rw [← in_v14 m c i]
  show V m c main_v14 ((win0_10.rect t).idx (ix2 r j)) = _
  refine congrArg _ (funext fun a => Fin.ext ?_)
  match a with
  | ⟨0, _⟩ => show win0_10.index t 0 * 16 + 1 * r.val = i.val; rw [(idx_10 t).1]; omega
  | ⟨1, _⟩ => show win0_10.index t 1 * 1024 + 1 * j.val = j.val; rw [(idx_10 t).2]; omega

theorem idx_11 : ∀ t : Fin cfg0.N, win0_11.index t 0 = min t.val 31 ∧ win0_11.index t 1 = 0 :=
  (by decide +kernel : ∀ t : Fin grid0.N, win0_11.index t 0 = min t.val 31 ∧ win0_11.index t 1 = 0)

theorem blk11 (t : Fin cfg0.N) (r : Fin 16) (j : Fin 1024) (i : Fin 512) (hi : i.val = min t.val 31 * 16 + r.val) :
    (iblk m c 11 t : S16x1024.Idx → EReal) (ix2 r j) = m ((c : Thread nD τ).loc main_arg10) (ix3 0 i j) := by
  rw [← in_v15 m c i]
  show V m c main_v15 ((win0_11.rect t).idx (ix2 r j)) = _
  refine congrArg _ (funext fun a => Fin.ext ?_)
  match a with
  | ⟨0, _⟩ => show win0_11.index t 0 * 16 + 1 * r.val = i.val; rw [(idx_11 t).1]; omega
  | ⟨1, _⟩ => show win0_11.index t 1 * 1024 + 1 * j.val = j.val; rw [(idx_11 t).2]; omega

theorem idx_12 : ∀ t : Fin cfg0.N, win0_12.index t 0 = min t.val 63 ∧ win0_12.index t 1 = 0 :=
  (by decide +kernel : ∀ t : Fin grid0.N, win0_12.index t 0 = min t.val 63 ∧ win0_12.index t 1 = 0)

theorem blk12 (t : Fin cfg0.N) (r : Fin 16) (j : Fin 1024) (i : Fin 1024) (hi : i.val = min t.val 63 * 16 + r.val) :
    (iblk m c 12 t : S16x1024.Idx → EReal) (ix2 r j) = m ((c : Thread nD τ).loc main_arg11) (ix3 0 i j) := by
  rw [← in_v16 m c i]
  show V m c main_v16 ((win0_12.rect t).idx (ix2 r j)) = _
  refine congrArg _ (funext fun a => Fin.ext ?_)
  match a with
  | ⟨0, _⟩ => show win0_12.index t 0 * 16 + 1 * r.val = i.val; rw [(idx_12 t).1]; omega
  | ⟨1, _⟩ => show win0_12.index t 1 * 1024 + 1 * j.val = j.val; rw [(idx_12 t).2]; omega

theorem idx_13 : ∀ t : Fin cfg0.N, win0_13.index t 0 = min t.val 31 ∧ win0_13.index t 1 = 0 :=
  (by decide +kernel : ∀ t : Fin grid0.N, win0_13.index t 0 = min t.val 31 ∧ win0_13.index t 1 = 0)

theorem blk13 (t : Fin cfg0.N) (r : Fin 16) (j : Fin 512) (i : Fin 512) (hi : i.val = min t.val 31 * 16 + r.val) :
    (iblk m c 13 t : S16x512.Idx → EReal) (ix2 r j) = m ((c : Thread nD τ).loc main_arg12) (ix3 0 i j) := by
  rw [← in_v17 m c i]
  show V m c main_v17 ((win0_13.rect t).idx (ix2 r j)) = _
  refine congrArg _ (funext fun a => Fin.ext ?_)
  match a with
  | ⟨0, _⟩ => show win0_13.index t 0 * 16 + 1 * r.val = i.val; rw [(idx_13 t).1]; omega
  | ⟨1, _⟩ => show win0_13.index t 1 * 512 + 1 * j.val = j.val; rw [(idx_13 t).2]; omega

end Cert.Kernel2Ideal.Row

end
-- ==== Proof.ProjKernelRow.lean ====
module

public import proofs.«01_k».proof.Proof.ProjMath
public import proofs.«01_k».proof.Proof.Gen.Kernel2Ideal.Skeleton

/-!
The block program of the first feed-forward call, read at an index: the residual row plus half its gated
feed-forward network, and the four projections of its norm.
-/

@[expose] public section

set_option maxRecDepth 16384

noncomputable section

namespace Cert.Kernel2Ideal.Row

open Cert.Kernel2Ideal Cert.Kernel2Ideal.Gen Idealize.ShloMosaic Idealize.SL.Sem RowMath

/-- A token's row of the residual stream after the feed-forward network. -/
theorem pay9_apply (x : Vec Ideal S16x32x1024 .f32) (g : Vec Ideal S1x1024 .f32) (wg wv : Vec Ideal S1024x2816 .bf16)
    (wo : Vec Ideal S2816x1024 .bf16) (r : Fin 512) (c : Fin 1024) :
    k0_pay9 (F := Ideal) x g wg wv wo (ix2 r c) =
      x (ix3 (⟨r.val / 32, by omega⟩ : Fin 16) (⟨r.val % 32, by omega⟩ : Fin 32) c) + Ideal.ofBits .f32 0x3F000000#32 * ∑ j : Fin 2816,
        silu (∑ k, rms (row3 x (⟨r.val / 32, by omega⟩ : Fin 16) (⟨r.val % 32, by omega⟩ : Fin 32)) (row g 0) k * wg (ix2 k j))
        * (∑ k, rms (row3 x (⟨r.val / 32, by omega⟩ : Fin 16) (⟨r.val % 32, by omega⟩ : Fin 32)) (row g 0) k * wv (ix2 k j)) * wo (ix2 j c) := by
  simp only [← rms_dot, silu]
  pointwise [k0_pay9]
  rfl

/-- A meta token's row of the residual stream after the feed-forward network. -/
theorem pay2_apply (x : Vec Ideal S16x1024 .f32) (g : Vec Ideal S1x1024 .f32) (wg wv : Vec Ideal S1024x2816 .bf16)
    (wo : Vec Ideal S2816x1024 .bf16) (r : Fin 16) (c : Fin 1024) :
    k0_pay2 (F := Ideal) x g wg wv wo (ix2 r c) =
      x (ix2 r c) + Ideal.ofBits .f32 0x3F000000#32 * ∑ j : Fin 2816,
        silu (∑ k, rms (row x r) (row g 0) k * wg (ix2 k j)) * (∑ k, rms (row x r) (row g 0) k * wv (ix2 k j)) * wo (ix2 j c) := by
  simp only [← rms_dot, silu]
  pointwise [k0_pay2]
  rfl

/-- That row times the second norm's gain. -/
theorem pay3_apply (x : Vec Ideal S16x1024 .f32) (g : Vec Ideal S1x1024 .f32) (wg wv : Vec Ideal S1024x2816 .bf16)
    (wo : Vec Ideal S2816x1024 .bf16) (gm : Vec Ideal S1x1024 .f32) (r : Fin 16) (c : Fin 1024) :
    k0_pay3 (F := Ideal) x g wg wv wo gm (ix2 r c) = k0_pay2 (F := Ideal) x g wg wv wo (ix2 r c) * gm (ix2 0 c) := by
  pointwise [k0_pay3]

/-- The projections of a meta token's normalized row. -/
theorem pay4_apply (h : FVec Ideal S16x1024 .f32) (n : FVec Ideal S16x1024 .bf16) (gm : Fin 1024 → EReal) (w : Vec Ideal S1024x2048 .bf16)
    (hn : ∀ r k, n (ix2 r k) = h (ix2 r k) * gm k) (r : Fin 16) (j : Fin 2048) :
    k0_pay4 (F := Ideal) h n w (ix2 r j) = proj (row h r) gm (mat w) j := by
  unfold proj
  simp only [← rms_dot]
  pointwise [k0_pay4]
  simp only [hn]
  rfl

/-- The projections of a token's normalized row. -/
theorem pay11_apply (h : FVec Ideal S512x1024 .f32) (gm : Vec Ideal S1x1024 .f32) (w : Vec Ideal S1024x2048 .bf16) (r : Fin 512) (j : Fin 2048) :
    k0_pay11 (F := Ideal) h gm w (ix2 r j) = proj (row h r) (row gm 0) (mat w) j := by
  unfold proj
  simp only [← rms_dot]
  pointwise [k0_pay11]
  rfl

theorem pay10_apply (h : FVec Ideal S512x1024 .f32) (b : Fin 16) (s : Fin 32) (c : Fin 1024) :
    k0_pay10 (F := Ideal) h (ix3 b s c) = h (ix2 (⟨b.val * 32 + s.val, by omega⟩ : Fin 512) c) := by
  pointwise [k0_pay10]

/-- The recurrence's input, rows ordered by time. -/
theorem pay12_apply (h : FVec Ideal S512x1024 .f32) (gm : Vec Ideal S1x1024 .f32) (w : Vec Ideal S1024x2048 .bf16) (r j : Fin 512) :
    k0_pay12 (F := Ideal) h gm w (ix2 r j) = k0_pay11 (F := Ideal) h gm w (ix2 (⟨r.val % 16 * 32 + r.val / 16, by omega⟩ : Fin 512) (uCol j)) := by
  pointwise [k0_pay12]

theorem pay13_apply (h : FVec Ideal S512x1024 .f32) (gm : Vec Ideal S1x1024 .f32) (w : Vec Ideal S1024x2048 .bf16) (b : Fin 16) (s : Fin 32) (j : Fin 512) :
    k0_pay13 (F := Ideal) h gm w (ix3 b s j) =
      k0_pay11 (F := Ideal) h gm w (ix2 (⟨b.val * 32 + s.val, by omega⟩ : Fin 512) (qCol j)) * Ideal.ofBits .f32 0x3E000000#32 := by
  pointwise [k0_pay13]

theorem pay14_apply (h : FVec Ideal S512x1024 .f32) (gm : Vec Ideal S1x1024 .f32) (w : Vec Ideal S1024x2048 .bf16) (b : Fin 16) (s : Fin 32) (j : Fin 512) :
    k0_pay14 (F := Ideal) h gm w (ix3 b s j) = k0_pay11 (F := Ideal) h gm w (ix2 (⟨b.val * 32 + s.val, by omega⟩ : Fin 512) (kCol j)) := by
  pointwise [k0_pay14]

theorem pay16_apply (h : FVec Ideal S512x1024 .f32) (gm : Vec Ideal S1x1024 .f32) (w : Vec Ideal S1024x2048 .bf16) (b : Fin 16) (s : Fin 32) (j : Fin 512) :
    k0_pay16 (F := Ideal) (k0_pay15 h gm w) (ix3 b s j) = k0_pay11 (F := Ideal) h gm w (ix2 (⟨b.val * 32 + s.val, by omega⟩ : Fin 512) (vCol j)) := by
  pointwise [k0_pay16, k0_pay15]

theorem pay5_apply (h : FVec Ideal S16x1024 .f32) (n : FVec Ideal S16x1024 .bf16) (w : Vec Ideal S1024x2048 .bf16) (r : Fin 16) (j : Fin 512) :
    k0_pay5 (F := Ideal) h n w (ix2 r j) = k0_pay4 (F := Ideal) h n w (ix2 r (uCol j)) := by
  pointwise [k0_pay5]

theorem pay6_apply (h : FVec Ideal S16x1024 .f32) (n : FVec Ideal S16x1024 .bf16) (w : Vec Ideal S1024x2048 .bf16) (r : Fin 16) (j : Fin 512) :
    k0_pay6 (F := Ideal) h n w (ix2 r j) = k0_pay4 (F := Ideal) h n w (ix2 r (qCol j)) * Ideal.ofBits .f32 0x3E000000#32 := by
  pointwise [k0_pay6]

theorem pay7_apply (h : FVec Ideal S16x1024 .f32) (n : FVec Ideal S16x1024 .bf16) (w : Vec Ideal S1024x2048 .bf16) (r : Fin 16) (j : Fin 512) :
    k0_pay7 (F := Ideal) h n w (ix2 r j) = k0_pay4 (F := Ideal) h n w (ix2 r (kCol j)) := by
  pointwise [k0_pay7]

theorem pay8_apply (h : FVec Ideal S16x1024 .f32) (n : FVec Ideal S16x1024 .bf16) (w : Vec Ideal S1024x2048 .bf16) (r : Fin 16) (j : Fin 512) :
    k0_pay8 (F := Ideal) h n w (ix2 r j) = k0_pay4 (F := Ideal) h n w (ix2 r (vCol j)) := by
  pointwise [k0_pay8]

end Cert.Kernel2Ideal.Row

end
-- ==== Proof.ProjBodyIdeal.lean ====
module

public import proofs.«01_k».proof.Proof.Gen.Kernel2Ideal.Frame
public import proofs.«01_k».proof.Proof.Gen.Kernel2Ideal.Skeleton

/-!
The block program of the first feed-forward call: what it leaves in its output buffers, at the grid's first
point (where it also computes the meta tokens' rows) and at every later one.
-/

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev q0 : Rect S1024x5632 := Rect.unit (s := S1024x5632) ![0, 0] S1024x2816.size inb_S1024x5632_S1024x2816_0_0
abbrev q1 : Rect S1024x5632 := Rect.unit (s := S1024x5632) ![0, 2816] S1024x2816.size inb_S1024x5632_S1024x2816_0_2816
abbrev q2 : Rect S16x32x1024 := Rect.unit (s := S16x32x1024) ![0, 0, 0] S16x32x1024.size inb_S16x32x1024_S16x32x1024_0_0_0
abbrev q3 : Rect S1x1024 := Rect.unit (s := S1x1024) ![0, 0] S1x1024.size inb_S1x1024_S1x1024_0_0
abbrev q4 : Rect S2816x1024 := Rect.unit (s := S2816x1024) ![0, 0] S2816x1024.size inb_S2816x1024_S2816x1024_0_0
abbrev q5 : Rect S16x1024 := Rect.unit (s := S16x1024) ![0, 0] S16x1024.size inb_S16x1024_S16x1024_0_0
abbrev q6 : Rect S1024x2048 := Rect.unit (s := S1024x2048) ![0, 0] S1024x2048.size inb_S1024x2048_S1024x2048_0_0
abbrev q7 : Rect S16x5632 := Rect.unit (s := S16x5632) ![0, 0] S16x5632.size inb_S16x5632_S16x5632_0_0
abbrev q8 : Rect S64x1024 := Rect.unit (s := S64x1024) ![0, 0] S64x1024.size inb_S64x1024_S64x1024_0_0
abbrev q9 : Rect S16x2048 := Rect.unit (s := S16x2048) ![0, 0] S16x2048.size inb_S16x2048_S16x2048_0_0
abbrev q10 : Rect S16x512 := Rect.unit (s := S16x512) ![0, 0] S16x512.size inb_S16x512_S16x512_0_0
abbrev q11 : Rect S512x512 := Rect.unit (s := S512x512) ![0, 0] S512x512.size inb_S512x512_S512x512_0_0
abbrev q12 : Rect S16x32x512 := Rect.unit (s := S16x32x512) ![0, 0, 0] S16x32x512.size inb_S16x32x512_S16x32x512_0_0_0

/-- What the body stores in window 14's buffer. -/
def store14 (x0 : Vec F S16x32x1024 .f32) (x2 : Vec F S1x1024 .f32) (x3 : Vec F S1024x5632 .bf16) (x4 : Vec F S2816x1024 .bf16) : Vec F S16x32x1024 .f32 :=
  View.canon [⟨q2, k0_pay10 (k0_pay9 (View.ld x0 q2) (View.ld x2 q3) (View.ld x3 q0) (View.ld x3 q1) (View.ld x4 q4))⟩]

theorem covers14 (p : Vec F S16x32x1024 .f32) (y : S16x32x1024.Idx) :
    ∃ pc ∈ ([⟨q2, p⟩] : List (View.Piece (Elt F) S16x32x1024 .f32)), y ∈ pc.1.set :=
  View.cover_of_tiled [⟨q2, p⟩] S16x32x1024.size (by rfl) y

/-- What the body stores in window 15's buffer. -/
def store15 (x0 : Vec F S16x32x1024 .f32) (x2 : Vec F S1x1024 .f32) (x3 : Vec F S1024x5632 .bf16) (x4 : Vec F S2816x1024 .bf16) (x5 : Vec F S1x1024 .f32) (x6 : Vec F S1024x2048 .bf16) : Vec F S512x512 .f32 :=
  View.canon [⟨q11, k0_pay12 (k0_pay9 (View.ld x0 q2) (View.ld x2 q3) (View.ld x3 q0) (View.ld x3 q1) (View.ld x4 q4)) (View.ld x5 q3) (View.ld x6 q6)⟩]

theorem covers15 (p : Vec F S512x512 .f32) (y : S512x512.Idx) :
    ∃ pc ∈ ([⟨q11, p⟩] : List (View.Piece (Elt F) S512x512 .f32)), y ∈ pc.1.set :=
  View.cover_of_tiled [⟨q11, p⟩] S512x512.size (by rfl) y

/-- What the body stores in window 16's buffer. -/
def store16 (x0 : Vec F S16x32x1024 .f32) (x2 : Vec F S1x1024 .f32) (x3 : Vec F S1024x5632 .bf16) (x4 : Vec F S2816x1024 .bf16) (x5 : Vec F S1x1024 .f32) (x6 : Vec F S1024x2048 .bf16) : Vec F S16x32x512 .bf16 :=
  View.canon [⟨q12, k0_pay13 (k0_pay9 (View.ld x0 q2) (View.ld x2 q3) (View.ld x3 q0) (View.ld x3 q1) (View.ld x4 q4)) (View.ld x5 q3) (View.ld x6 q6)⟩]

theorem covers16 (p : Vec F S16x32x512 .bf16) (y : S16x32x512.Idx) :
    ∃ pc ∈ ([⟨q12, p⟩] : List (View.Piece (Elt F) S16x32x512 .bf16)), y ∈ pc.1.set :=
  View.cover_of_tiled [⟨q12, p⟩] S16x32x512.size (by rfl) y

/-- What the body stores in window 17's buffer. -/
def store17 (x0 : Vec F S16x32x1024 .f32) (x2 : Vec F S1x1024 .f32) (x3 : Vec F S1024x5632 .bf16) (x4 : Vec F S2816x1024 .bf16) (x5 : Vec F S1x1024 .f32) (x6 : Vec F S1024x2048 .bf16) : Vec F S16x32x512 .bf16 :=
  View.canon [⟨q12, k0_pay14 (k0_pay9 (View.ld x0 q2) (View.ld x2 q3) (View.ld x3 q0) (View.ld x3 q1) (View.ld x4 q4)) (View.ld x5 q3) (View.ld x6 q6)⟩]

theorem covers17 (p : Vec F S16x32x512 .bf16) (y : S16x32x512.Idx) :
    ∃ pc ∈ ([⟨q12, p⟩] : List (View.Piece (Elt F) S16x32x512 .bf16)), y ∈ pc.1.set :=
  View.cover_of_tiled [⟨q12, p⟩] S16x32x512.size (by rfl) y

/-- What the body stores in window 18's buffer. -/
def store18 (x0 : Vec F S16x32x1024 .f32) (x2 : Vec F S1x1024 .f32) (x3 : Vec F S1024x5632 .bf16) (x4 : Vec F S2816x1024 .bf16) (x5 : Vec F S1x1024 .f32) (x6 : Vec F S1024x2048 .bf16) : Vec F S16x32x512 .bf16 :=
  View.canon [⟨q12, k0_pay16 (k0_pay15 (k0_pay9 (View.ld x0 q2) (View.ld x2 q3) (View.ld x3 q0) (View.ld x3 q1) (View.ld x4 q4)) (View.ld x5 q3) (View.ld x6 q6))⟩]

theorem covers18 (p : Vec F S16x32x512 .bf16) (y : S16x32x512.Idx) :
    ∃ pc ∈ ([⟨q12, p⟩] : List (View.Piece (Elt F) S16x32x512 .bf16)), y ∈ pc.1.set :=
  View.cover_of_tiled [⟨q12, p⟩] S16x32x512.size (by rfl) y

/-- What the body stores in window 19's buffer. -/
def store19 (x1 : Vec F S16x1024 .f32) (x2 : Vec F S1x1024 .f32) (x3 : Vec F S1024x5632 .bf16) (x4 : Vec F S2816x1024 .bf16) (x5 : Vec F S1x1024 .f32) (x6 : Vec F S1024x2048 .bf16) : Vec F S16x512 .f32 :=
  View.canon [⟨q10, k0_pay5 (k0_pay2 (View.ld x1 q5) (View.ld x2 q3) (View.ld x3 q0) (View.ld x3 q1) (View.ld x4 q4)) (k0_pay3 (View.ld x1 q5) (View.ld x2 q3) (View.ld x3 q0) (View.ld x3 q1) (View.ld x4 q4) (View.ld x5 q3)) (View.ld x6 q6)⟩]

theorem covers19 (p : Vec F S16x512 .f32) (y : S16x512.Idx) :
    ∃ pc ∈ ([⟨q10, p⟩] : List (View.Piece (Elt F) S16x512 .f32)), y ∈ pc.1.set :=
  View.cover_of_tiled [⟨q10, p⟩] S16x512.size (by rfl) y

/-- What the body stores in window 20's buffer. -/
def store20 (x1 : Vec F S16x1024 .f32) (x2 : Vec F S1x1024 .f32) (x3 : Vec F S1024x5632 .bf16) (x4 : Vec F S2816x1024 .bf16) (x5 : Vec F S1x1024 .f32) (x6 : Vec F S1024x2048 .bf16) : Vec F S16x512 .bf16 :=
  View.canon [⟨q10, k0_pay6 (k0_pay2 (View.ld x1 q5) (View.ld x2 q3) (View.ld x3 q0) (View.ld x3 q1) (View.ld x4 q4)) (k0_pay3 (View.ld x1 q5) (View.ld x2 q3) (View.ld x3 q0) (View.ld x3 q1) (View.ld x4 q4) (View.ld x5 q3)) (View.ld x6 q6)⟩]

theorem covers20 (p : Vec F S16x512 .bf16) (y : S16x512.Idx) :
    ∃ pc ∈ ([⟨q10, p⟩] : List (View.Piece (Elt F) S16x512 .bf16)), y ∈ pc.1.set :=
  View.cover_of_tiled [⟨q10, p⟩] S16x512.size (by rfl) y

/-- What the body stores in window 21's buffer. -/
def store21 (x1 : Vec F S16x1024 .f32) (x2 : Vec F S1x1024 .f32) (x3 : Vec F S1024x5632 .bf16) (x4 : Vec F S2816x1024 .bf16) (x5 : Vec F S1x1024 .f32) (x6 : Vec F S1024x2048 .bf16) : Vec F S16x512 .bf16 :=
  View.canon [⟨q10, k0_pay7 (k0_pay2 (View.ld x1 q5) (View.ld x2 q3) (View.ld x3 q0) (View.ld x3 q1) (View.ld x4 q4)) (k0_pay3 (View.ld x1 q5) (View.ld x2 q3) (View.ld x3 q0) (View.ld x3 q1) (View.ld x4 q4) (View.ld x5 q3)) (View.ld x6 q6)⟩]

theorem covers21 (p : Vec F S16x512 .bf16) (y : S16x512.Idx) :
    ∃ pc ∈ ([⟨q10, p⟩] : List (View.Piece (Elt F) S16x512 .bf16)), y ∈ pc.1.set :=
  View.cover_of_tiled [⟨q10, p⟩] S16x512.size (by rfl) y

/-- What the body stores in window 22's buffer. -/
def store22 (x1 : Vec F S16x1024 .f32) (x2 : Vec F S1x1024 .f32) (x3 : Vec F S1024x5632 .bf16) (x4 : Vec F S2816x1024 .bf16) (x5 : Vec F S1x1024 .f32) (x6 : Vec F S1024x2048 .bf16) : Vec F S16x512 .bf16 :=
  View.canon [⟨q10, k0_pay8 (k0_pay2 (View.ld x1 q5) (View.ld x2 q3) (View.ld x3 q0) (View.ld x3 q1) (View.ld x4 q4)) (k0_pay3 (View.ld x1 q5) (View.ld x2 q3) (View.ld x3 q0) (View.ld x3 q1) (View.ld x4 q4) (View.ld x5 q3)) (View.ld x6 q6)⟩]

theorem covers22 (p : Vec F S16x512 .bf16) (y : S16x512.Idx) :
    ∃ pc ∈ ([⟨q10, p⟩] : List (View.Piece (Elt F) S16x512 .bf16)), y ∈ pc.1.set :=
  View.cover_of_tiled [⟨q10, p⟩] S16x512.size (by rfl) y

/-- What the body stores in window 23's buffer. -/
def store23 (x7 : Vec F S16x5632 .f32) : Vec F S16x5632 .bf16 :=
  View.canon [⟨q7, k0_pay17 (View.ld x7 q7)⟩]

theorem covers23 (p : Vec F S16x5632 .bf16) (y : S16x5632.Idx) :
    ∃ pc ∈ ([⟨q7, p⟩] : List (View.Piece (Elt F) S16x5632 .bf16)), y ∈ pc.1.set :=
  View.cover_of_tiled [⟨q7, p⟩] S16x5632.size (by rfl) y

/-- What the body stores in window 24's buffer. -/
def store24 (x8 : Vec F S64x1024 .f32) : Vec F S64x1024 .bf16 :=
  View.canon [⟨q8, k0_pay18 (View.ld x8 q8)⟩]

theorem covers24 (p : Vec F S64x1024 .bf16) (y : S64x1024.Idx) :
    ∃ pc ∈ ([⟨q8, p⟩] : List (View.Piece (Elt F) S64x1024 .bf16)), y ∈ pc.1.set :=
  View.cover_of_tiled [⟨q8, p⟩] S64x1024.size (by rfl) y

/-- What the body stores in window 25's buffer. -/
def store25 (x9 : Vec F S16x2048 .f32) : Vec F S16x2048 .bf16 :=
  View.canon [⟨q9, k0_pay19 (View.ld x9 q9)⟩]

theorem covers25 (p : Vec F S16x2048 .bf16) (y : S16x2048.Idx) :
    ∃ pc ∈ ([⟨q9, p⟩] : List (View.Piece (Elt F) S16x2048 .bf16)), y ∈ pc.1.set :=
  View.cover_of_tiled [⟨q9, p⟩] S16x2048.size (by rfl) y

/-- What the body stores in window 26's buffer. -/
def store26 (x10 : Vec F S16x1024 .f32) : Vec F S16x1024 .bf16 :=
  View.canon [⟨q5, k0_pay20 (View.ld x10 q5)⟩]

theorem covers26 (p : Vec F S16x1024 .bf16) (y : S16x1024.Idx) :
    ∃ pc ∈ ([⟨q5, p⟩] : List (View.Piece (Elt F) S16x1024 .bf16)), y ∈ pc.1.set :=
  View.cover_of_tiled [⟨q5, p⟩] S16x1024.size (by rfl) y

/-- What the body stores in window 27's buffer. -/
def store27 (x11 : Vec F S16x1024 .f32) : Vec F S16x1024 .bf16 :=
  View.canon [⟨q5, k0_pay21 (View.ld x11 q5)⟩]

theorem covers27 (p : Vec F S16x1024 .bf16) (y : S16x1024.Idx) :
    ∃ pc ∈ ([⟨q5, p⟩] : List (View.Piece (Elt F) S16x1024 .bf16)), y ∈ pc.1.set :=
  View.cover_of_tiled [⟨q5, p⟩] S16x1024.size (by rfl) y

/-- What the body stores in window 28's buffer. -/
def store28 (x12 : Vec F S16x1024 .f32) : Vec F S16x1024 .bf16 :=
  View.canon [⟨q5, k0_pay22 (View.ld x12 q5)⟩]

theorem covers28 (p : Vec F S16x1024 .bf16) (y : S16x1024.Idx) :
    ∃ pc ∈ ([⟨q5, p⟩] : List (View.Piece (Elt F) S16x1024 .bf16)), y ∈ pc.1.set :=
  View.cover_of_tiled [⟨q5, p⟩] S16x1024.size (by rfl) y

/-- What the body stores in window 29's buffer. -/
def store29 (x13 : Vec F S16x512 .f32) : Vec F S16x512 .bf16 :=
  View.canon [⟨q10, k0_pay1 (View.ld x13 q10)⟩]

theorem covers29 (p : Vec F S16x512 .bf16) (y : S16x512.Idx) :
    ∃ pc ∈ ([⟨q10, p⟩] : List (View.Piece (Elt F) S16x512 .bf16)), y ∈ pc.1.set :=
  View.cover_of_tiled [⟨q10, p⟩] S16x512.size (by rfl) y

set_option maxHeartbeats 8000000 in
/-- The body at the grid's first point: it also stores the meta tokens' rows. -/
theorem body_first (c : Dev nD) (E : Set ℕ) (i : grid0.Coords) (arg1 : Memref sig .tc .vmem S16x32x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S16x5632 .f32) (harg8 : arg8.IsWhole) (arg9 : Memref sig .tc .vmem S64x1024 .f32) (harg9 : arg9.IsWhole) (arg10 : Memref sig .tc .vmem S16x2048 .f32) (harg10 : arg10.IsWhole) (arg11 : Memref sig .tc .vmem S16x1024 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S16x512 .f32) (harg14 : arg14.IsWhole) (arg15 : Memref sig .tc .vmem S16x32x1024 .f32) (harg15 : arg15.IsWhole) (arg16 : Memref sig .tc .vmem S512x512 .f32) (harg16 : arg16.IsWhole) (arg17 : Memref sig .tc .vmem S16x32x512 .bf16) (harg17 : arg17.IsWhole) (arg18 : Memref sig .tc .vmem S16x32x512 .bf16) (harg18 : arg18.IsWhole) (arg19 : Memref sig .tc .vmem S16x32x512 .bf16) (harg19 : arg19.IsWhole) (arg20 : Memref sig .tc .vmem S16x512 .f32) (harg20 : arg20.IsWhole) (arg21 : Memref sig .tc .vmem S16x512 .bf16) (harg21 : arg21.IsWhole) (arg22 : Memref sig .tc .vmem S16x512 .bf16) (harg22 : arg22.IsWhole) (arg23 : Memref sig .tc .vmem S16x512 .bf16) (harg23 : arg23.IsWhole) (arg24 : Memref sig .tc .vmem S16x5632 .bf16) (harg24 : arg24.IsWhole) (arg25 : Memref sig .tc .vmem S64x1024 .bf16) (harg25 : arg25.IsWhole) (arg26 : Memref sig .tc .vmem S16x2048 .bf16) (harg26 : arg26.IsWhole) (arg27 : Memref sig .tc .vmem S16x1024 .bf16) (harg27 : arg27.IsWhole) (arg28 : Memref sig .tc .vmem S16x1024 .bf16) (harg28 : arg28.IsWhole) (arg29 : Memref sig .tc .vmem S16x1024 .bf16) (harg29 : arg29.IsWhole) (arg30 : Memref sig .tc .vmem S16x512 .bf16) (harg30 : arg30.IsWhole)
    (hc : k0_cond1 i = 1#1) (x0 : Vec F S16x32x1024 .f32) (x1 : Vec F S16x1024 .f32) (x2 : Vec F S1x1024 .f32) (x3 : Vec F S1024x5632 .bf16) (x4 : Vec F S2816x1024 .bf16) (x5 : Vec F S1x1024 .f32) (x6 : Vec F S1024x2048 .bf16) (x7 : Vec F S16x5632 .f32) (x8 : Vec F S64x1024 .f32) (x9 : Vec F S16x2048 .f32) (x10 : Vec F S16x1024 .f32) (x11 : Vec F S16x1024 .f32) (x12 : Vec F S16x1024 .f32) (x13 : Vec F S16x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (store14 x0 x2 x3 x4) ∗ owns (c : Thread nD τ) arg16 fullShare (store15 x0 x2 x3 x4 x5 x6) ∗ owns (c : Thread nD τ) arg17 fullShare (store16 x0 x2 x3 x4 x5 x6) ∗ owns (c : Thread nD τ) arg18 fullShare (store17 x0 x2 x3 x4 x5 x6) ∗ owns (c : Thread nD τ) arg19 fullShare (store18 x0 x2 x3 x4 x5 x6) ∗ owns (c : Thread nD τ) arg20 fullShare (store19 x1 x2 x3 x4 x5 x6) ∗ owns (c : Thread nD τ) arg21 fullShare (store20 x1 x2 x3 x4 x5 x6) ∗ owns (c : Thread nD τ) arg22 fullShare (store21 x1 x2 x3 x4 x5 x6) ∗ owns (c : Thread nD τ) arg23 fullShare (store22 x1 x2 x3 x4 x5 x6) ∗ owns (c : Thread nD τ) arg24 fullShare (store23 x7) ∗ owns (c : Thread nD τ) arg25 fullShare (store24 x8) ∗ owns (c : Thread nD τ) arg26 fullShare (store25 x9) ∗ owns (c : Thread nD τ) arg27 fullShare (store26 x10) ∗ owns (c : Thread nD τ) arg28 fullShare (store27 x11) ∗ owns (c : Thread nD τ) arg29 fullShare (store28 x12) ∗ owns (c : Thread nD τ) arg30 fullShare (store29 x13)) -∗ K ⟨⟩))
      ⊢ wp frame (wpE (defs₀ (F := F)) Variants.none c none) E (cc0_ffn_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_ffn_proj_eq_skeleton]; unfold cc0_ffn_proj_skel
  simp only [k0_part2_eq_skeleton, k0_part3_eq_skeleton, k0_part4_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (covers14 _)
  isplitl [H15]
  · iexists _; isplitr
    swap; · iexact H15
    ipureintro
    exact View.read_writes_eq_canon _ _ _ (covers15 _)
  isplitl [H16]
  · iexists _; isplitr
    swap; · iexact H16
    ipureintro
    exact View.read_writes_eq_canon _ _ _ (covers16 _)
  isplitl [H17]
  · iexists _; isplitr
    swap; · iexact H17
    ipureintro
    exact View.read_writes_eq_canon _ _ _ (covers17 _)
  isplitl [H18]
  · iexists _; isplitr
    swap; · iexact H18
    ipureintro
    exact View.read_writes_eq_canon _ _ _ (covers18 _)
  isplitl [H19]
  · iexists _; isplitr
    swap; · iexact H19
    ipureintro
    exact View.read_writes_eq_canon _ _ _ (covers19 _)
  isplitl [H20]
  · iexists _; isplitr
    swap; · iexact H20
    ipureintro
    exact View.read_writes_eq_canon _ _ _ (covers20 _)
  isplitl [H21]
  · iexists _; isplitr
    swap; · iexact H21
    ipureintro
    exact View.read_writes_eq_canon _ _ _ (covers21 _)
  isplitl [H22]
  · iexists _; isplitr
    swap; · iexact H22
    ipureintro
    exact View.read_writes_eq_canon _ _ _ (covers22 _)
  isplitl [H23]
  · iexists _; isplitr
    swap; · iexact H23
    ipureintro
    exact View.read_writes_eq_canon _ _ _ (covers23 _)
  isplitl [H24]
  · iexists _; isplitr
    swap; · iexact H24
    ipureintro
    exact View.read_writes_eq_canon _ _ _ (covers24 _)
  isplitl [H25]
  · iexists _; isplitr
    swap; · iexact H25
    ipureintro
    exact View.read_writes_eq_canon _ _ _ (covers25 _)
  isplitl [H26]
  · iexists _; isplitr
    swap; · iexact H26
    ipureintro
    exact View.read_writes_eq_canon _ _ _ (covers26 _)
  isplitl [H27]
  · iexists _; isplitr
    swap; · iexact H27
    ipureintro
    exact View.read_writes_eq_canon _ _ _ (covers27 _)
  isplitl [H28]
  · iexists _; isplitr
    swap; · iexact H28
    ipureintro
    exact View.read_writes_eq_canon _ _ _ (covers28 _)
  iexists _; isplitr
  swap; · iexact H29
  ipureintro
  exact View.read_writes_eq_canon _ _ _ (covers29 _)

set_option maxHeartbeats 8000000 in
/-- The body at a later point: the meta tokens' buffers stay as they are. -/
theorem body_later (c : Dev nD) (E : Set ℕ) (i : grid0.Coords) (arg1 : Memref sig .tc .vmem S16x32x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S16x5632 .f32) (harg8 : arg8.IsWhole) (arg9 : Memref sig .tc .vmem S64x1024 .f32) (harg9 : arg9.IsWhole) (arg10 : Memref sig .tc .vmem S16x2048 .f32) (harg10 : arg10.IsWhole) (arg11 : Memref sig .tc .vmem S16x1024 .f32) (harg11 : arg11.IsWhole) (arg12 : Memref sig .tc .vmem S16x1024 .f32) (harg12 : arg12.IsWhole) (arg13 : Memref sig .tc .vmem S16x1024 .f32) (harg13 : arg13.IsWhole) (arg14 : Memref sig .tc .vmem S16x512 .f32) (harg14 : arg14.IsWhole) (arg15 : Memref sig .tc .vmem S16x32x1024 .f32) (harg15 : arg15.IsWhole) (arg16 : Memref sig .tc .vmem S512x512 .f32) (harg16 : arg16.IsWhole) (arg17 : Memref sig .tc .vmem S16x32x512 .bf16) (harg17 : arg17.IsWhole) (arg18 : Memref sig .tc .vmem S16x32x512 .bf16) (harg18 : arg18.IsWhole) (arg19 : Memref sig .tc .vmem S16x32x512 .bf16) (harg19 : arg19.IsWhole) (arg20 : Memref sig .tc .vmem S16x512 .f32) (harg20 : arg20.IsWhole) (arg21 : Memref sig .tc .vmem S16x512 .bf16) (harg21 : arg21.IsWhole) (arg22 : Memref sig .tc .vmem S16x512 .bf16) (harg22 : arg22.IsWhole) (arg23 : Memref sig .tc .vmem S16x512 .bf16) (harg23 : arg23.IsWhole) (arg24 : Memref sig .tc .vmem S16x5632 .bf16) (harg24 : arg24.IsWhole) (arg25 : Memref sig .tc .vmem S64x1024 .bf16) (harg25 : arg25.IsWhole) (arg26 : Memref sig .tc .vmem S16x2048 .bf16) (harg26 : arg26.IsWhole) (arg27 : Memref sig .tc .vmem S16x1024 .bf16) (harg27 : arg27.IsWhole) (arg28 : Memref sig .tc .vmem S16x1024 .bf16) (harg28 : arg28.IsWhole) (arg29 : Memref sig .tc .vmem S16x1024 .bf16) (harg29 : arg29.IsWhole) (arg30 : Memref sig .tc .vmem S16x512 .bf16) (harg30 : arg30.IsWhole)
    (hc : ¬ (k0_cond1 i = 1#1)) (x0 : Vec F S16x32x1024 .f32) (x1 : Vec F S16x1024 .f32) (x2 : Vec F S1x1024 .f32) (x3 : Vec F S1024x5632 .bf16) (x4 : Vec F S2816x1024 .bf16) (x5 : Vec F S1x1024 .f32) (x6 : Vec F S1024x2048 .bf16) (x7 : Vec F S16x5632 .f32) (x8 : Vec F S64x1024 .f32) (x9 : Vec F S16x2048 .f32) (x10 : Vec F S16x1024 .f32) (x11 : Vec F S16x1024 .f32) (x12 : Vec F S16x1024 .f32) (x13 : Vec F S16x512 .f32) (y19 : Vec F S16x512 .f32) (y20 : Vec F S16x512 .bf16) (y21 : Vec F S16x512 .bf16) (y22 : Vec F S16x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare y19 ∗ owns (c : Thread nD τ) arg21 fullShare y20 ∗ owns (c : Thread nD τ) arg22 fullShare y21 ∗ owns (c : Thread nD τ) arg23 fullShare y22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (store14 x0 x2 x3 x4) ∗ owns (c : Thread nD τ) arg16 fullShare (store15 x0 x2 x3 x4 x5 x6) ∗ owns (c : Thread nD τ) arg17 fullShare (store16 x0 x2 x3 x4 x5 x6) ∗ owns (c : Thread nD τ) arg18 fullShare (store17 x0 x2 x3 x4 x5 x6) ∗ owns (c : Thread nD τ) arg19 fullShare (store18 x0 x2 x3 x4 x5 x6) ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare (store23 x7) ∗ owns (c : Thread nD τ) arg25 fullShare (store24 x8) ∗ owns (c : Thread nD τ) arg26 fullShare (store25 x9) ∗ owns (c : Thread nD τ) arg27 fullShare (store26 x10) ∗ owns (c : Thread nD τ) arg28 fullShare (store27 x11) ∗ owns (c : Thread nD τ) arg29 fullShare (store28 x12) ∗ owns (c : Thread nD τ) arg30 fullShare (store29 x13)) -∗ K ⟨⟩))
      ⊢ wp frame (wpE (defs₀ (F := F)) Variants.none c none) E (cc0_ffn_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_ffn_proj_eq_skeleton]; unfold cc0_ffn_proj_skel
  simp only [k0_part2_eq_skeleton, k0_part3_eq_skeleton, k0_part4_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf19 hf20 hf21 hf22
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (covers14 _)
  isplitl [H15]
  · iexists _; isplitr
    swap; · iexact H15
    ipureintro
    exact View.read_writes_eq_canon _ _ _ (covers15 _)
  isplitl [H16]
  · iexists _; isplitr
    swap; · iexact H16
    ipureintro
    exact View.read_writes_eq_canon _ _ _ (covers16 _)
  isplitl [H17]
  · iexists _; isplitr
    swap; · iexact H17
    ipureintro
    exact View.read_writes_eq_canon _ _ _ (covers17 _)
  isplitl [H18]
  · iexists _; isplitr
    swap; · iexact H18
    ipureintro
    exact View.read_writes_eq_canon _ _ _ (covers18 _)
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    exact View.read_writes_eq_canon _ _ _ (covers23 _)
  isplitl [H24]
  · iexists _; isplitr
    swap; · iexact H24
    ipureintro
    exact View.read_writes_eq_canon _ _ _ (covers24 _)
  isplitl [H25]
  · iexists _; isplitr
    swap; · iexact H25
    ipureintro
    exact View.read_writes_eq_canon _ _ _ (covers25 _)
  isplitl [H26]
  · iexists _; isplitr
    swap; · iexact H26
    ipureintro
    exact View.read_writes_eq_canon _ _ _ (covers26 _)
  isplitl [H27]
  · iexists _; isplitr
    swap; · iexact H27
    ipureintro
    exact View.read_writes_eq_canon _ _ _ (covers27 _)
  isplitl [H28]
  · iexists _; isplitr
    swap; · iexact H28
    ipureintro
    exact View.read_writes_eq_canon _ _ _ (covers28 _)
  iexists _; isplitr
  swap; · iexact H29
  ipureintro
  exact View.read_writes_eq_canon _ _ _ (covers29 _)

end Cert.Kernel2Ideal.Proj

end
-- ==== Proof.ProjKernelOut.lean ====
module

public import proofs.«01_k».proof.Proof.ProjKernelRow
public import proofs.«01_k».proof.Proof.ProjBodyIdeal
public import Idealize.ShloMosaic.Lib.Pipeline.Value

/-!
What the block program of the first feed-forward call stores into each output's buffer, read at an index.
-/

@[expose] public section

set_option maxRecDepth 16384

noncomputable section

namespace Cert.Kernel2Ideal.Row

open Cert.Kernel2Ideal Cert.Kernel2Ideal.Gen Cert.Kernel2Ideal.Proj Idealize.ShloMosaic Idealize.SL.Sem RowMath

theorem hz2 : (![0, 0] : Fin 2 → Nat) = fun _ => 0 := funext fun a => by fin_cases a <;> rfl
theorem hz3 : (![0, 0, 0] : Fin 3 → Nat) = fun _ => 0 := funext fun a => by fin_cases a <;> rfl

theorem gate_ld (x3 : Vec Ideal S1024x5632 .bf16) (k : Fin 1024) (j : Fin 2816) : View.ld x3 q0 (ix2 k j) = x3 (ix2 k (gateCol j)) :=
  ld_apply x3 0 0 _ k j _ _ (Nat.zero_add _) (Nat.zero_add _)

theorem val_ld (x3 : Vec Ideal S1024x5632 .bf16) (k : Fin 1024) (j : Fin 2816) : View.ld x3 q1 (ix2 k j) = x3 (ix2 k (valCol j)) :=
  ld_apply x3 0 2816 _ k j _ _ (Nat.zero_add _) rfl

/-- Row `r` of the residual stream the program holds. -/
theorem tokens_row (x0 : Vec Ideal S16x32x1024 .f32) (x2 : Vec Ideal S1x1024 .f32) (x3 : Vec Ideal S1024x5632 .bf16) (x4 : Vec Ideal S2816x1024 .bf16) (r : Fin 512) :
    row (k0_pay9 (F := Ideal) x0 x2 (View.ld x3 q0) (View.ld x3 q1) x4) r =
      ffn (row3 x0 (⟨r.val / 32, by omega⟩ : Fin 16) (⟨r.val % 32, by omega⟩ : Fin 32)) (row x2 0) (mat x3) (mat x4) := by
  funext c
  refine (pay9_apply x0 x2 _ _ x4 r c).trans ?_
  unfold ffn RowMath.hidden
  refine congrArg (fun z => _ + _ * z) (Finset.sum_congr rfl fun j _ => ?_)
  have e1 : ∀ k : Fin 1024, View.ld x3 q0 (ix2 k j) = x3 (ix2 k (gateCol j)) := fun k => gate_ld x3 k j
  have e2 : ∀ k : Fin 1024, View.ld x3 q1 (ix2 k j) = x3 (ix2 k (valCol j)) := fun k => val_ld x3 k j
  simp only [e1, e2]

/-- Row `r` of the meta tokens' residual stream. -/
theorem meta_row (x1 : Vec Ideal S16x1024 .f32) (x2 : Vec Ideal S1x1024 .f32) (x3 : Vec Ideal S1024x5632 .bf16) (x4 : Vec Ideal S2816x1024 .bf16) (r : Fin 16) :
    row (k0_pay2 (F := Ideal) x1 x2 (View.ld x3 q0) (View.ld x3 q1) x4) r = ffn (row x1 r) (row x2 0) (mat x3) (mat x4) := by
  funext c
  refine (pay2_apply x1 x2 _ _ x4 r c).trans ?_
  unfold ffn RowMath.hidden
  refine congrArg (fun z => _ + _ * z) (Finset.sum_congr rfl fun j _ => ?_)
  have e1 : ∀ k : Fin 1024, View.ld x3 q0 (ix2 k j) = x3 (ix2 k (gateCol j)) := fun k => gate_ld x3 k j
  have e2 : ∀ k : Fin 1024, View.ld x3 q1 (ix2 k j) = x3 (ix2 k (valCol j)) := fun k => val_ld x3 k j
  simp only [e1, e2]

/-- The same row of the block `b`, time `s`. -/
theorem tokens_row3 (x0 : Vec Ideal S16x32x1024 .f32) (x2 : Vec Ideal S1x1024 .f32) (x3 : Vec Ideal S1024x5632 .bf16) (x4 : Vec Ideal S2816x1024 .bf16) (b : Fin 16) (s : Fin 32) (h : b.val * 32 + s.val < 512) :
    row (k0_pay9 (F := Ideal) x0 x2 (View.ld x3 q0) (View.ld x3 q1) x4) (⟨b.val * 32 + s.val, h⟩ : Fin 512) =
      ffn (row3 x0 b s) (row x2 0) (mat x3) (mat x4) := by
  have e1 : (⟨(b.val * 32 + s.val) / 32, by omega⟩ : Fin 16) = b := Fin.ext (by show (b.val * 32 + s.val) / 32 = b.val; omega)
  have e2 : (⟨(b.val * 32 + s.val) % 32, by omega⟩ : Fin 32) = s := Fin.ext (by show (b.val * 32 + s.val) % 32 = s.val; omega)
  rw [tokens_row]
  show ffn (row3 x0 (⟨(b.val * 32 + s.val) / 32, _⟩ : Fin 16) (⟨(b.val * 32 + s.val) % 32, _⟩ : Fin 32)) _ _ _ = _
  rw [e1, e2]

theorem store14_apply (x0 : Vec Ideal S16x32x1024 .f32) (x2 : Vec Ideal S1x1024 .f32) (x3 : Vec Ideal S1024x5632 .bf16) (x4 : Vec Ideal S2816x1024 .bf16) (b : Fin 16) (s : Fin 32) (c : Fin 1024) :
    store14 (F := Ideal) x0 x2 x3 x4 (ix3 b s c) = ffn (row3 x0 b s) (row x2 0) (mat x3) (mat x4) c := by
  unfold store14
  rw [View.canon_unit_zero hz3, View.ld_unit_zero hz3, View.ld_unit_zero hz2, View.ld_unit_zero hz2, pay10_apply]
  exact congrFun (tokens_row3 x0 x2 x3 x4 b s _) c

theorem store15_apply (x0 : Vec Ideal S16x32x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (r j : Fin 512) :
    store15 (F := Ideal) x0 x2 x3 x4 x5 x6 (ix2 r j) =
      proj (ffn (row3 x0 (⟨r.val % 16, by omega⟩ : Fin 16) (⟨r.val / 16, by omega⟩ : Fin 32)) (row x2 0) (mat x3) (mat x4)) (row x5 0) (mat x6) (uCol j) := by
  unfold store15
  rw [View.canon_unit_zero hz2, View.ld_unit_zero hz3, View.ld_unit_zero hz2, View.ld_unit_zero hz2, View.ld_unit_zero hz2, View.ld_unit_zero hz2,
    pay12_apply, pay11_apply]
  rw [tokens_row3 x0 x2 x3 x4 (⟨r.val % 16, by omega⟩ : Fin 16) (⟨r.val / 16, by omega⟩ : Fin 32)]

theorem store16_apply (x0 : Vec Ideal S16x32x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (b : Fin 16) (s : Fin 32) (j : Fin 512) :
    store16 (F := Ideal) x0 x2 x3 x4 x5 x6 (ix3 b s j) =
      proj (ffn (row3 x0 b s) (row x2 0) (mat x3) (mat x4)) (row x5 0) (mat x6) (qCol j) * Ideal.ofBits .f32 0x3E000000#32 := by
  unfold store16
  rw [View.canon_unit_zero hz3, View.ld_unit_zero hz3, View.ld_unit_zero hz2, View.ld_unit_zero hz2, View.ld_unit_zero hz2, View.ld_unit_zero hz2,
    pay13_apply, pay11_apply, tokens_row3 x0 x2 x3 x4 b s]

theorem store17_apply (x0 : Vec Ideal S16x32x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (b : Fin 16) (s : Fin 32) (j : Fin 512) :
    store17 (F := Ideal) x0 x2 x3 x4 x5 x6 (ix3 b s j) =
      proj (ffn (row3 x0 b s) (row x2 0) (mat x3) (mat x4)) (row x5 0) (mat x6) (kCol j) := by
  unfold store17
  rw [View.canon_unit_zero hz3, View.ld_unit_zero hz3, View.ld_unit_zero hz2, View.ld_unit_zero hz2, View.ld_unit_zero hz2, View.ld_unit_zero hz2,
    pay14_apply, pay11_apply, tokens_row3 x0 x2 x3 x4 b s]

theorem store18_apply (x0 : Vec Ideal S16x32x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (b : Fin 16) (s : Fin 32) (j : Fin 512) :
    store18 (F := Ideal) x0 x2 x3 x4 x5 x6 (ix3 b s j) =
      proj (ffn (row3 x0 b s) (row x2 0) (mat x3) (mat x4)) (row x5 0) (mat x6) (vCol j) := by
  unfold store18
  rw [View.canon_unit_zero hz3, View.ld_unit_zero hz3, View.ld_unit_zero hz2, View.ld_unit_zero hz2, View.ld_unit_zero hz2, View.ld_unit_zero hz2,
    pay16_apply, pay11_apply, tokens_row3 x0 x2 x3 x4 b s]

theorem store19_apply (x1 : Vec Ideal S16x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (r : Fin 16) (j : Fin 512) :
    store19 (F := Ideal) x1 x2 x3 x4 x5 x6 (ix2 r j) =
      proj (ffn (row x1 r) (row x2 0) (mat x3) (mat x4)) (row x5 0) (mat x6) (uCol j) := by
  unfold store19
  rw [View.canon_unit_zero hz2, View.ld_unit_zero hz2, View.ld_unit_zero hz2, View.ld_unit_zero hz2, View.ld_unit_zero hz2, View.ld_unit_zero hz2,
    pay5_apply, pay4_apply _ _ (row x5 0) _ (fun r k => pay3_apply x1 x2 _ _ x4 x5 r k), meta_row]

theorem store20_apply (x1 : Vec Ideal S16x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (r : Fin 16) (j : Fin 512) :
    store20 (F := Ideal) x1 x2 x3 x4 x5 x6 (ix2 r j) =
      proj (ffn (row x1 r) (row x2 0) (mat x3) (mat x4)) (row x5 0) (mat x6) (qCol j) * Ideal.ofBits .f32 0x3E000000#32 := by
  unfold store20
  rw [View.canon_unit_zero hz2, View.ld_unit_zero hz2, View.ld_unit_zero hz2, View.ld_unit_zero hz2, View.ld_unit_zero hz2, View.ld_unit_zero hz2,
    pay6_apply, pay4_apply _ _ (row x5 0) _ (fun r k => pay3_apply x1 x2 _ _ x4 x5 r k), meta_row]

theorem store21_apply (x1 : Vec Ideal S16x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (r : Fin 16) (j : Fin 512) :
    store21 (F := Ideal) x1 x2 x3 x4 x5 x6 (ix2 r j) =
      proj (ffn (row x1 r) (row x2 0) (mat x3) (mat x4)) (row x5 0) (mat x6) (kCol j) := by
  unfold store21
  rw [View.canon_unit_zero hz2, View.ld_unit_zero hz2, View.ld_unit_zero hz2, View.ld_unit_zero hz2, View.ld_unit_zero hz2, View.ld_unit_zero hz2,
    pay7_apply, pay4_apply _ _ (row x5 0) _ (fun r k => pay3_apply x1 x2 _ _ x4 x5 r k), meta_row]

theorem store22_apply (x1 : Vec Ideal S16x1024 .f32) (x2 : Vec Ideal S1x1024 .f32) (x3 : Vec Ideal S1024x5632 .bf16) (x4 : Vec Ideal S2816x1024 .bf16) (x5 : Vec Ideal S1x1024 .f32) (x6 : Vec Ideal S1024x2048 .bf16) (r : Fin 16) (j : Fin 512) :
    store22 (F := Ideal) x1 x2 x3 x4 x5 x6 (ix2 r j) =
      proj (ffn (row x1 r) (row x2 0) (mat x3) (mat x4)) (row x5 0) (mat x6) (vCol j) := by
  unfold store22
  rw [View.canon_unit_zero hz2, View.ld_unit_zero hz2, View.ld_unit_zero hz2, View.ld_unit_zero hz2, View.ld_unit_zero hz2, View.ld_unit_zero hz2,
    pay8_apply, pay4_apply _ _ (row x5 0) _ (fun r k => pay3_apply x1 x2 _ _ x4 x5 r k), meta_row]

theorem store23_apply (x7 : Vec Ideal S16x5632 .f32) (r : Fin 16) (j : Fin 5632) : store23 (F := Ideal) x7 (ix2 r j) = x7 (ix2 r j) := by
  unfold store23
  rw [View.canon_unit_zero hz2, View.ld_unit_zero hz2]
  pointwise [k0_pay17]

theorem store24_apply (x8 : Vec Ideal S64x1024 .f32) (r : Fin 64) (j : Fin 1024) : store24 (F := Ideal) x8 (ix2 r j) = x8 (ix2 r j) := by
  unfold store24
  rw [View.canon_unit_zero hz2, View.ld_unit_zero hz2]
  pointwise [k0_pay18]

theorem store25_apply (x9 : Vec Ideal S16x2048 .f32) (r : Fin 16) (j : Fin 2048) : store25 (F := Ideal) x9 (ix2 r j) = x9 (ix2 r j) := by
  unfold store25
  rw [View.canon_unit_zero hz2, View.ld_unit_zero hz2]
  pointwise [k0_pay19]

theorem store26_apply (x10 : Vec Ideal S16x1024 .f32) (r : Fin 16) (j : Fin 1024) : store26 (F := Ideal) x10 (ix2 r j) = x10 (ix2 r j) := by
  unfold store26
  rw [View.canon_unit_zero hz2, View.ld_unit_zero hz2]
  pointwise [k0_pay20]

theorem store27_apply (x11 : Vec Ideal S16x1024 .f32) (r : Fin 16) (j : Fin 1024) : store27 (F := Ideal) x11 (ix2 r j) = x11 (ix2 r j) := by
  unfold store27
  rw [View.canon_unit_zero hz2, View.ld_unit_zero hz2]
  pointwise [k0_pay21]

theorem store28_apply (x12 : Vec Ideal S16x1024 .f32) (r : Fin 16) (j : Fin 1024) : store28 (F := Ideal) x12 (ix2 r j) = x12 (ix2 r j) := by
  unfold store28
  rw [View.canon_unit_zero hz2, View.ld_unit_zero hz2]
  pointwise [k0_pay22]

theorem store29_apply (x13 : Vec Ideal S16x512 .f32) (r : Fin 16) (j : Fin 512) : store29 (F := Ideal) x13 (ix2 r j) = x13 (ix2 r j) := by
  unfold store29
  rw [View.canon_unit_zero hz2, View.ld_unit_zero hz2]
  pointwise [k0_pay1]

end Cert.Kernel2Ideal.Row

end
-- ==== Proof.ProjRunIdeal.lean ====
module

public import proofs.«01_k».proof.Proof.Gen.Kernel2Ideal.Frame
public import proofs.«01_k».proof.Proof.ProjBodyIdeal
public import Idealize.ShloMosaic.Lib.Pipeline.TableIdle
public import Idealize.ShloMosaic.Lib.Claim

/-!
The first feed-forward call: the run of the whole grid, and what it leaves in its arrays.
-/

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def first : Fin cfg0.N := ⟨0, by rw [show cfg0.N = 64 from N_0]; decide⟩

theorem N_0' : cfg0.N = 64 := N_0

theorem lt_64 (t : Fin cfg0.N) : t.val < 64 := Nat.lt_of_lt_of_eq t.isLt N_0'

/-- The meta tokens' rows are computed at the first point and at no other. -/
theorem cond_iff (t : Fin cfg0.N) : k0_cond1 (grid0.coords t) = 1#1 ↔ t.val = 0 :=
  (by decide +kernel : ∀ t : Fin grid0.N, k0_cond1 (grid0.coords t) = 1#1 ↔ t.val = 0) t

theorem idle_first (t : Fin cfg0.N) (ht : t.val = 0) : (!(k0_cond1 (grid0.coords t) == 1#1)) = false := by
  rw [(cond_iff t).mpr ht]; rfl

theorem idle_later (t : Fin cfg0.N) (ht : t.val ≠ 0) : (!(k0_cond1 (grid0.coords t) == 1#1)) = true := by
  have h : ¬ k0_cond1 (grid0.coords t) = 1#1 := fun h => ht ((cond_iff t).mp h)
  simp [h]

/-- What every buffer holds after the body at a point: an input's its block, an output's the body's store; the meta
    tokens' rows are those stored at the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => store14 (iblk m c 0 t) (iblk m c 2 t) (iblk m c 3 t) (iblk m c 4 t)
    | ⟨15, _⟩ => store15 (iblk m c 0 t) (iblk m c 2 t) (iblk m c 3 t) (iblk m c 4 t) (iblk m c 5 t) (iblk m c 6 t)
    | ⟨16, _⟩ => store16 (iblk m c 0 t) (iblk m c 2 t) (iblk m c 3 t) (iblk m c 4 t) (iblk m c 5 t) (iblk m c 6 t)
    | ⟨17, _⟩ => store17 (iblk m c 0 t) (iblk m c 2 t) (iblk m c 3 t) (iblk m c 4 t) (iblk m c 5 t) (iblk m c 6 t)
    | ⟨18, _⟩ => store18 (iblk m c 0 t) (iblk m c 2 t) (iblk m c 3 t) (iblk m c 4 t) (iblk m c 5 t) (iblk m c 6 t)
    | ⟨19, _⟩ => store19 (iblk m c 1 first) (iblk m c 2 first) (iblk m c 3 first) (iblk m c 4 first) (iblk m c 5 first) (iblk m c 6 first)
    | ⟨20, _⟩ => store20 (iblk m c 1 first) (iblk m c 2 first) (iblk m c 3 first) (iblk m c 4 first) (iblk m c 5 first) (iblk m c 6 first)
    | ⟨21, _⟩ => store21 (iblk m c 1 first) (iblk m c 2 first) (iblk m c 3 first) (iblk m c 4 first) (iblk m c 5 first) (iblk m c 6 first)
    | ⟨22, _⟩ => store22 (iblk m c 1 first) (iblk m c 2 first) (iblk m c 3 first) (iblk m c 4 first) (iblk m c 5 first) (iblk m c 6 first)
    | ⟨23, _⟩ => store23 (iblk m c 7 t)
    | ⟨24, _⟩ => store24 (iblk m c 8 t)
    | ⟨25, _⟩ => store25 (iblk m c 9 t)
    | ⟨26, _⟩ => store26 (iblk m c 10 t)
    | ⟨27, _⟩ => store27 (iblk m c 11 t)
    | ⟨28, _⟩ => store28 (iblk m c 12 t)
    | ⟨29, _⟩ => store29 (iblk m c 13 t)
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = store14 (iblk m c 0 t) (iblk m c 2 t) (iblk m c 3 t) (iblk m c 4 t) := by dsimp only [dats]
theorem after_15 (c : Dev nD) (t : Fin cfg0.N) : (dats m 0 c).after 15 t = store15 (iblk m c 0 t) (iblk m c 2 t) (iblk m c 3 t) (iblk m c 4 t) (iblk m c 5 t) (iblk m c 6 t) := by dsimp only [dats]
theorem after_16 (c : Dev nD) (t : Fin cfg0.N) : (dats m 0 c).after 16 t = store16 (iblk m c 0 t) (iblk m c 2 t) (iblk m c 3 t) (iblk m c 4 t) (iblk m c 5 t) (iblk m c 6 t) := by dsimp only [dats]
theorem after_17 (c : Dev nD) (t : Fin cfg0.N) : (dats m 0 c).after 17 t = store17 (iblk m c 0 t) (iblk m c 2 t) (iblk m c 3 t) (iblk m c 4 t) (iblk m c 5 t) (iblk m c 6 t) := by dsimp only [dats]
theorem after_18 (c : Dev nD) (t : Fin cfg0.N) : (dats m 0 c).after 18 t = store18 (iblk m c 0 t) (iblk m c 2 t) (iblk m c 3 t) (iblk m c 4 t) (iblk m c 5 t) (iblk m c 6 t) := by dsimp only [dats]
theorem after_19 (c : Dev nD) (t : Fin cfg0.N) : (dats m 0 c).after 19 t = store19 (iblk m c 1 first) (iblk m c 2 first) (iblk m c 3 first) (iblk m c 4 first) (iblk m c 5 first) (iblk m c 6 first) := by dsimp only [dats]
theorem after_20 (c : Dev nD) (t : Fin cfg0.N) : (dats m 0 c).after 20 t = store20 (iblk m c 1 first) (iblk m c 2 first) (iblk m c 3 first) (iblk m c 4 first) (iblk m c 5 first) (iblk m c 6 first) := by dsimp only [dats]
theorem after_21 (c : Dev nD) (t : Fin cfg0.N) : (dats m 0 c).after 21 t = store21 (iblk m c 1 first) (iblk m c 2 first) (iblk m c 3 first) (iblk m c 4 first) (iblk m c 5 first) (iblk m c 6 first) := by dsimp only [dats]
theorem after_22 (c : Dev nD) (t : Fin cfg0.N) : (dats m 0 c).after 22 t = store22 (iblk m c 1 first) (iblk m c 2 first) (iblk m c 3 first) (iblk m c 4 first) (iblk m c 5 first) (iblk m c 6 first) := by dsimp only [dats]
theorem after_23 (c : Dev nD) (t : Fin cfg0.N) : (dats m 0 c).after 23 t = store23 (iblk m c 7 t) := by dsimp only [dats]
theorem after_24 (c : Dev nD) (t : Fin cfg0.N) : (dats m 0 c).after 24 t = store24 (iblk m c 8 t) := by dsimp only [dats]
theorem after_25 (c : Dev nD) (t : Fin cfg0.N) : (dats m 0 c).after 25 t = store25 (iblk m c 9 t) := by dsimp only [dats]
theorem after_26 (c : Dev nD) (t : Fin cfg0.N) : (dats m 0 c).after 26 t = store26 (iblk m c 10 t) := by dsimp only [dats]
theorem after_27 (c : Dev nD) (t : Fin cfg0.N) : (dats m 0 c).after 27 t = store27 (iblk m c 11 t) := by dsimp only [dats]
theorem after_28 (c : Dev nD) (t : Fin cfg0.N) : (dats m 0 c).after 28 t = store28 (iblk m c 12 t) := by dsimp only [dats]
theorem after_29 (c : Dev nD) (t : Fin cfg0.N) : (dats m 0 c).after 29 t = store29 (iblk m c 13 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

theorem fresh_19 : ∀ n, n ≤ cfg0.N → cfg0.fresh 19 n = (n == 0 || n == 64) :=
  cfg0.fresh_tab 19 (fun n => n == 0 || n == 64) rfl fun t => by
    have hN : t.val < 64 := lt_64 t
    by_cases ht : t.val = 0
    · rw [show cfg0.idle 19 (cfg0.grid.coords t) = false from idle_first t ht,
        (show (cfg0.win 19).flush t = false from Bool.eq_false_iff.mpr (by intro hf; have := (flush0_19 t).mp hf; omega))]
      simp [ht]
    · rw [show cfg0.idle 19 (cfg0.grid.coords t) = true from idle_later t ht]
      by_cases hl : t.val = 63
      · rw [(flush0_19 t).mpr (by omega)]; simp [hl]
      · rw [(show (cfg0.win 19).flush t = false from Bool.eq_false_iff.mpr (by intro hf; have := (flush0_19 t).mp hf; omega))]
        have h1 : (t.val == 0) = false := beq_false_of_ne ht
        have h2 : (t.val == 64) = false := beq_false_of_ne (by omega)
        have h3 : (t.val + 1 == 0) = false := beq_false_of_ne (by omega)
        have h4 : (t.val + 1 == 64) = false := beq_false_of_ne (by omega)
        simp only [h1, h2, h3, h4]; rfl

theorem before_19 (c : Dev nD) (t : Fin cfg0.N) (ht : t.val ≠ 0) (d) : (dats m 0 c).before 19 t d = (dats m 0 c).after 19 t := by
  have hN : t.val < 64 := lt_64 t
  rw [(dats m 0 c).before_out_traj 19 rfl (fun _ _ => rfl) (fun s _ _ _ => by rw [after_19, after_19]) t.val t rfl d,
    fresh_19 t.val (Nat.le_of_lt t.isLt), if_neg (by simp; omega), after_19, after_19]

theorem leave_19 (c : Dev nD) (t : Fin cfg0.N) :
    (owns (c : Thread nD τ) (st0_19 t) fullShare ((dats m 0 c).after 19 t) : sProp 𝕄) ⊢ (dats m 0 c).leavesExact 19 t := by
  by_cases ht : t.val = 0
  · have hi : cfg0.idle 19 (cfg0.grid.coords t) = false := idle_first t ht
    unfold Dat.leavesExact; rw [hi]
  · have hi : cfg0.idle 19 (cfg0.grid.coords t) = true := idle_later t ht
    cases hf : (cfg0.win 19).flush t
    · rw [(dats m 0 c).leavesExact_idle 19 t hi hf]
      iintro H; iexists (dats m 0 c).after 19 t
      rw [before_19 m c t ht]; iexact H
    · unfold Dat.leavesExact; rw [hi, hf]

theorem fresh_20 : ∀ n, n ≤ cfg0.N → cfg0.fresh 20 n = (n == 0 || n == 64) :=
  cfg0.fresh_tab 20 (fun n => n == 0 || n == 64) rfl fun t => by
    have hN : t.val < 64 := lt_64 t
    by_cases ht : t.val = 0
    · rw [show cfg0.idle 20 (cfg0.grid.coords t) = false from idle_first t ht,
        (show (cfg0.win 20).flush t = false from Bool.eq_false_iff.mpr (by intro hf; have := (flush0_20 t).mp hf; omega))]
      simp [ht]
    · rw [show cfg0.idle 20 (cfg0.grid.coords t) = true from idle_later t ht]
      by_cases hl : t.val = 63
      · rw [(flush0_20 t).mpr (by omega)]; simp [hl]
      · rw [(show (cfg0.win 20).flush t = false from Bool.eq_false_iff.mpr (by intro hf; have := (flush0_20 t).mp hf; omega))]
        have h1 : (t.val == 0) = false := beq_false_of_ne ht
        have h2 : (t.val == 64) = false := beq_false_of_ne (by omega)
        have h3 : (t.val + 1 == 0) = false := beq_false_of_ne (by omega)
        have h4 : (t.val + 1 == 64) = false := beq_false_of_ne (by omega)
        simp only [h1, h2, h3, h4]; rfl

theorem before_20 (c : Dev nD) (t : Fin cfg0.N) (ht : t.val ≠ 0) (d) : (dats m 0 c).before 20 t d = (dats m 0 c).after 20 t := by
  have hN : t.val < 64 := lt_64 t
  rw [(dats m 0 c).before_out_traj 20 rfl (fun _ _ => rfl) (fun s _ _ _ => by rw [after_20, after_20]) t.val t rfl d,
    fresh_20 t.val (Nat.le_of_lt t.isLt), if_neg (by simp; omega), after_20, after_20]

theorem leave_20 (c : Dev nD) (t : Fin cfg0.N) :
    (owns (c : Thread nD τ) (st0_20 t) fullShare ((dats m 0 c).after 20 t) : sProp 𝕄) ⊢ (dats m 0 c).leavesExact 20 t := by
  by_cases ht : t.val = 0
  · have hi : cfg0.idle 20 (cfg0.grid.coords t) = false := idle_first t ht
    unfold Dat.leavesExact; rw [hi]
  · have hi : cfg0.idle 20 (cfg0.grid.coords t) = true := idle_later t ht
    cases hf : (cfg0.win 20).flush t
    · rw [(dats m 0 c).leavesExact_idle 20 t hi hf]
      iintro H; iexists (dats m 0 c).after 20 t
      rw [before_20 m c t ht]; iexact H
    · unfold Dat.leavesExact; rw [hi, hf]

theorem fresh_21 : ∀ n, n ≤ cfg0.N → cfg0.fresh 21 n = (n == 0 || n == 64) :=
  cfg0.fresh_tab 21 (fun n => n == 0 || n == 64) rfl fun t => by
    have hN : t.val < 64 := lt_64 t
    by_cases ht : t.val = 0
    · rw [show cfg0.idle 21 (cfg0.grid.coords t) = false from idle_first t ht,
        (show (cfg0.win 21).flush t = false from Bool.eq_false_iff.mpr (by intro hf; have := (flush0_21 t).mp hf; omega))]
      simp [ht]
    · rw [show cfg0.idle 21 (cfg0.grid.coords t) = true from idle_later t ht]
      by_cases hl : t.val = 63
      · rw [(flush0_21 t).mpr (by omega)]; simp [hl]
      · rw [(show (cfg0.win 21).flush t = false from Bool.eq_false_iff.mpr (by intro hf; have := (flush0_21 t).mp hf; omega))]
        have h1 : (t.val == 0) = false := beq_false_of_ne ht
        have h2 : (t.val == 64) = false := beq_false_of_ne (by omega)
        have h3 : (t.val + 1 == 0) = false := beq_false_of_ne (by omega)
        have h4 : (t.val + 1 == 64) = false := beq_false_of_ne (by omega)
        simp only [h1, h2, h3, h4]; rfl

theorem before_21 (c : Dev nD) (t : Fin cfg0.N) (ht : t.val ≠ 0) (d) : (dats m 0 c).before 21 t d = (dats m 0 c).after 21 t := by
  have hN : t.val < 64 := lt_64 t
  rw [(dats m 0 c).before_out_traj 21 rfl (fun _ _ => rfl) (fun s _ _ _ => by rw [after_21, after_21]) t.val t rfl d,
    fresh_21 t.val (Nat.le_of_lt t.isLt), if_neg (by simp; omega), after_21, after_21]

theorem leave_21 (c : Dev nD) (t : Fin cfg0.N) :
    (owns (c : Thread nD τ) (st0_21 t) fullShare ((dats m 0 c).after 21 t) : sProp 𝕄) ⊢ (dats m 0 c).leavesExact 21 t := by
  by_cases ht : t.val = 0
  · have hi : cfg0.idle 21 (cfg0.grid.coords t) = false := idle_first t ht
    unfold Dat.leavesExact; rw [hi]
  · have hi : cfg0.idle 21 (cfg0.grid.coords t) = true := idle_later t ht
    cases hf : (cfg0.win 21).flush t
    · rw [(dats m 0 c).leavesExact_idle 21 t hi hf]
      iintro H; iexists (dats m 0 c).after 21 t
      rw [before_21 m c t ht]; iexact H
    · unfold Dat.leavesExact; rw [hi, hf]

theorem fresh_22 : ∀ n, n ≤ cfg0.N → cfg0.fresh 22 n = (n == 0 || n == 64) :=
  cfg0.fresh_tab 22 (fun n => n == 0 || n == 64) rfl fun t => by
    have hN : t.val < 64 := lt_64 t
    by_cases ht : t.val = 0
    · rw [show cfg0.idle 22 (cfg0.grid.coords t) = false from idle_first t ht,
        (show (cfg0.win 22).flush t = false from Bool.eq_false_iff.mpr (by intro hf; have := (flush0_22 t).mp hf; omega))]
      simp [ht]
    · rw [show cfg0.idle 22 (cfg0.grid.coords t) = true from idle_later t ht]
      by_cases hl : t.val = 63
      · rw [(flush0_22 t).mpr (by omega)]; simp [hl]
      · rw [(show (cfg0.win 22).flush t = false from Bool.eq_false_iff.mpr (by intro hf; have := (flush0_22 t).mp hf; omega))]
        have h1 : (t.val == 0) = false := beq_false_of_ne ht
        have h2 : (t.val == 64) = false := beq_false_of_ne (by omega)
        have h3 : (t.val + 1 == 0) = false := beq_false_of_ne (by omega)
        have h4 : (t.val + 1 == 64) = false := beq_false_of_ne (by omega)
        simp only [h1, h2, h3, h4]; rfl

theorem before_22 (c : Dev nD) (t : Fin cfg0.N) (ht : t.val ≠ 0) (d) : (dats m 0 c).before 22 t d = (dats m 0 c).after 22 t := by
  have hN : t.val < 64 := lt_64 t
  rw [(dats m 0 c).before_out_traj 22 rfl (fun _ _ => rfl) (fun s _ _ _ => by rw [after_22, after_22]) t.val t rfl d,
    fresh_22 t.val (Nat.le_of_lt t.isLt), if_neg (by simp; omega), after_22, after_22]

theorem leave_22 (c : Dev nD) (t : Fin cfg0.N) :
    (owns (c : Thread nD τ) (st0_22 t) fullShare ((dats m 0 c).after 22 t) : sProp 𝕄) ⊢ (dats m 0 c).leavesExact 22 t := by
  by_cases ht : t.val = 0
  · have hi : cfg0.idle 22 (cfg0.grid.coords t) = false := idle_first t ht
    unfold Dat.leavesExact; rw [hi]
  · have hi : cfg0.idle 22 (cfg0.grid.coords t) = true := idle_later t ht
    cases hf : (cfg0.win 22).flush t
    · rw [(dats m 0 c).leavesExact_idle 22 t hi hf]
      iintro H; iexists (dats m 0 c).after 22 t
      rw [before_22 m c t ht]; iexact H
    · unfold Dat.leavesExact; rw [hi, hf]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

def bodyLeft (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (dats m 0 c).leavesExact 19 t
    ∗ (dats m 0 c).leavesExact 20 t
    ∗ (dats m 0 c).leavesExact 21 t
    ∗ (dats m 0 c).leavesExact 22 t
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 2000000 in
theorem sound_first (c : Dev nD) (t : Fin cfg0.N) (ht : t.val = 0) :
    bodyPre m c t ⊢ wp frame (wpE (defs₀ (F := F)) Variants.none c none) Set.univ (bodyAt0 t) (fun _ => bodyLeft m c t) := by
  obtain rfl : t = first := Fin.ext ht
  unfold bodyPre bodyLeft bodyAt0
  simp only [before_0, before_1, before_2, before_3, before_4, before_5, before_6, before_7, before_8, before_9, before_10, before_11, before_12, before_13]
  rw [show (dats m 0 c).Φ (Fin.succ first) = (dats m 0 c).Φ (Fin.castSucc first) from rfl,
    show (dats m 0 c).owesAt () (Fin.succ first) = (dats m 0 c).owesAt () (Fin.castSucc first) from rfl]
  simp only [after_0, after_1, after_2, after_3, after_4, after_5, after_6, after_7, after_8, after_9, after_10, after_11, after_12, after_13, after_14, after_15, after_16, after_17, after_18, after_19, after_20, after_21, after_22, after_23, after_24, after_25, after_26, after_27, after_28, after_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_first c Set.univ (grid0.coords first) _ _ _ _ _ _ _ _ _ _ _ _ _ _ _ _ _ _ _ _ _ _ _ _ _ _ _ _ _ _ _ _ _ _ _ _ _ _ _ _ _ _ _ _ _ _ _ _ _ _ _ _ _ _ _ _ _ _ _ _ ((cond_iff first).mpr rfl) (iblk m c 0 first) (iblk m c 1 first) (iblk m c 2 first) (iblk m c 3 first) (iblk m c 4 first) (iblk m c 5 first) (iblk m c 6 first) (iblk m c 7 first) (iblk m c 8 first) (iblk m c 9 first) (iblk m c 10 first) (iblk m c 11 first) (iblk m c 12 first) (iblk m c 13 first) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

set_option maxHeartbeats 2000000 in
theorem sound_later (c : Dev nD) (t : Fin cfg0.N) (ht : t.val ≠ 0) :
    bodyPre m c t ⊢ wp frame (wpE (defs₀ (F := F)) Variants.none c none) Set.univ (bodyAt0 t) (fun _ => bodyLeft m c t) := by
  unfold bodyPre bodyLeft bodyAt0
  simp only [before_0, before_1, before_2, before_3, before_4, before_5, before_6, before_7, before_8, before_9, before_10, before_11, before_12, before_13]
  simp only [before_19 m c t ht, before_20 m c t ht, before_21 m c t ht, before_22 m c t ht]
  rw [show (dats m 0 c).Φ (Fin.succ t) = (dats m 0 c).Φ (Fin.castSucc t) from rfl,
    show (dats m 0 c).owesAt () (Fin.succ t) = (dats m 0 c).owesAt () (Fin.castSucc t) from rfl]
  simp only [after_0, after_1, after_2, after_3, after_4, after_5, after_6, after_7, after_8, after_9, after_10, after_11, after_12, after_13, after_14, after_15, after_16, after_17, after_18, after_19, after_20, after_21, after_22, after_23, after_24, after_25, after_26, after_27, after_28, after_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_later c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => ht ((cond_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (store19 (iblk m c 1 first) (iblk m c 2 first) (iblk m c 3 first) (iblk m c 4 first) (iblk m c 5 first) (iblk m c 6 first)) (store20 (iblk m c 1 first) (iblk m c 2 first) (iblk m c 3 first) (iblk m c 4 first) (iblk m c 5 first) (iblk m c 6 first)) (store21 (iblk m c 1 first) (iblk m c 2 first) (iblk m c 3 first) (iblk m c 4 first) (iblk m c 5 first) (iblk m c 6 first)) (store22 (iblk m c 1 first) (iblk m c 2 first) (iblk m c 3 first) (iblk m c 4 first) (iblk m c 5 first) (iblk m c 6 first)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

theorem left_post (c : Dev nD) (t : Fin cfg0.N) : bodyLeft m c t ⊢ bodyPost m c t := by
  unfold bodyLeft bodyPost
  iintro ⟨HΦ, Ho, H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (leave_19 m c t); iexact H19
  isplitl [H20]; · iapply (leave_20 m c t); iexact H20
  isplitl [H21]; · iapply (leave_21 m c t); iexact H21
  isplitl [H22]; · iapply (leave_22 m c t); iexact H22
  isplitl [H23]; · iexact H23
  isplitl [H24]; · iexact H24
  isplitl [H25]; · iexact H25
  isplitl [H26]; · iexact H26
  isplitl [H27]; · iexact H27
  isplitl [H28]; · iexact H28
  iexact H29

/-- The body at any point takes every buffer from what it holds to what the proof data says. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact (sound_first m c t ht).trans (wp_mono _ _ _ fun _ => left_post m c t)
  · exact (sound_later m c t ht).trans (wp_mono _ _ _ fun _ => left_post m c t)

theorem body_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with every array of the call at what the proof data says. -/
theorem run : θ_run defs (onTc (τ := τ) (main (F := F))) (s₀ m ρ) (Pipeline.FramePost cfgs (dats m) 0 (V m)) :=
  (θ_run defs _ _).mono (fun _ h => h.1) (run_quiescent m ρ)

/-- Every run ends with the arguments as they were and nothing left in flight. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) ∧ r.2.sem = fun _ => 0) :=
  θ_run_and (frame_of m ρ (dats m) (A_eq m) (run m ρ)) ((θ_run defs _ _).mono (fun _ h => h.2) (run_quiescent m ρ))

end Cert.Kernel2Ideal.Proj

end
-- ==== Proof.ProjTokens.lean ====
module

public import proofs.«01_k».proof.Proof.ProjInputs
public import proofs.«01_k».proof.Proof.ProjKernelOut
public import proofs.«01_k».proof.Proof.ProjRunIdeal

/-!
The five results of the first feed-forward call that hold rows of the tokens.
-/

@[expose] public section

set_option maxRecDepth 16384

noncomputable section

namespace Cert.Kernel2Ideal.Row

open Cert.Kernel2Ideal Cert.Kernel2Ideal.Gen Cert.Kernel2Ideal.Proj Idealize.ShloMosaic Idealize.ShloMosaic.TcCoe Idealize.SL.Sem RowMath
open Idealize.ShloMosaic.Pipeline (Dat)

variable (m : (ℓ : Loc nD τ sig) → Buf (Elt Ideal) ℓ) (c : Dev nD)

theorem idx_14 : ∀ t : Fin cfg0.N, win0_14.index t 0 = 0 ∧ win0_14.index t 1 = t.val ∧ win0_14.index t 2 = 0 :=
  (by decide +kernel : ∀ t : Fin grid0.N, win0_14.index t 0 = 0 ∧ win0_14.index t 1 = t.val ∧ win0_14.index t 2 = 0)

/-- What result 0 is shown to hold. -/
def result14 : Buf (Elt Ideal) ((c : Thread nD τ).loc main_v18_0) := specH (m ((c : Thread nD τ).loc main_arg0)) (m ((c : Thread nD τ).loc main_arg2)) (m ((c : Thread nD τ).loc main_arg3)) (m ((c : Thread nD τ).loc main_arg4))

/-- What a point writes back is its block of that array. -/
theorem flushed14 (t : Fin cfg0.N) :
    (dats m 0 c).flushed 14 t = (win0_14.blk t).view.read (Elt Ideal) (result14 m c) := by
  show (cfg0.win 14).cut (grid0.coords t) ((dats m 0 c).after 14 t) = _
  rw [after_14]
  funext p
  obtain ⟨b, s, k, rfl⟩ : ∃ (b : Fin 16) (s : Fin 32) (k : Fin 1024), p = ix3 b s k :=
    ⟨p 0, p 1, p 2, eq_ix3 (n0 := 16) (n1 := 32) (n2 := 1024) p⟩
  have ht : t.val < 64 := lt_64 t
  have e : (win0_14.rect t).idx (ix3 b s k) = ix3 (n0 := 16) (n1 := 2048) (n2 := 1024) b ⟨t.val * 32 + s.val, by omega⟩ k := by
    refine funext fun a => Fin.ext ?_
    match a with
    | ⟨0, _⟩ => show win0_14.index t 0 * 16 + 1 * b.val = b.val; rw [(idx_14 t).1]; omega
    | ⟨1, _⟩ => show win0_14.index t 1 * 32 + 1 * s.val = t.val * 32 + s.val; rw [(idx_14 t).2.1]; omega
    | ⟨2, _⟩ => show win0_14.index t 2 * 1024 + 1 * k.val = k.val; rw [(idx_14 t).2.2]; omega
  show store14 (F := Ideal) (iblk m c 0 t) (iblk m c 2 t) (iblk m c 3 t) (iblk m c 4 t) (ix3 b s k) = result14 m c ((win0_14.rect t).idx (ix3 b s k))
  rw [e, store14_apply]
  have h0 : row3 (iblk m c 0 t) b s = row3 (m ((c : Thread nD τ).loc main_arg0)) b (⟨t.val * 32 + s.val, by omega⟩ : Fin 2048) := funext fun k => blk0 m c t b s k _ rfl
  rw [h0, blk2, blk3, blk4]
  rfl

theorem mem14 (t : Fin cfg0.N) (i : S16x2048x1024.Idx) (h : t.val * 32 ≤ (i 1 : Nat) ∧ (i 1 : Nat) < t.val * 32 + 32) :
    i ∈ ((cfg0.win 14).blk t).view.set := by
  show i ∈ ((View.whole main_v18_0).slice (win0_14.rect t)).set
  rw [View.set_slice_whole, Rect.mem_set_unit]
  intro a
  match a with
  | ⟨0, _⟩ =>
    show win0_14.index t 0 * 16 ≤ (i 0 : Nat) ∧ (i 0 : Nat) < win0_14.index t 0 * 16 + 16
    rw [(idx_14 t).1, Nat.zero_mul, Nat.zero_add]
    exact ⟨Nat.zero_le _, (i 0).isLt⟩
  | ⟨1, _⟩ =>
    show win0_14.index t 1 * 32 ≤ (i 1 : Nat) ∧ (i 1 : Nat) < win0_14.index t 1 * 32 + 32
    rw [(idx_14 t).2.1]
    exact h
  | ⟨2, _⟩ =>
    show win0_14.index t 2 * 1024 ≤ (i 2 : Nat) ∧ (i 2 : Nat) < win0_14.index t 2 * 1024 + 1024
    rw [(idx_14 t).2.2, Nat.zero_mul, Nat.zero_add]
    exact ⟨Nat.zero_le _, (i 2).isLt⟩

theorem cover14 (i : S16x2048x1024.Idx) : ∃ t : Fin cfg0.N, (cfg0.win 14).flush t = true ∧ i ∈ ((cfg0.win 14).blk t).view.set := by
  have h1 : (i 1 : Nat) < 2048 := (i 1).isLt
  refine ⟨⟨(i 1 : Nat) / 32, by rw [N_0']; omega⟩, flush0_14 _, mem14 _ i ?_⟩
  dsimp only
  omega

/-- Result 0 ends holding that function of the arguments. -/
theorem final14 : (dats m 0 c).arrAt 14 cfg0.N = result14 m c :=
  (dats m 0 c).arrAt_eq_of_cover 14 (result14 m c) (fun t _ => flushed14 m c t) cover14

theorem idx_15 : ∀ t : Fin cfg0.N, win0_15.index t 0 = t.val ∧ win0_15.index t 1 = 0 :=
  (by decide +kernel : ∀ t : Fin grid0.N, win0_15.index t 0 = t.val ∧ win0_15.index t 1 = 0)

/-- What result 1 is shown to hold. -/
def result15 : Buf (Elt Ideal) ((c : Thread nD τ).loc main_v18_1) := specU (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed15 (t : Fin cfg0.N) :
    (dats m 0 c).flushed 15 t = (win0_15.blk t).view.read (Elt Ideal) (result15 m c) := by
  show (cfg0.win 15).cut (grid0.coords t) ((dats m 0 c).after 15 t) = _
  rw [after_15]
  funext p
  obtain ⟨r, j, rfl⟩ : ∃ (r : Fin 512) (j : Fin 512), p = ix2 r j :=
    ⟨p 0, p 1, eq_ix2 (n0 := 512) (n1 := 512) p⟩
  have ht : t.val < 64 := lt_64 t
  have e : (win0_15.rect t).idx (ix2 r j) = ix2 (n0 := 32768) (n1 := 512) ⟨t.val * 512 + r.val, by omega⟩ j := by
    refine funext fun a => Fin.ext ?_
    match a with
    | ⟨0, _⟩ => show win0_15.index t 0 * 512 + 1 * r.val = t.val * 512 + r.val; rw [(idx_15 t).1]; omega
    | ⟨1, _⟩ => show win0_15.index t 1 * 512 + 1 * j.val = j.val; rw [(idx_15 t).2]; omega
  show store15 (F := Ideal) (iblk m c 0 t) (iblk m c 2 t) (iblk m c 3 t) (iblk m c 4 t) (iblk m c 5 t) (iblk m c 6 t) (ix2 r j) = result15 m c ((win0_15.rect t).idx (ix2 r j))
  rw [e, store15_apply]
  have h0 : row3 (iblk m c 0 t) (⟨r.val % 16, by omega⟩ : Fin 16) (⟨r.val / 16, by omega⟩ : Fin 32) =
      row3 (m ((c : Thread nD τ).loc main_arg0)) (⟨(t.val * 512 + r.val) % 16, by omega⟩ : Fin 16) (⟨(t.val * 512 + r.val) / 16, by omega⟩ : Fin 2048) := by
    have eb : (⟨(t.val * 512 + r.val) % 16, by omega⟩ : Fin 16) = ⟨r.val % 16, by omega⟩ := Fin.ext (show (t.val * 512 + r.val) % 16 = r.val % 16 by omega)
    rw [eb]
    exact funext fun k => blk0 m c t _ _ k _ (show (t.val * 512 + r.val) / 16 = t.val * 32 + r.val / 16 by omega)
  rw [h0, blk2, blk3, blk4, blk5, blk6]
  rfl

theorem mem15 (t : Fin cfg0.N) (i : S32768x512.Idx) (h : t.val * 512 ≤ (i 0 : Nat) ∧ (i 0 : Nat) < t.val * 512 + 512) :
    i ∈ ((cfg0.win 15).blk t).view.set := by
  show i ∈ ((View.whole main_v18_1).slice (win0_15.rect t)).set
  rw [View.set_slice_whole, Rect.mem_set_unit]
  intro a
  match a with
  | ⟨0, _⟩ =>
    show win0_15.index t 0 * 512 ≤ (i 0 : Nat) ∧ (i 0 : Nat) < win0_15.index t 0 * 512 + 512
    rw [(idx_15 t).1]
    exact h
  | ⟨1, _⟩ =>
    show win0_15.index t 1 * 512 ≤ (i 1 : Nat) ∧ (i 1 : Nat) < win0_15.index t 1 * 512 + 512
    rw [(idx_15 t).2, Nat.zero_mul, Nat.zero_add]
    exact ⟨Nat.zero_le _, (i 1).isLt⟩

theorem cover15 (i : S32768x512.Idx) : ∃ t : Fin cfg0.N, (cfg0.win 15).flush t = true ∧ i ∈ ((cfg0.win 15).blk t).view.set := by
  have h1 : (i 0 : Nat) < 32768 := (i 0).isLt
  refine ⟨⟨(i 0 : Nat) / 512, by rw [N_0']; omega⟩, flush0_15 _, mem15 _ i ?_⟩
  dsimp only
  omega

/-- Result 1 ends holding that function of the arguments. -/
theorem final15 : (dats m 0 c).arrAt 15 cfg0.N = result15 m c :=
  (dats m 0 c).arrAt_eq_of_cover 15 (result15 m c) (fun t _ => flushed15 m c t) cover15

theorem idx_16 : ∀ t : Fin cfg0.N, win0_16.index t 0 = 0 ∧ win0_16.index t 1 = t.val ∧ win0_16.index t 2 = 0 :=
  (by decide +kernel : ∀ t : Fin grid0.N, win0_16.index t 0 = 0 ∧ win0_16.index t 1 = t.val ∧ win0_16.index t 2 = 0)

/-- What result 2 is shown to hold. -/
def result16 : Buf (Elt Ideal) ((c : Thread nD τ).loc main_v18_2) := specQ (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed16 (t : Fin cfg0.N) :
    (dats m 0 c).flushed 16 t = (win0_16.blk t).view.read (Elt Ideal) (result16 m c) := by
  show (cfg0.win 16).cut (grid0.coords t) ((dats m 0 c).after 16 t) = _
  rw [after_16]
  funext p
  obtain ⟨b, s, k, rfl⟩ : ∃ (b : Fin 16) (s : Fin 32) (k : Fin 512), p = ix3 b s k :=
    ⟨p 0, p 1, p 2, eq_ix3 (n0 := 16) (n1 := 32) (n2 := 512) p⟩
  have ht : t.val < 64 := lt_64 t
  have e : (win0_16.rect t).idx (ix3 b s k) = ix3 (n0 := 16) (n1 := 2048) (n2 := 512) b ⟨t.val * 32 + s.val, by omega⟩ k := by
    refine funext fun a => Fin.ext ?_
    match a with
    | ⟨0, _⟩ => show win0_16.index t 0 * 16 + 1 * b.val = b.val; rw [(idx_16 t).1]; omega
    | ⟨1, _⟩ => show win0_16.index t 1 * 32 + 1 * s.val = t.val * 32 + s.val; rw [(idx_16 t).2.1]; omega
    | ⟨2, _⟩ => show win0_16.index t 2 * 512 + 1 * k.val = k.val; rw [(idx_16 t).2.2]; omega
  show store16 (F := Ideal) (iblk m c 0 t) (iblk m c 2 t) (iblk m c 3 t) (iblk m c 4 t) (iblk m c 5 t) (iblk m c 6 t) (ix3 b s k) = result16 m c ((win0_16.rect t).idx (ix3 b s k))
  rw [e, store16_apply]
  have h0 : row3 (iblk m c 0 t) b s = row3 (m ((c : Thread nD τ).loc main_arg0)) b (⟨t.val * 32 + s.val, by omega⟩ : Fin 2048) := funext fun k => blk0 m c t b s k _ rfl
  rw [h0, blk2, blk3, blk4, blk5, blk6]
  rfl

theorem mem16 (t : Fin cfg0.N) (i : S16x2048x512.Idx) (h : t.val * 32 ≤ (i 1 : Nat) ∧ (i 1 : Nat) < t.val * 32 + 32) :
    i ∈ ((cfg0.win 16).blk t).view.set := by
  show i ∈ ((View.whole main_v18_2).slice (win0_16.rect t)).set
  rw [View.set_slice_whole, Rect.mem_set_unit]
  intro a
  match a with
  | ⟨0, _⟩ =>
    show win0_16.index t 0 * 16 ≤ (i 0 : Nat) ∧ (i 0 : Nat) < win0_16.index t 0 * 16 + 16
    rw [(idx_16 t).1, Nat.zero_mul, Nat.zero_add]
    exact ⟨Nat.zero_le _, (i 0).isLt⟩
  | ⟨1, _⟩ =>
    show win0_16.index t 1 * 32 ≤ (i 1 : Nat) ∧ (i 1 : Nat) < win0_16.index t 1 * 32 + 32
    rw [(idx_16 t).2.1]
    exact h
  | ⟨2, _⟩ =>
    show win0_16.index t 2 * 512 ≤ (i 2 : Nat) ∧ (i 2 : Nat) < win0_16.index t 2 * 512 + 512
    rw [(idx_16 t).2.2, Nat.zero_mul, Nat.zero_add]
    exact ⟨Nat.zero_le _, (i 2).isLt⟩

theorem cover16 (i : S16x2048x512.Idx) : ∃ t : Fin cfg0.N, (cfg0.win 16).flush t = true ∧ i ∈ ((cfg0.win 16).blk t).view.set := by
  have h1 : (i 1 : Nat) < 2048 := (i 1).isLt
  refine ⟨⟨(i 1 : Nat) / 32, by rw [N_0']; omega⟩, flush0_16 _, mem16 _ i ?_⟩
  dsimp only
  omega

/-- Result 2 ends holding that function of the arguments. -/
theorem final16 : (dats m 0 c).arrAt 16 cfg0.N = result16 m c :=
  (dats m 0 c).arrAt_eq_of_cover 16 (result16 m c) (fun t _ => flushed16 m c t) cover16

theorem idx_17 : ∀ t : Fin cfg0.N, win0_17.index t 0 = 0 ∧ win0_17.index t 1 = t.val ∧ win0_17.index t 2 = 0 :=
  (by decide +kernel : ∀ t : Fin grid0.N, win0_17.index t 0 = 0 ∧ win0_17.index t 1 = t.val ∧ win0_17.index t 2 = 0)

/-- What result 3 is shown to hold. -/
def result17 : Buf (Elt Ideal) ((c : Thread nD τ).loc main_v18_3) := specK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed17 (t : Fin cfg0.N) :
    (dats m 0 c).flushed 17 t = (win0_17.blk t).view.read (Elt Ideal) (result17 m c) := by
  show (cfg0.win 17).cut (grid0.coords t) ((dats m 0 c).after 17 t) = _
  rw [after_17]
  funext p
  obtain ⟨b, s, k, rfl⟩ : ∃ (b : Fin 16) (s : Fin 32) (k : Fin 512), p = ix3 b s k :=
    ⟨p 0, p 1, p 2, eq_ix3 (n0 := 16) (n1 := 32) (n2 := 512) p⟩
  have ht : t.val < 64 := lt_64 t
  have e : (win0_17.rect t).idx (ix3 b s k) = ix3 (n0 := 16) (n1 := 2048) (n2 := 512) b ⟨t.val * 32 + s.val, by omega⟩ k := by
    refine funext fun a => Fin.ext ?_
    match a with
    | ⟨0, _⟩ => show win0_17.index t 0 * 16 + 1 * b.val = b.val; rw [(idx_17 t).1]; omega
    | ⟨1, _⟩ => show win0_17.index t 1 * 32 + 1 * s.val = t.val * 32 + s.val; rw [(idx_17 t).2.1]; omega
    | ⟨2, _⟩ => show win0_17.index t 2 * 512 + 1 * k.val = k.val; rw [(idx_17 t).2.2]; omega
  show store17 (F := Ideal) (iblk m c 0 t) (iblk m c 2 t) (iblk m c 3 t) (iblk m c 4 t) (iblk m c 5 t) (iblk m c 6 t) (ix3 b s k) = result17 m c ((win0_17.rect t).idx (ix3 b s k))
  rw [e, store17_apply]
  have h0 : row3 (iblk m c 0 t) b s = row3 (m ((c : Thread nD τ).loc main_arg0)) b (⟨t.val * 32 + s.val, by omega⟩ : Fin 2048) := funext fun k => blk0 m c t b s k _ rfl
  rw [h0, blk2, blk3, blk4, blk5, blk6]
  rfl

theorem mem17 (t : Fin cfg0.N) (i : S16x2048x512.Idx) (h : t.val * 32 ≤ (i 1 : Nat) ∧ (i 1 : Nat) < t.val * 32 + 32) :
    i ∈ ((cfg0.win 17).blk t).view.set := by
  show i ∈ ((View.whole main_v18_3).slice (win0_17.rect t)).set
  rw [View.set_slice_whole, Rect.mem_set_unit]
  intro a
  match a with
  | ⟨0, _⟩ =>
    show win0_17.index t 0 * 16 ≤ (i 0 : Nat) ∧ (i 0 : Nat) < win0_17.index t 0 * 16 + 16
    rw [(idx_17 t).1, Nat.zero_mul, Nat.zero_add]
    exact ⟨Nat.zero_le _, (i 0).isLt⟩
  | ⟨1, _⟩ =>
    show win0_17.index t 1 * 32 ≤ (i 1 : Nat) ∧ (i 1 : Nat) < win0_17.index t 1 * 32 + 32
    rw [(idx_17 t).2.1]
    exact h
  | ⟨2, _⟩ =>
    show win0_17.index t 2 * 512 ≤ (i 2 : Nat) ∧ (i 2 : Nat) < win0_17.index t 2 * 512 + 512
    rw [(idx_17 t).2.2, Nat.zero_mul, Nat.zero_add]
    exact ⟨Nat.zero_le _, (i 2).isLt⟩

theorem cover17 (i : S16x2048x512.Idx) : ∃ t : Fin cfg0.N, (cfg0.win 17).flush t = true ∧ i ∈ ((cfg0.win 17).blk t).view.set := by
  have h1 : (i 1 : Nat) < 2048 := (i 1).isLt
  refine ⟨⟨(i 1 : Nat) / 32, by rw [N_0']; omega⟩, flush0_17 _, mem17 _ i ?_⟩
  dsimp only
  omega

/-- Result 3 ends holding that function of the arguments. -/
theorem final17 : (dats m 0 c).arrAt 17 cfg0.N = result17 m c :=
  (dats m 0 c).arrAt_eq_of_cover 17 (result17 m c) (fun t _ => flushed17 m c t) cover17

theorem idx_18 : ∀ t : Fin cfg0.N, win0_18.index t 0 = 0 ∧ win0_18.index t 1 = t.val ∧ win0_18.index t 2 = 0 :=
  (by decide +kernel : ∀ t : Fin grid0.N, win0_18.index t 0 = 0 ∧ win0_18.index t 1 = t.val ∧ win0_18.index t 2 = 0)

/-- What result 4 is shown to hold. -/
def result18 : Buf (Elt Ideal) ((c : Thread nD τ).loc main_v18_4) := specV (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed18 (t : Fin cfg0.N) :
    (dats m 0 c).flushed 18 t = (win0_18.blk t).view.read (Elt Ideal) (result18 m c) := by
  show (cfg0.win 18).cut (grid0.coords t) ((dats m 0 c).after 18 t) = _
  rw [after_18]
  funext p
  obtain ⟨b, s, k, rfl⟩ : ∃ (b : Fin 16) (s : Fin 32) (k : Fin 512), p = ix3 b s k :=
    ⟨p 0, p 1, p 2, eq_ix3 (n0 := 16) (n1 := 32) (n2 := 512) p⟩
  have ht : t.val < 64 := lt_64 t
  have e : (win0_18.rect t).idx (ix3 b s k) = ix3 (n0 := 16) (n1 := 2048) (n2 := 512) b ⟨t.val * 32 + s.val, by omega⟩ k := by
    refine funext fun a => Fin.ext ?_
    match a with
    | ⟨0, _⟩ => show win0_18.index t 0 * 16 + 1 * b.val = b.val; rw [(idx_18 t).1]; omega
    | ⟨1, _⟩ => show win0_18.index t 1 * 32 + 1 * s.val = t.val * 32 + s.val; rw [(idx_18 t).2.1]; omega
    | ⟨2, _⟩ => show win0_18.index t 2 * 512 + 1 * k.val = k.val; rw [(idx_18 t).2.2]; omega
  show store18 (F := Ideal) (iblk m c 0 t) (iblk m c 2 t) (iblk m c 3 t) (iblk m c 4 t) (iblk m c 5 t) (iblk m c 6 t) (ix3 b s k) = result18 m c ((win0_18.rect t).idx (ix3 b s k))
  rw [e, store18_apply]
  have h0 : row3 (iblk m c 0 t) b s = row3 (m ((c : Thread nD τ).loc main_arg0)) b (⟨t.val * 32 + s.val, by omega⟩ : Fin 2048) := funext fun k => blk0 m c t b s k _ rfl
  rw [h0, blk2, blk3, blk4, blk5, blk6]
  rfl

theorem mem18 (t : Fin cfg0.N) (i : S16x2048x512.Idx) (h : t.val * 32 ≤ (i 1 : Nat) ∧ (i 1 : Nat) < t.val * 32 + 32) :
    i ∈ ((cfg0.win 18).blk t).view.set := by
  show i ∈ ((View.whole main_v18_4).slice (win0_18.rect t)).set
  rw [View.set_slice_whole, Rect.mem_set_unit]
  intro a
  match a with
  | ⟨0, _⟩ =>
    show win0_18.index t 0 * 16 ≤ (i 0 : Nat) ∧ (i 0 : Nat) < win0_18.index t 0 * 16 + 16
    rw [(idx_18 t).1, Nat.zero_mul, Nat.zero_add]
    exact ⟨Nat.zero_le _, (i 0).isLt⟩
  | ⟨1, _⟩ =>
    show win0_18.index t 1 * 32 ≤ (i 1 : Nat) ∧ (i 1 : Nat) < win0_18.index t 1 * 32 + 32
    rw [(idx_18 t).2.1]
    exact h
  | ⟨2, _⟩ =>
    show win0_18.index t 2 * 512 ≤ (i 2 : Nat) ∧ (i 2 : Nat) < win0_18.index t 2 * 512 + 512
    rw [(idx_18 t).2.2, Nat.zero_mul, Nat.zero_add]
    exact ⟨Nat.zero_le _, (i 2).isLt⟩

theorem cover18 (i : S16x2048x512.Idx) : ∃ t : Fin cfg0.N, (cfg0.win 18).flush t = true ∧ i ∈ ((cfg0.win 18).blk t).view.set := by
  have h1 : (i 1 : Nat) < 2048 := (i 1).isLt
  refine ⟨⟨(i 1 : Nat) / 32, by rw [N_0']; omega⟩, flush0_18 _, mem18 _ i ?_⟩
  dsimp only
  omega

/-- Result 4 ends holding that function of the arguments. -/
theorem final18 : (dats m 0 c).arrAt 18 cfg0.N = result18 m c :=
  (dats m 0 c).arrAt_eq_of_cover 18 (result18 m c) (fun t _ => flushed18 m c t) cover18

end Cert.Kernel2Ideal.Row

end
-- ==== Proof.ProjMeta.lean ====
module

public import proofs.«01_k».proof.Proof.ProjInputs
public import proofs.«01_k».proof.Proof.ProjKernelOut
public import proofs.«01_k».proof.Proof.ProjRunIdeal

/-!
The four results of the first feed-forward call that hold rows of the meta tokens.
-/

@[expose] public section

set_option maxRecDepth 16384

noncomputable section

namespace Cert.Kernel2Ideal.Row

open Cert.Kernel2Ideal Cert.Kernel2Ideal.Gen Cert.Kernel2Ideal.Proj Idealize.ShloMosaic Idealize.ShloMosaic.TcCoe Idealize.SL.Sem RowMath
open Idealize.ShloMosaic.Pipeline (Dat)

variable (m : (ℓ : Loc nD τ sig) → Buf (Elt Ideal) ℓ) (c : Dev nD)

theorem idx_19 : ∀ t : Fin cfg0.N, win0_19.index t 0 = 0 ∧ win0_19.index t 1 = 0 :=
  (by decide +kernel : ∀ t : Fin grid0.N, win0_19.index t 0 = 0 ∧ win0_19.index t 1 = 0)

/-- What result 5 is shown to hold. -/
def result19 : Buf (Elt Ideal) ((c : Thread nD τ).loc main_v18_5) := specUm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed19 (t : Fin cfg0.N) :
    (dats m 0 c).flushed 19 t = (win0_19.blk t).view.read (Elt Ideal) (result19 m c) := by
  show (cfg0.win 19).cut (grid0.coords t) ((dats m 0 c).after 19 t) = _
  rw [after_19]
  funext p
  obtain ⟨r, j, rfl⟩ : ∃ (r : Fin 16) (j : Fin 512), p = ix2 r j :=
    ⟨p 0, p 1, eq_ix2 (n0 := 16) (n1 := 512) p⟩
  have ht : t.val < 64 := lt_64 t
  have e : (win0_19.rect t).idx (ix2 r j) = ix2 (n0 := 16) (n1 := 512) r j := by
    refine funext fun a => Fin.ext ?_
    match a with
    | ⟨0, _⟩ => show win0_19.index t 0 * 16 + 1 * r.val = r.val; rw [(idx_19 t).1]; omega
    | ⟨1, _⟩ => show win0_19.index t 1 * 512 + 1 * j.val = j.val; rw [(idx_19 t).2]; omega
  show store19 (F := Ideal) (iblk m c 1 first) (iblk m c 2 first) (iblk m c 3 first) (iblk m c 4 first) (iblk m c 5 first) (iblk m c 6 first) (ix2 r j) = result19 m c ((win0_19.rect t).idx (ix2 r j))
  rw [e, store19_apply]
  rw [blk1, blk2, blk3, blk4, blk5, blk6]
  rfl

theorem mem19 (t : Fin cfg0.N) (i : S16x512.Idx) :
    i ∈ ((cfg0.win 19).blk t).view.set := by
  show i ∈ ((View.whole main_v18_5).slice (win0_19.rect t)).set
  rw [View.set_slice_whole, Rect.mem_set_unit]
  intro a
  match a with
  | ⟨0, _⟩ =>
    show win0_19.index t 0 * 16 ≤ (i 0 : Nat) ∧ (i 0 : Nat) < win0_19.index t 0 * 16 + 16
    rw [(idx_19 t).1, Nat.zero_mul, Nat.zero_add]
    exact ⟨Nat.zero_le _, (i 0).isLt⟩
  | ⟨1, _⟩ =>
    show win0_19.index t 1 * 512 ≤ (i 1 : Nat) ∧ (i 1 : Nat) < win0_19.index t 1 * 512 + 512
    rw [(idx_19 t).2, Nat.zero_mul, Nat.zero_add]
    exact ⟨Nat.zero_le _, (i 1).isLt⟩

theorem cover19 (i : S16x512.Idx) : ∃ t : Fin cfg0.N, (cfg0.win 19).flush t = true ∧ i ∈ ((cfg0.win 19).blk t).view.set := by
  refine ⟨⟨63, by rw [N_0']; decide⟩, (flush0_19 _).mpr rfl, mem19 _ i⟩

/-- Result 5 ends holding that function of the arguments. -/
theorem final19 : (dats m 0 c).arrAt 19 cfg0.N = result19 m c :=
  (dats m 0 c).arrAt_eq_of_cover 19 (result19 m c) (fun t _ => flushed19 m c t) cover19

theorem idx_20 : ∀ t : Fin cfg0.N, win0_20.index t 0 = 0 ∧ win0_20.index t 1 = 0 :=
  (by decide +kernel : ∀ t : Fin grid0.N, win0_20.index t 0 = 0 ∧ win0_20.index t 1 = 0)

/-- What result 6 is shown to hold. -/
def result20 : Buf (Elt Ideal) ((c : Thread nD τ).loc main_v18_6) := specQm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed20 (t : Fin cfg0.N) :
    (dats m 0 c).flushed 20 t = (win0_20.blk t).view.read (Elt Ideal) (result20 m c) := by
  show (cfg0.win 20).cut (grid0.coords t) ((dats m 0 c).after 20 t) = _
  rw [after_20]
  funext p
  obtain ⟨r, j, rfl⟩ : ∃ (r : Fin 16) (j : Fin 512), p = ix2 r j :=
    ⟨p 0, p 1, eq_ix2 (n0 := 16) (n1 := 512) p⟩
  have ht : t.val < 64 := lt_64 t
  have e : (win0_20.rect t).idx (ix2 r j) = ix2 (n0 := 16) (n1 := 512) r j := by
    refine funext fun a => Fin.ext ?_
    match a with
    | ⟨0, _⟩ => show win0_20.index t 0 * 16 + 1 * r.val = r.val; rw [(idx_20 t).1]; omega
    | ⟨1, _⟩ => show win0_20.index t 1 * 512 + 1 * j.val = j.val; rw [(idx_20 t).2]; omega
  show store20 (F := Ideal) (iblk m c 1 first) (iblk m c 2 first) (iblk m c 3 first) (iblk m c 4 first) (iblk m c 5 first) (iblk m c 6 first) (ix2 r j) = result20 m c ((win0_20.rect t).idx (ix2 r j))
  rw [e, store20_apply]
  rw [blk1, blk2, blk3, blk4, blk5, blk6]
  rfl

theorem mem20 (t : Fin cfg0.N) (i : S16x512.Idx) :
    i ∈ ((cfg0.win 20).blk t).view.set := by
  show i ∈ ((View.whole main_v18_6).slice (win0_20.rect t)).set
  rw [View.set_slice_whole, Rect.mem_set_unit]
  intro a
  match a with
  | ⟨0, _⟩ =>
    show win0_20.index t 0 * 16 ≤ (i 0 : Nat) ∧ (i 0 : Nat) < win0_20.index t 0 * 16 + 16
    rw [(idx_20 t).1, Nat.zero_mul, Nat.zero_add]
    exact ⟨Nat.zero_le _, (i 0).isLt⟩
  | ⟨1, _⟩ =>
    show win0_20.index t 1 * 512 ≤ (i 1 : Nat) ∧ (i 1 : Nat) < win0_20.index t 1 * 512 + 512
    rw [(idx_20 t).2, Nat.zero_mul, Nat.zero_add]
    exact ⟨Nat.zero_le _, (i 1).isLt⟩

theorem cover20 (i : S16x512.Idx) : ∃ t : Fin cfg0.N, (cfg0.win 20).flush t = true ∧ i ∈ ((cfg0.win 20).blk t).view.set := by
  refine ⟨⟨63, by rw [N_0']; decide⟩, (flush0_20 _).mpr rfl, mem20 _ i⟩

/-- Result 6 ends holding that function of the arguments. -/
theorem final20 : (dats m 0 c).arrAt 20 cfg0.N = result20 m c :=
  (dats m 0 c).arrAt_eq_of_cover 20 (result20 m c) (fun t _ => flushed20 m c t) cover20

theorem idx_21 : ∀ t : Fin cfg0.N, win0_21.index t 0 = 0 ∧ win0_21.index t 1 = 0 :=
  (by decide +kernel : ∀ t : Fin grid0.N, win0_21.index t 0 = 0 ∧ win0_21.index t 1 = 0)

/-- What result 7 is shown to hold. -/
def result21 : Buf (Elt Ideal) ((c : Thread nD τ).loc main_v18_7) := specKm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed21 (t : Fin cfg0.N) :
    (dats m 0 c).flushed 21 t = (win0_21.blk t).view.read (Elt Ideal) (result21 m c) := by
  show (cfg0.win 21).cut (grid0.coords t) ((dats m 0 c).after 21 t) = _
  rw [after_21]
  funext p
  obtain ⟨r, j, rfl⟩ : ∃ (r : Fin 16) (j : Fin 512), p = ix2 r j :=
    ⟨p 0, p 1, eq_ix2 (n0 := 16) (n1 := 512) p⟩
  have ht : t.val < 64 := lt_64 t
  have e : (win0_21.rect t).idx (ix2 r j) = ix2 (n0 := 16) (n1 := 512) r j := by
    refine funext fun a => Fin.ext ?_
    match a with
    | ⟨0, _⟩ => show win0_21.index t 0 * 16 + 1 * r.val = r.val; rw [(idx_21 t).1]; omega
    | ⟨1, _⟩ => show win0_21.index t 1 * 512 + 1 * j.val = j.val; rw [(idx_21 t).2]; omega
  show store21 (F := Ideal) (iblk m c 1 first) (iblk m c 2 first) (iblk m c 3 first) (iblk m c 4 first) (iblk m c 5 first) (iblk m c 6 first) (ix2 r j) = result21 m c ((win0_21.rect t).idx (ix2 r j))
  rw [e, store21_apply]
  rw [blk1, blk2, blk3, blk4, blk5, blk6]
  rfl

theorem mem21 (t : Fin cfg0.N) (i : S16x512.Idx) :
    i ∈ ((cfg0.win 21).blk t).view.set := by
  show i ∈ ((View.whole main_v18_7).slice (win0_21.rect t)).set
  rw [View.set_slice_whole, Rect.mem_set_unit]
  intro a
  match a with
  | ⟨0, _⟩ =>
    show win0_21.index t 0 * 16 ≤ (i 0 : Nat) ∧ (i 0 : Nat) < win0_21.index t 0 * 16 + 16
    rw [(idx_21 t).1, Nat.zero_mul, Nat.zero_add]
    exact ⟨Nat.zero_le _, (i 0).isLt⟩
  | ⟨1, _⟩ =>
    show win0_21.index t 1 * 512 ≤ (i 1 : Nat) ∧ (i 1 : Nat) < win0_21.index t 1 * 512 + 512
    rw [(idx_21 t).2, Nat.zero_mul, Nat.zero_add]
    exact ⟨Nat.zero_le _, (i 1).isLt⟩

theorem cover21 (i : S16x512.Idx) : ∃ t : Fin cfg0.N, (cfg0.win 21).flush t = true ∧ i ∈ ((cfg0.win 21).blk t).view.set := by
  refine ⟨⟨63, by rw [N_0']; decide⟩, (flush0_21 _).mpr rfl, mem21 _ i⟩

/-- Result 7 ends holding that function of the arguments. -/
theorem final21 : (dats m 0 c).arrAt 21 cfg0.N = result21 m c :=
  (dats m 0 c).arrAt_eq_of_cover 21 (result21 m c) (fun t _ => flushed21 m c t) cover21

theorem idx_22 : ∀ t : Fin cfg0.N, win0_22.index t 0 = 0 ∧ win0_22.index t 1 = 0 :=
  (by decide +kernel : ∀ t : Fin grid0.N, win0_22.index t 0 = 0 ∧ win0_22.index t 1 = 0)

/-- What result 8 is shown to hold. -/
def result22 : Buf (Elt Ideal) ((c : Thread nD τ).loc main_v18_8) := specVm (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of that array. -/
theorem flushed22 (t : Fin cfg0.N) :
    (dats m 0 c).flushed 22 t = (win0_22.blk t).view.read (Elt Ideal) (result22 m c) := by
  show (cfg0.win 22).cut (grid0.coords t) ((dats m 0 c).after 22 t) = _
  rw [after_22]
  funext p
  obtain ⟨r, j, rfl⟩ : ∃ (r : Fin 16) (j : Fin 512), p = ix2 r j :=
    ⟨p 0, p 1, eq_ix2 (n0 := 16) (n1 := 512) p⟩
  have ht : t.val < 64 := lt_64 t
  have e : (win0_22.rect t).idx (ix2 r j) = ix2 (n0 := 16) (n1 := 512) r j := by
    refine funext fun a => Fin.ext ?_
    match a with
    | ⟨0, _⟩ => show win0_22.index t 0 * 16 + 1 * r.val = r.val; rw [(idx_22 t).1]; omega
    | ⟨1, _⟩ => show win0_22.index t 1 * 512 + 1 * j.val = j.val; rw [(idx_22 t).2]; omega
  show store22 (F := Ideal) (iblk m c 1 first) (iblk m c 2 first) (iblk m c 3 first) (iblk m c 4 first) (iblk m c 5 first) (iblk m c 6 first) (ix2 r j) = result22 m c ((win0_22.rect t).idx (ix2 r j))
  rw [e, store22_apply]
  rw [blk1, blk2, blk3, blk4, blk5, blk6]
  rfl

theorem mem22 (t : Fin cfg0.N) (i : S16x512.Idx) :
    i ∈ ((cfg0.win 22).blk t).view.set := by
  show i ∈ ((View.whole main_v18_8).slice (win0_22.rect t)).set
  rw [View.set_slice_whole, Rect.mem_set_unit]
  intro a
  match a with
  | ⟨0, _⟩ =>
    show win0_22.index t 0 * 16 ≤ (i 0 : Nat) ∧ (i 0 : Nat) < win0_22.index t 0 * 16 + 16
    rw [(idx_22 t).1, Nat.zero_mul, Nat.zero_add]
    exact ⟨Nat.zero_le _, (i 0).isLt⟩
  | ⟨1, _⟩ =>
    show win0_22.index t 1 * 512 ≤ (i 1 : Nat) ∧ (i 1 : Nat) < win0_22.index t 1 * 512 + 512
    rw [(idx_22 t).2, Nat.zero_mul, Nat.zero_add]
    exact ⟨Nat.zero_le _, (i 1).isLt⟩

theorem cover22 (i : S16x512.Idx) : ∃ t : Fin cfg0.N, (cfg0.win 22).flush t = true ∧ i ∈ ((cfg0.win 22).blk t).view.set := by
  refine ⟨⟨63, by rw [N_0']; decide⟩, (flush0_22 _).mpr rfl, mem22 _ i⟩

/-- Result 8 ends holding that function of the arguments. -/
theorem final22 : (dats m 0 c).arrAt 22 cfg0.N = result22 m c :=
  (dats m 0 c).arrAt_eq_of_cover 22 (result22 m c) (fun t _ => flushed22 m c t) cover22

end Cert.Kernel2Ideal.Row

end
-- ==== Proof.ProjCasts.lean ====
module

public import proofs.«01_k».proof.Proof.ProjInputs
public import proofs.«01_k».proof.Proof.ProjKernelOut
public import proofs.«01_k».proof.Proof.ProjRunIdeal

/-!
The seven results of the first feed-forward call that hold weights of later calls.
-/

@[expose] public section

set_option maxRecDepth 16384

noncomputable section

namespace Cert.Kernel2Ideal.Row

open Cert.Kernel2Ideal Cert.Kernel2Ideal.Gen Cert.Kernel2Ideal.Proj Idealize.ShloMosaic Idealize.ShloMosaic.TcCoe Idealize.SL.Sem RowMath
open Idealize.ShloMosaic.Pipeline (Dat)

variable (m : (ℓ : Loc nD τ sig) → Buf (Elt Ideal) ℓ) (c : Dev nD)

theorem idx_23 : ∀ t : Fin cfg0.N, win0_23.index t 0 = min t.val 63 ∧ win0_23.index t 1 = 0 :=
  (by decide +kernel : ∀ t : Fin grid0.N, win0_23.index t 0 = min t.val 63 ∧ win0_23.index t 1 = 0)

/-- What result 9 is shown to hold. -/
def result23 : Buf (Elt Ideal) ((c : Thread nD τ).loc main_v18_9) := specOne (m ((c : Thread nD τ).loc main_arg7))

/-- What a point writes back is its block of that array. -/
theorem flushed23 (t : Fin cfg0.N) :
    (dats m 0 c).flushed 23 t = (win0_23.blk t).view.read (Elt Ideal) (result23 m c) := by
  show (cfg0.win 23).cut (grid0.coords t) ((dats m 0 c).after 23 t) = _
  rw [after_23]
  funext p
  obtain ⟨r, j, rfl⟩ : ∃ (r : Fin 16) (j : Fin 5632), p = ix2 r j :=
    ⟨p 0, p 1, eq_ix2 (n0 := 16) (n1 := 5632) p⟩
  have ht : t.val < 64 := lt_64 t
  have e : (win0_23.rect t).idx (ix2 r j) = ix2 (n0 := 1024) (n1 := 5632) ⟨min t.val 63 * 16 + r.val, by omega⟩ j := by
    refine funext fun a => Fin.ext ?_
    match a with
    | ⟨0, _⟩ => show win0_23.index t 0 * 16 + 1 * r.val = min t.val 63 * 16 + r.val; rw [(idx_23 t).1]; omega
    | ⟨1, _⟩ => show win0_23.index t 1 * 5632 + 1 * j.val = j.val; rw [(idx_23 t).2]; omega
  show store23 (F := Ideal) (iblk m c 7 t) (ix2 r j) = result23 m c ((win0_23.rect t).idx (ix2 r j))
  rw [e, store23_apply]
  exact blk7 m c t r j _ rfl

theorem mem23 (t : Fin cfg0.N) (i : S1024x5632.Idx) (h : min t.val 63 * 16 ≤ (i 0 : Nat) ∧ (i 0 : Nat) < min t.val 63 * 16 + 16) :
    i ∈ ((cfg0.win 23).blk t).view.set := by
  show i ∈ ((View.whole main_v18_9).slice (win0_23.rect t)).set
  rw [View.set_slice_whole, Rect.mem_set_unit]
  intro a
  match a with
  | ⟨0, _⟩ =>
    show win0_23.index t 0 * 16 ≤ (i 0 : Nat) ∧ (i 0 : Nat) < win0_23.index t 0 * 16 + 16
    rw [(idx_23 t).1]
    exact h
  | ⟨1, _⟩ =>
    show win0_23.index t 1 * 5632 ≤ (i 1 : Nat) ∧ (i 1 : Nat) < win0_23.index t 1 * 5632 + 5632
    rw [(idx_23 t).2, Nat.zero_mul, Nat.zero_add]
    exact ⟨Nat.zero_le _, (i 1).isLt⟩

theorem cover23 (i : S1024x5632.Idx) : ∃ t : Fin cfg0.N, (cfg0.win 23).flush t = true ∧ i ∈ ((cfg0.win 23).blk t).view.set := by
  have h1 : (i 0 : Nat) < 1024 := (i 0).isLt
  refine ⟨⟨(i 0 : Nat) / 16, by rw [N_0']; omega⟩, flush0_23 _, mem23 _ i ?_⟩
  dsimp only
  omega

/-- Result 9 ends holding that function of the arguments. -/
theorem final23 : (dats m 0 c).arrAt 23 cfg0.N = result23 m c :=
  (dats m 0 c).arrAt_eq_of_cover 23 (result23 m c) (fun t _ => flushed23 m c t) cover23

theorem idx_24 : ∀ t : Fin cfg0.N, win0_24.index t 0 = min t.val 43 ∧ win0_24.index t 1 = 0 :=
  (by decide +kernel : ∀ t : Fin grid0.N, win0_24.index t 0 = min t.val 43 ∧ win0_24.index t 1 = 0)

/-- What result 10 is shown to hold. -/
def result24 : Buf (Elt Ideal) ((c : Thread nD τ).loc main_v18_10) := specOne (m ((c : Thread nD τ).loc main_arg8))

/-- What a point writes back is its block of that array. -/
theorem flushed24 (t : Fin cfg0.N) :
    (dats m 0 c).flushed 24 t = (win0_24.blk t).view.read (Elt Ideal) (result24 m c) := by
  show (cfg0.win 24).cut (grid0.coords t) ((dats m 0 c).after 24 t) = _
  rw [after_24]
  funext p
  obtain ⟨r, j, rfl⟩ : ∃ (r : Fin 64) (j : Fin 1024), p = ix2 r j :=
    ⟨p 0, p 1, eq_ix2 (n0 := 64) (n1 := 1024) p⟩
  have ht : t.val < 64 := lt_64 t
  have e : (win0_24.rect t).idx (ix2 r j) = ix2 (n0 := 2816) (n1 := 1024) ⟨min t.val 43 * 64 + r.val, by omega⟩ j := by
    refine funext fun a => Fin.ext ?_
    match a with
    | ⟨0, _⟩ => show win0_24.index t 0 * 64 + 1 * r.val = min t.val 43 * 64 + r.val; rw [(idx_24 t).1]; omega
    | ⟨1, _⟩ => show win0_24.index t 1 * 1024 + 1 * j.val = j.val; rw [(idx_24 t).2]; omega
  show store24 (F := Ideal) (iblk m c 8 t) (ix2 r j) = result24 m c ((win0_24.rect t).idx (ix2 r j))
  rw [e, store24_apply]
  exact blk8 m c t r j _ rfl

theorem mem24 (t : Fin cfg0.N) (i : S2816x1024.Idx) (h : min t.val 43 * 64 ≤ (i 0 : Nat) ∧ (i 0 : Nat) < min t.val 43 * 64 + 64) :
    i ∈ ((cfg0.win 24).blk t).view.set := by
  show i ∈ ((View.whole main_v18_10).slice (win0_24.rect t)).set
  rw [View.set_slice_whole, Rect.mem_set_unit]
  intro a
  match a with
  | ⟨0, _⟩ =>
    show win0_24.index t 0 * 64 ≤ (i 0 : Nat) ∧ (i 0 : Nat) < win0_24.index t 0 * 64 + 64
    rw [(idx_24 t).1]
    exact h
  | ⟨1, _⟩ =>
    show win0_24.index t 1 * 1024 ≤ (i 1 : Nat) ∧ (i 1 : Nat) < win0_24.index t 1 * 1024 + 1024
    rw [(idx_24 t).2, Nat.zero_mul, Nat.zero_add]
    exact ⟨Nat.zero_le _, (i 1).isLt⟩

theorem flush24 : ∀ t : Fin cfg0.N, t.val < 43 ∨ t.val = 63 → (cfg0.win 24).flush t = true :=
  (by decide +kernel : ∀ t : Fin grid0.N, t.val < 43 ∨ t.val = 63 → win0_24.flush t = true)

theorem cover24 (i : S2816x1024.Idx) : ∃ t : Fin cfg0.N, (cfg0.win 24).flush t = true ∧ i ∈ ((cfg0.win 24).blk t).view.set := by
  have h1 : (i 0 : Nat) < 2816 := (i 0).isLt
  by_cases h : (i 0 : Nat) / 64 < 43
  · refine ⟨⟨(i 0 : Nat) / 64, by rw [N_0']; omega⟩, flush24 _ (Or.inl h), mem24 _ i ?_⟩
    dsimp only
    omega
  · refine ⟨⟨63, by rw [N_0']; decide⟩, flush24 _ (Or.inr rfl), mem24 _ i ?_⟩
    dsimp only
    omega

/-- Result 10 ends holding that function of the arguments. -/
theorem final24 : (dats m 0 c).arrAt 24 cfg0.N = result24 m c :=
  (dats m 0 c).arrAt_eq_of_cover 24 (result24 m c) (fun t _ => flushed24 m c t) cover24

theorem idx_25 : ∀ t : Fin cfg0.N, win0_25.index t 0 = min t.val 63 ∧ win0_25.index t 1 = 0 :=
  (by decide +kernel : ∀ t : Fin grid0.N, win0_25.index t 0 = min t.val 63 ∧ win0_25.index t 1 = 0)

/-- What result 11 is shown to hold. -/
def result25 : Buf (Elt Ideal) ((c : Thread nD τ).loc main_v18_11) := specGate (m ((c : Thread nD τ).loc main_arg6))

/-- What a point writes back is its block of that array. -/
theorem flushed25 (t : Fin cfg0.N) :
    (dats m 0 c).flushed 25 t = (win0_25.blk t).view.read (Elt Ideal) (result25 m c) := by
  show (cfg0.win 25).cut (grid0.coords t) ((dats m 0 c).after 25 t) = _
  rw [after_25]
  funext p
  obtain ⟨r, j, rfl⟩ : ∃ (r : Fin 16) (j : Fin 2048), p = ix2 r j :=
    ⟨p 0, p 1, eq_ix2 (n0 := 16) (n1 := 2048) p⟩
  have ht : t.val < 64 := lt_64 t
  have e : (win0_25.rect t).idx (ix2 r j) = ix2 (n0 := 1024) (n1 := 2048) ⟨min t.val 63 * 16 + r.val, by omega⟩ j := by
    refine funext fun a => Fin.ext ?_
    match a with
    | ⟨0, _⟩ => show win0_25.index t 0 * 16 + 1 * r.val = min t.val 63 * 16 + r.val; rw [(idx_25 t).1]; omega
    | ⟨1, _⟩ => show win0_25.index t 1 * 2048 + 1 * j.val = j.val; rw [(idx_25 t).2]; omega
  show store25 (F := Ideal) (iblk m c 9 t) (ix2 r j) = result25 m c ((win0_25.rect t).idx (ix2 r j))
  rw [e, store25_apply]
  exact blk9 m c t r j _ rfl

theorem mem25 (t : Fin cfg0.N) (i : S1024x2048.Idx) (h : min t.val 63 * 16 ≤ (i 0 : Nat) ∧ (i 0 : Nat) < min t.val 63 * 16 + 16) :
    i ∈ ((cfg0.win 25).blk t).view.set := by
  show i ∈ ((View.whole main_v18_11).slice (win0_25.rect t)).set
  rw [View.set_slice_whole, Rect.mem_set_unit]
  intro a
  match a with
  | ⟨0, _⟩ =>
    show win0_25.index t 0 * 16 ≤ (i 0 : Nat) ∧ (i 0 : Nat) < win0_25.index t 0 * 16 + 16
    rw [(idx_25 t).1]
    exact h
  | ⟨1, _⟩ =>
    show win0_25.index t 1 * 2048 ≤ (i 1 : Nat) ∧ (i 1 : Nat) < win0_25.index t 1 * 2048 + 2048
    rw [(idx_25 t).2, Nat.zero_mul, Nat.zero_add]
    exact ⟨Nat.zero_le _, (i 1).isLt⟩

theorem cover25 (i : S1024x2048.Idx) : ∃ t : Fin cfg0.N, (cfg0.win 25).flush t = true ∧ i ∈ ((cfg0.win 25).blk t).view.set := by
  have h1 : (i 0 : Nat) < 1024 := (i 0).isLt
  refine ⟨⟨(i 0 : Nat) / 16, by rw [N_0']; omega⟩, flush0_25 _, mem25 _ i ?_⟩
  dsimp only
  omega

/-- Result 11 ends holding that function of the arguments. -/
theorem final25 : (dats m 0 c).arrAt 25 cfg0.N = result25 m c :=
  (dats m 0 c).arrAt_eq_of_cover 25 (result25 m c) (fun t _ => flushed25 m c t) cover25

theorem idx_26 : ∀ t : Fin cfg0.N, win0_26.index t 0 = min t.val 31 ∧ win0_26.index t 1 = 0 :=
  (by decide +kernel : ∀ t : Fin grid0.N, win0_26.index t 0 = min t.val 31 ∧ win0_26.index t 1 = 0)

/-- What result 12 is shown to hold. -/
def result26 : Buf (Elt Ideal) ((c : Thread nD τ).loc main_v18_12) := specOne (m ((c : Thread nD τ).loc main_arg9))

/-- What a point writes back is its block of that array. -/
theorem flushed26 (t : Fin cfg0.N) :
    (dats m 0 c).flushed 26 t = (win0_26.blk t).view.read (Elt Ideal) (result26 m c) := by
  show (cfg0.win 26).cut (grid0.coords t) ((dats m 0 c).after 26 t) = _
  rw [after_26]
  funext p
  obtain ⟨r, j, rfl⟩ : ∃ (r : Fin 16) (j : Fin 1024), p = ix2 r j :=
    ⟨p 0, p 1, eq_ix2 (n0 := 16) (n1 := 1024) p⟩
  have ht : t.val < 64 := lt_64 t
  have e : (win0_26.rect t).idx (ix2 r j) = ix2 (n0 := 512) (n1 := 1024) ⟨min t.val 31 * 16 + r.val, by omega⟩ j := by
    refine funext fun a => Fin.ext ?_
    match a with
    | ⟨0, _⟩ => show win0_26.index t 0 * 16 + 1 * r.val = min t.val 31 * 16 + r.val; rw [(idx_26 t).1]; omega
    | ⟨1, _⟩ => show win0_26.index t 1 * 1024 + 1 * j.val = j.val; rw [(idx_26 t).2]; omega
  show store26 (F := Ideal) (iblk m c 10 t) (ix2 r j) = result26 m c ((win0_26.rect t).idx (ix2 r j))
  rw [e, store26_apply]
  exact blk10 m c t r j _ rfl

theorem mem26 (t : Fin cfg0.N) (i : S512x1024.Idx) (h : min t.val 31 * 16 ≤ (i 0 : Nat) ∧ (i 0 : Nat) < min t.val 31 * 16 + 16) :
    i ∈ ((cfg0.win 26).blk t).view.set := by
  show i ∈ ((View.whole main_v18_12).slice (win0_26.rect t)).set
  rw [View.set_slice_whole, Rect.mem_set_unit]
  intro a
  match a with
  | ⟨0, _⟩ =>
    show win0_26.index t 0 * 16 ≤ (i 0 : Nat) ∧ (i 0 : Nat) < win0_26.index t 0 * 16 + 16
    rw [(idx_26 t).1]
    exact h
  | ⟨1, _⟩ =>
    show win0_26.index t 1 * 1024 ≤ (i 1 : Nat) ∧ (i 1 : Nat) < win0_26.index t 1 * 1024 + 1024
    rw [(idx_26 t).2, Nat.zero_mul, Nat.zero_add]
    exact ⟨Nat.zero_le _, (i 1).isLt⟩

theorem flush26 : ∀ t : Fin cfg0.N, t.val < 31 ∨ t.val = 63 → (cfg0.win 26).flush t = true :=
  (by decide +kernel : ∀ t : Fin grid0.N, t.val < 31 ∨ t.val = 63 → win0_26.flush t = true)

theorem cover26 (i : S512x1024.Idx) : ∃ t : Fin cfg0.N, (cfg0.win 26).flush t = true ∧ i ∈ ((cfg0.win 26).blk t).view.set := by
  have h1 : (i 0 : Nat) < 512 := (i 0).isLt
  by_cases h : (i 0 : Nat) / 16 < 31
  · refine ⟨⟨(i 0 : Nat) / 16, by rw [N_0']; omega⟩, flush26 _ (Or.inl h), mem26 _ i ?_⟩
    dsimp only
    omega
  · refine ⟨⟨63, by rw [N_0']; decide⟩, flush26 _ (Or.inr rfl), mem26 _ i ?_⟩
    dsimp only
    omega

/-- Result 12 ends holding that function of the arguments. -/
theorem final26 : (dats m 0 c).arrAt 26 cfg0.N = result26 m c :=
  (dats m 0 c).arrAt_eq_of_cover 26 (result26 m c) (fun t _ => flushed26 m c t) cover26

theorem idx_27 : ∀ t : Fin cfg0.N, win0_27.index t 0 = min t.val 31 ∧ win0_27.index t 1 = 0 :=
  (by decide +kernel : ∀ t : Fin grid0.N, win0_27.index t 0 = min t.val 31 ∧ win0_27.index t 1 = 0)

/-- What result 13 is shown to hold. -/
def result27 : Buf (Elt Ideal) ((c : Thread nD τ).loc main_v18_13) := specOne (m ((c : Thread nD τ).loc main_arg10))

/-- What a point writes back is its block of that array. -/
theorem flushed27 (t : Fin cfg0.N) :
    (dats m 0 c).flushed 27 t = (win0_27.blk t).view.read (Elt Ideal) (result27 m c) := by
  show (cfg0.win 27).cut (grid0.coords t) ((dats m 0 c).after 27 t) = _
  rw [after_27]
  funext p
  obtain ⟨r, j, rfl⟩ : ∃ (r : Fin 16) (j : Fin 1024), p = ix2 r j :=
    ⟨p 0, p 1, eq_ix2 (n0 := 16) (n1 := 1024) p⟩
  have ht : t.val < 64 := lt_64 t
  have e : (win0_27.rect t).idx (ix2 r j) = ix2 (n0 := 512) (n1 := 1024) ⟨min t.val 31 * 16 + r.val, by omega⟩ j := by
    refine funext fun a => Fin.ext ?_
    match a with
    | ⟨0, _⟩ => show win0_27.index t 0 * 16 + 1 * r.val = min t.val 31 * 16 + r.val; rw [(idx_27 t).1]; omega
    | ⟨1, _⟩ => show win0_27.index t 1 * 1024 + 1 * j.val = j.val; rw [(idx_27 t).2]; omega
  show store27 (F := Ideal) (iblk m c 11 t) (ix2 r j) = result27 m c ((win0_27.rect t).idx (ix2 r j))
  rw [e, store27_apply]
  exact blk11 m c t r j _ rfl

theorem mem27 (t : Fin cfg0.N) (i : S512x1024.Idx) (h : min t.val 31 * 16 ≤ (i 0 : Nat) ∧ (i 0 : Nat) < min t.val 31 * 16 + 16) :
    i ∈ ((cfg0.win 27).blk t).view.set := by
  show i ∈ ((View.whole main_v18_13).slice (win0_27.rect t)).set
  rw [View.set_slice_whole, Rect.mem_set_unit]
  intro a
  match a with
  | ⟨0, _⟩ =>
    show win0_27.index t 0 * 16 ≤ (i 0 : Nat) ∧ (i 0 : Nat) < win0_27.index t 0 * 16 + 16
    rw [(idx_27 t).1]
    exact h
  | ⟨1, _⟩ =>
    show win0_27.index t 1 * 1024 ≤ (i 1 : Nat) ∧ (i 1 : Nat) < win0_27.index t 1 * 1024 + 1024
    rw [(idx_27 t).2, Nat.zero_mul, Nat.zero_add]
    exact ⟨Nat.zero_le _, (i 1).isLt⟩

theorem flush27 : ∀ t : Fin cfg0.N, t.val < 31 ∨ t.val = 63 → (cfg0.win 27).flush t = true :=
  (by decide +kernel : ∀ t : Fin grid0.N, t.val < 31 ∨ t.val = 63 → win0_27.flush t = true)

theorem cover27 (i : S512x1024.Idx) : ∃ t : Fin cfg0.N, (cfg0.win 27).flush t = true ∧ i ∈ ((cfg0.win 27).blk t).view.set := by
  have h1 : (i 0 : Nat) < 512 := (i 0).isLt
  by_cases h : (i 0 : Nat) / 16 < 31
  · refine ⟨⟨(i 0 : Nat) / 16, by rw [N_0']; omega⟩, flush27 _ (Or.inl h), mem27 _ i ?_⟩
    dsimp only
    omega
  · refine ⟨⟨63, by rw [N_0']; decide⟩, flush27 _ (Or.inr rfl), mem27 _ i ?_⟩
    dsimp only
    omega

/-- Result 13 ends holding that function of the arguments. -/
theorem final27 : (dats m 0 c).arrAt 27 cfg0.N = result27 m c :=
  (dats m 0 c).arrAt_eq_of_cover 27 (result27 m c) (fun t _ => flushed27 m c t) cover27

theorem idx_28 : ∀ t : Fin cfg0.N, win0_28.index t 0 = min t.val 63 ∧ win0_28.index t 1 = 0 :=
  (by decide +kernel : ∀ t : Fin grid0.N, win0_28.index t 0 = min t.val 63 ∧ win0_28.index t 1 = 0)

/-- What result 14 is shown to hold. -/
def result28 : Buf (Elt Ideal) ((c : Thread nD τ).loc main_v18_14) := specOne (m ((c : Thread nD τ).loc main_arg11))

/-- What a point writes back is its block of that array. -/
theorem flushed28 (t : Fin cfg0.N) :
    (dats m 0 c).flushed 28 t = (win0_28.blk t).view.read (Elt Ideal) (result28 m c) := by
  show (cfg0.win 28).cut (grid0.coords t) ((dats m 0 c).after 28 t) = _
  rw [after_28]
  funext p
  obtain ⟨r, j, rfl⟩ : ∃ (r : Fin 16) (j : Fin 1024), p = ix2 r j :=
    ⟨p 0, p 1, eq_ix2 (n0 := 16) (n1 := 1024) p⟩
  have ht : t.val < 64 := lt_64 t
  have e : (win0_28.rect t).idx (ix2 r j) = ix2 (n0 := 1024) (n1 := 1024) ⟨min t.val 63 * 16 + r.val, by omega⟩ j := by
    refine funext fun a => Fin.ext ?_
    match a with
    | ⟨0, _⟩ => show win0_28.index t 0 * 16 + 1 * r.val = min t.val 63 * 16 + r.val; rw [(idx_28 t).1]; omega
    | ⟨1, _⟩ => show win0_28.index t 1 * 1024 + 1 * j.val = j.val; rw [(idx_28 t).2]; omega
  show store28 (F := Ideal) (iblk m c 12 t) (ix2 r j) = result28 m c ((win0_28.rect t).idx (ix2 r j))
  rw [e, store28_apply]
  exact blk12 m c t r j _ rfl

theorem mem28 (t : Fin cfg0.N) (i : S1024x1024.Idx) (h : min t.val 63 * 16 ≤ (i 0 : Nat) ∧ (i 0 : Nat) < min t.val 63 * 16 + 16) :
    i ∈ ((cfg0.win 28).blk t).view.set := by
  show i ∈ ((View.whole main_v18_14).slice (win0_28.rect t)).set
  rw [View.set_slice_whole, Rect.mem_set_unit]
  intro a
  match a with
  | ⟨0, _⟩ =>
    show win0_28.index t 0 * 16 ≤ (i 0 : Nat) ∧ (i 0 : Nat) < win0_28.index t 0 * 16 + 16
    rw [(idx_28 t).1]
    exact h
  | ⟨1, _⟩ =>
    show win0_28.index t 1 * 1024 ≤ (i 1 : Nat) ∧ (i 1 : Nat) < win0_28.index t 1 * 1024 + 1024
    rw [(idx_28 t).2, Nat.zero_mul, Nat.zero_add]
    exact ⟨Nat.zero_le _, (i 1).isLt⟩

theorem cover28 (i : S1024x1024.Idx) : ∃ t : Fin cfg0.N, (cfg0.win 28).flush t = true ∧ i ∈ ((cfg0.win 28).blk t).view.set := by
  have h1 : (i 0 : Nat) < 1024 := (i 0).isLt
  refine ⟨⟨(i 0 : Nat) / 16, by rw [N_0']; omega⟩, flush0_28 _, mem28 _ i ?_⟩
  dsimp only
  omega

/-- Result 14 ends holding that function of the arguments. -/
theorem final28 : (dats m 0 c).arrAt 28 cfg0.N = result28 m c :=
  (dats m 0 c).arrAt_eq_of_cover 28 (result28 m c) (fun t _ => flushed28 m c t) cover28

theorem idx_29 : ∀ t : Fin cfg0.N, win0_29.index t 0 = min t.val 31 ∧ win0_29.index t 1 = 0 :=
  (by decide +kernel : ∀ t : Fin grid0.N, win0_29.index t 0 = min t.val 31 ∧ win0_29.index t 1 = 0)

/-- What result 15 is shown to hold. -/
def result29 : Buf (Elt Ideal) ((c : Thread nD τ).loc main_v18_15) := specOne (m ((c : Thread nD τ).loc main_arg12))

/-- What a point writes back is its block of that array. -/
theorem flushed29 (t : Fin cfg0.N) :
    (dats m 0 c).flushed 29 t = (win0_29.blk t).view.read (Elt Ideal) (result29 m c) := by
  show (cfg0.win 29).cut (grid0.coords t) ((dats m 0 c).after 29 t) = _
  rw [after_29]
  funext p
  obtain ⟨r, j, rfl⟩ : ∃ (r : Fin 16) (j : Fin 512), p = ix2 r j :=
    ⟨p 0, p 1, eq_ix2 (n0 := 16) (n1 := 512) p⟩
  have ht : t.val < 64 := lt_64 t
  have e : (win0_29.rect t).idx (ix2 r j) = ix2 (n0 := 512) (n1 := 512) ⟨min t.val 31 * 16 + r.val, by omega⟩ j := by
    refine funext fun a => Fin.ext ?_
    match a with
    | ⟨0, _⟩ => show win0_29.index t 0 * 16 + 1 * r.val = min t.val 31 * 16 + r.val; rw [(idx_29 t).1]; omega
    | ⟨1, _⟩ => show win0_29.index t 1 * 512 + 1 * j.val = j.val; rw [(idx_29 t).2]; omega
  show store29 (F := Ideal) (iblk m c 13 t) (ix2 r j) = result29 m c ((win0_29.rect t).idx (ix2 r j))
  rw [e, store29_apply]
  exact blk13 m c t r j _ rfl

theorem mem29 (t : Fin cfg0.N) (i : S512x512.Idx) (h : min t.val 31 * 16 ≤ (i 0 : Nat) ∧ (i 0 : Nat) < min t.val 31 * 16 + 16) :
    i ∈ ((cfg0.win 29).blk t).view.set := by
  show i ∈ ((View.whole main_v18_15).slice (win0_29.rect t)).set
  rw [View.set_slice_whole, Rect.mem_set_unit]
  intro a
  match a with
  | ⟨0, _⟩ =>
    show win0_29.index t 0 * 16 ≤ (i 0 : Nat) ∧ (i 0 : Nat) < win0_29.index t 0 * 16 + 16
    rw [(idx_29 t).1]
    exact h
  | ⟨1, _⟩ =>
    show win0_29.index t 1 * 512 ≤ (i 1 : Nat) ∧ (i 1 : Nat) < win0_29.index t 1 * 512 + 512
    rw [(idx_29 t).2, Nat.zero_mul, Nat.zero_add]
    exact ⟨Nat.zero_le _, (i 1).isLt⟩

theorem flush29 : ∀ t : Fin cfg0.N, t.val < 31 ∨ t.val = 63 → (cfg0.win 29).flush t = true :=
  (by decide +kernel : ∀ t : Fin grid0.N, t.val < 31 ∨ t.val = 63 → win0_29.flush t = true)

theorem cover29 (i : S512x512.Idx) : ∃ t : Fin cfg0.N, (cfg0.win 29).flush t = true ∧ i ∈ ((cfg0.win 29).blk t).view.set := by
  have h1 : (i 0 : Nat) < 512 := (i 0).isLt
  by_cases h : (i 0 : Nat) / 16 < 31
  · refine ⟨⟨(i 0 : Nat) / 16, by rw [N_0']; omega⟩, flush29 _ (Or.inl h), mem29 _ i ?_⟩
    dsimp only
    omega
  · refine ⟨⟨63, by rw [N_0']; decide⟩, flush29 _ (Or.inr rfl), mem29 _ i ?_⟩
    dsimp only
    omega

/-- Result 15 ends holding that function of the arguments. -/
theorem final29 : (dats m 0 c).arrAt 29 cfg0.N = result29 m c :=
  (dats m 0 c).arrAt_eq_of_cover 29 (result29 m c) (fun t _ => flushed29 m c t) cover29

end Cert.Kernel2Ideal.Row

end
-- ==== Proof.ProjReferenceRow.lean ====
module

public import proofs.«01_k».proof.Proof.ProjSpec
public import proofs.«01_k».proof.Proof.Gen.Reference2Ideal.Read

/-!
The reference of the first feed-forward call, read at an index.
-/

@[expose] public section

set_option maxRecDepth 16384
set_option maxHeartbeats 1000000

noncomputable section

namespace Cert.Reference2Ideal.Row

open Cert.Reference2Ideal Cert.Reference2Ideal.Gen Cert.Reference2Ideal.Read Idealize.ShloMosaic Idealize.SL.Sem RowMath

variable (x0 : S16x2048x1024.Idx → EReal) (x1 : S16x1024.Idx → EReal) (x2 : S1x1024.Idx → EReal) (x3 : S1x1024x5632.Idx → EReal)
  (x4 : S1x2816x1024.Idx → EReal) (x5 : S1x1024.Idx → EReal) (x6 : S1x1024x4096.Idx → EReal) (x7 : S1x1024x5632.Idx → EReal)
  (x8 : S1x2816x1024.Idx → EReal) (x9 : S1x512x1024.Idx → EReal) (x10 : S1x512x1024.Idx → EReal) (x11 : S1x1024x1024.Idx → EReal)
  (x12 : S1x512x512.Idx → EReal)

/-- The normalized row of a token times the gain. -/
theorem token_normed (b : Fin 16) (s : Fin 2048) (k : Fin 1024) :
    val_main_v13 (F := Ideal) x0 x2 (ix3 b s k) = rms (row3 x0 b s) (row x2 0) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gated hidden row of a token. -/
theorem token_gated (b : Fin 16) (s : Fin 2048) (j : Fin 2816) :
    val_main_v20 (F := Ideal) x0 x2 x3 (ix3 b s j) = RowMath.hidden (row3 x0 b s) (row x2 0) (mat1 x3) j := by
  pointwise [val_main_v20, val_main_v19, val_main_call0_v5, val_main_call0_v4, val_main_call0_cst_0, val_main_call0_v3, val_main_call0_v2, val_main_call0_v1, val_main_call0_v0, val_main_call0_cst, val_main_v18, val_main_v17, val_main_v16, val_main_v14]
  simp only [token_normed]
  rfl

/-- The residual stream of a token. -/
theorem token_stream (b : Fin 16) (s : Fin 2048) (j : Fin 1024) :
    val_main_v24 (F := Ideal) x0 x2 x3 x4 (ix3 b s j) = tokenRow x0 x2 x3 x4 b s j := by
  pointwise [val_main_v24, val_main_v23, val_main_v22, val_main_v21, val_main_cst_2, val_main_v15]
  simp only [token_gated]
  rfl

/-- The normalized residual stream of a token times the gain. -/
theorem token_normed2 (b : Fin 16) (s : Fin 2048) (k : Fin 1024) :
    val_main_v38 (F := Ideal) x0 x2 x3 x4 x5 (ix3 b s k) = rms (tokenRow x0 x2 x3 x4 b s) (row x5 0) k := by
  pointwise [val_main_v38, val_main_v37, val_main_v36, val_main_v35, val_main_v34, val_main_v33, val_main_v32, val_main_v31, val_main_v30, val_main_v29, val_main_v28, val_main_v27, val_main_v26, val_main_v25, val_main_cst_3, val_main_cst_4, val_main_cst_5]
  simp only [token_stream]
  rfl

/-- The projections of a token. -/
theorem token_proj (b : Fin 16) (s : Fin 2048) (j : Fin 2048) :
    val_main_v41 (F := Ideal) x0 x2 x3 x4 x5 x6 (ix3 b s j) = proj (tokenRow x0 x2 x3 x4 b s) (row x5 0) (projCols x6) j := by
  pointwise [val_main_v41, val_main_v40, val_main_v39]
  simp only [token_normed2]
  rfl

/-- The normalized row of a meta token times the gain. -/
theorem meta_normed (r : Fin 16) (k : Fin 1024) :
    val_main_v64 (F := Ideal) x1 x2 (ix2 r k) = rms (row x1 r) (row x2 0) k := by
  pointwise [val_main_v64, val_main_v63, val_main_v62, val_main_v61, val_main_v60, val_main_v59, val_main_v58, val_main_v57, val_main_v56, val_main_v55, val_main_v54, val_main_v53, val_main_v52, val_main_v51, val_main_cst_7, val_main_cst_8, val_main_cst_9]
  rfl

/-- The gated hidden row of a meta token. -/
theorem meta_gated (r : Fin 16) (j : Fin 2816) :
    val_main_v71 (F := Ideal) x1 x2 x3 (ix2 r j) = RowMath.hidden (row x1 r) (row x2 0) (mat1 x3) j := by
  pointwise [val_main_v71, val_main_v70, val_main_call1_v5, val_main_call1_v4, val_main_call1_cst_0, val_main_call1_v3, val_main_call1_v2, val_main_call1_v1, val_main_call1_v0, val_main_call1_cst, val_main_v69, val_main_v68, val_main_v67, val_main_v65]
  simp only [meta_normed]
  rfl

/-- The residual stream of a meta token. -/
theorem meta_stream (r : Fin 16) (j : Fin 1024) :
    val_main_v75 (F := Ideal) x1 x2 x3 x4 (ix2 r j) = metaRow x1 x2 x3 x4 r j := by
  pointwise [val_main_v75, val_main_v74, val_main_v73, val_main_v72, val_main_cst_10, val_main_v66]
  simp only [meta_gated]
  rfl

/-- The normalized residual stream of a meta token times the gain. -/
theorem meta_normed2 (r : Fin 16) (k : Fin 1024) :
    val_main_v89 (F := Ideal) x1 x2 x3 x4 x5 (ix2 r k) = rms (metaRow x1 x2 x3 x4 r) (row x5 0) k := by
  pointwise [val_main_v89, val_main_v88, val_main_v87, val_main_v86, val_main_v85, val_main_v84, val_main_v83, val_main_v82, val_main_v81, val_main_v80, val_main_v79, val_main_v78, val_main_v77, val_main_v76, val_main_cst_11, val_main_cst_12, val_main_cst_13]
  simp only [meta_stream]
  rfl

/-- The projections of a meta token. -/
theorem meta_proj (r : Fin 16) (j : Fin 2048) :
    val_main_v92 (F := Ideal) x1 x2 x3 x4 x5 x6 (ix2 r j) = proj (metaRow x1 x2 x3 x4 r) (row x5 0) (projCols x6) j := by
  pointwise [val_main_v92, val_main_v91, val_main_v90]
  simp only [meta_normed2]
  rfl

theorem out_v24 : val_main_v24 (F := Ideal) x0 x2 x3 x4 = specH x0 x2 x3 x4 := by
  funext i
  obtain ⟨a, b, c, rfl⟩ : ∃ (a : Fin 16) (b : Fin 2048) (c : Fin 1024), i = ix3 a b c :=
    ⟨i 0, i 1, i 2, eq_ix3 (n0 := 16) (n1 := 2048) (n2 := 1024) i⟩
  rw [token_stream]
  rfl

theorem out_v103 : val_main_v103 (F := Ideal) x0 x2 x3 x4 x5 x6 = specU x0 x2 x3 x4 x5 x6 := by
  funext i
  obtain ⟨a, b, rfl⟩ : ∃ (a : Fin 32768) (b : Fin 512), i = ix2 a b :=
    ⟨i 0, i 1, eq_ix2 (n0 := 32768) (n1 := 512) i⟩
  pointwise [val_main_v103, val_main_v102, val_main_v42]
  simp only [token_proj]
  rfl

theorem out_v48 : val_main_v48 (F := Ideal) x0 x2 x3 x4 x5 x6 = specQ x0 x2 x3 x4 x5 x6 := by
  funext i
  obtain ⟨a, b, c, rfl⟩ : ∃ (a : Fin 16) (b : Fin 2048) (c : Fin 512), i = ix3 a b c :=
    ⟨i 0, i 1, i 2, eq_ix3 (n0 := 16) (n1 := 2048) (n2 := 512) i⟩
  pointwise [val_main_v48, val_main_v47, val_main_v46, val_main_cst_6, val_main_v43]
  simp only [token_proj]
  rfl

theorem out_v49 : val_main_v49 (F := Ideal) x0 x2 x3 x4 x5 x6 = specK x0 x2 x3 x4 x5 x6 := by
  funext i
  obtain ⟨a, b, c, rfl⟩ : ∃ (a : Fin 16) (b : Fin 2048) (c : Fin 512), i = ix3 a b c :=
    ⟨i 0, i 1, i 2, eq_ix3 (n0 := 16) (n1 := 2048) (n2 := 512) i⟩
  pointwise [val_main_v49, val_main_v44]
  simp only [token_proj]
  rfl

theorem out_v50 : val_main_v50 (F := Ideal) x0 x2 x3 x4 x5 x6 = specV x0 x2 x3 x4 x5 x6 := by
  funext i
  obtain ⟨a, b, c, rfl⟩ : ∃ (a : Fin 16) (b : Fin 2048) (c : Fin 512), i = ix3 a b c :=
    ⟨i 0, i 1, i 2, eq_ix3 (n0 := 16) (n1 := 2048) (n2 := 512) i⟩
  pointwise [val_main_v50, val_main_v45]
  simp only [token_proj]
  rfl

theorem out_v93 : val_main_v93 (F := Ideal) x1 x2 x3 x4 x5 x6 = specUm x1 x2 x3 x4 x5 x6 := by
  funext i
  obtain ⟨a, b, rfl⟩ : ∃ (a : Fin 16) (b : Fin 512), i = ix2 a b :=
    ⟨i 0, i 1, eq_ix2 (n0 := 16) (n1 := 512) i⟩
  pointwise [val_main_v93]
  simp only [meta_proj]
  rfl

theorem out_v99 : val_main_v99 (F := Ideal) x1 x2 x3 x4 x5 x6 = specQm x1 x2 x3 x4 x5 x6 := by
  funext i
  obtain ⟨a, b, rfl⟩ : ∃ (a : Fin 16) (b : Fin 512), i = ix2 a b :=
    ⟨i 0, i 1, eq_ix2 (n0 := 16) (n1 := 512) i⟩
  pointwise [val_main_v99, val_main_v98, val_main_v97, val_main_cst_14, val_main_v94]
  simp only [meta_proj]
  rfl

theorem out_v100 : val_main_v100 (F := Ideal) x1 x2 x3 x4 x5 x6 = specKm x1 x2 x3 x4 x5 x6 := by
  funext i
  obtain ⟨a, b, rfl⟩ : ∃ (a : Fin 16) (b : Fin 512), i = ix2 a b :=
    ⟨i 0, i 1, eq_ix2 (n0 := 16) (n1 := 512) i⟩
  pointwise [val_main_v100, val_main_v95]
  simp only [meta_proj]
  rfl

theorem out_v101 : val_main_v101 (F := Ideal) x1 x2 x3 x4 x5 x6 = specVm x1 x2 x3 x4 x5 x6 := by
  funext i
  obtain ⟨a, b, rfl⟩ : ∃ (a : Fin 16) (b : Fin 512), i = ix2 a b :=
    ⟨i 0, i 1, eq_ix2 (n0 := 16) (n1 := 512) i⟩
  pointwise [val_main_v101, val_main_v96]
  simp only [meta_proj]
  rfl

theorem out_v105 : val_main_v105 (F := Ideal) x7 = specOne x7 := by
  funext i
  obtain ⟨a, b, rfl⟩ : ∃ (a : Fin 1024) (b : Fin 5632), i = ix2 a b :=
    ⟨i 0, i 1, eq_ix2 (n0 := 1024) (n1 := 5632) i⟩
  pointwise [val_main_v105, val_main_v104]
  rfl

theorem out_v107 : val_main_v107 (F := Ideal) x8 = specOne x8 := by
  funext i
  obtain ⟨a, b, rfl⟩ : ∃ (a : Fin 2816) (b : Fin 1024), i = ix2 a b :=
    ⟨i 0, i 1, eq_ix2 (n0 := 2816) (n1 := 1024) i⟩
  pointwise [val_main_v107, val_main_v106]
  rfl

theorem out_v110 : val_main_v110 (F := Ideal) x6 = specGate x6 := by
  funext i
  obtain ⟨a, b, rfl⟩ : ∃ (a : Fin 1024) (b : Fin 2048), i = ix2 a b :=
    ⟨i 0, i 1, eq_ix2 (n0 := 1024) (n1 := 2048) i⟩
  pointwise [val_main_v110, val_main_v109, val_main_v108]
  rfl

theorem out_v112 : val_main_v112 (F := Ideal) x9 = specOne x9 := by
  funext i
  obtain ⟨a, b, rfl⟩ : ∃ (a : Fin 512) (b : Fin 1024), i = ix2 a b :=
    ⟨i 0, i 1, eq_ix2 (n0 := 512) (n1 := 1024) i⟩
  pointwise [val_main_v112, val_main_v111]
  rfl

theorem out_v114 : val_main_v114 (F := Ideal) x10 = specOne x10 := by
  funext i
  obtain ⟨a, b, rfl⟩ : ∃ (a : Fin 512) (b : Fin 1024), i = ix2 a b :=
    ⟨i 0, i 1, eq_ix2 (n0 := 512) (n1 := 1024) i⟩
  pointwise [val_main_v114, val_main_v113]
  rfl

theorem out_v116 : val_main_v116 (F := Ideal) x11 = specOne x11 := by
  funext i
  obtain ⟨a, b, rfl⟩ : ∃ (a : Fin 1024) (b : Fin 1024), i = ix2 a b :=
    ⟨i 0, i 1, eq_ix2 (n0 := 1024) (n1 := 1024) i⟩
  pointwise [val_main_v116, val_main_v115]
  rfl

theorem out_v118 : val_main_v118 (F := Ideal) x12 = specOne x12 := by
  funext i
  obtain ⟨a, b, rfl⟩ : ∃ (a : Fin 512) (b : Fin 512), i = ix2 a b :=
    ⟨i 0, i 1, eq_ix2 (n0 := 512) (n1 := 512) i⟩
  pointwise [val_main_v118, val_main_v117]
  rfl

end Cert.Reference2Ideal.Row

end
-- ==== Proof.Proj.lean ====
module

public import proofs.«01_k».proof.Defs
public import proofs.«01_k».proof.Proof.ProjTokens
public import proofs.«01_k».proof.Proof.ProjMeta
public import proofs.«01_k».proof.Proof.ProjCasts
public import proofs.«01_k».proof.Proof.ProjRun
public import proofs.«01_k».proof.Proof.ProjReferenceRow
public import proofs.«01_k».proof.Proof.Gen.Reference2Ideal.Run
public import Idealize.ShloMosaic.Lib.Claim
public import Idealize.ShloMosaic.Lib.Quiescent

/-!
The claims about the first feed-forward call.
-/

@[expose] public section

set_option maxRecDepth 16384
set_option maxHeartbeats 2000000

noncomputable section

namespace Proj

open Idealize.ShloMosaic Idealize.ShloMosaic.TcCoe Idealize.SL.Sem RowMath

/-- The reference terminates with its arguments unchanged and its counters at zero. -/
theorem reference_frame : Cert.quiescent_Reference2Ideal (hReference2Ideal := Cert.Reference2Ideal.Gen.facts) :=
  fun m ρ _ => (θ_run Cert.Reference2Ideal.defs _ _).mono
    (fun r h => ⟨fun c => (h c).2.2.2.2.2.2.2.2.2.2.2.2.2.2.2.2, sem_eq_zero_of_no_sems (by decide) r.2⟩)
    (Cert.Reference2Ideal.Value.run (F := Ideal) m ρ)

/-- Result 0 of the reference is result 0 of the call, at equal arguments. -/
theorem agree0 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v24 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) = Cert.Kernel2Ideal.Row.result14 m c := by
  rw [Cert.Reference2Ideal.Row.out_v24]
  rfl

/-- Result 1 of the reference is result 1 of the call, at equal arguments. -/
theorem agree1 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v103 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result15 m c := by
  rw [Cert.Reference2Ideal.Row.out_v103]
  rfl

/-- Result 2 of the reference is result 2 of the call, at equal arguments. -/
theorem agree2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v48 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result16 m c := by
  rw [Cert.Reference2Ideal.Row.out_v48]
  rfl

/-- Result 3 of the reference is result 3 of the call, at equal arguments. -/
theorem agree3 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v49 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result17 m c := by
  rw [Cert.Reference2Ideal.Row.out_v49]
  rfl

/-- Result 4 of the reference is result 4 of the call, at equal arguments. -/
theorem agree4 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v50 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result18 m c := by
  rw [Cert.Reference2Ideal.Row.out_v50]
  rfl

/-- Result 5 of the reference is result 5 of the call, at equal arguments. -/
theorem agree5 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v93 (F := Ideal) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result19 m c := by
  rw [Cert.Reference2Ideal.Row.out_v93]
  rfl

/-- Result 6 of the reference is result 6 of the call, at equal arguments. -/
theorem agree6 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v99 (F := Ideal) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result20 m c := by
  rw [Cert.Reference2Ideal.Row.out_v99]
  rfl

/-- Result 7 of the reference is result 7 of the call, at equal arguments. -/
theorem agree7 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v100 (F := Ideal) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result21 m c := by
  rw [Cert.Reference2Ideal.Row.out_v100]
  rfl

/-- Result 8 of the reference is result 8 of the call, at equal arguments. -/
theorem agree8 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v101 (F := Ideal) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Row.result22 m c := by
  rw [Cert.Reference2Ideal.Row.out_v101]
  rfl

/-- Result 9 of the reference is result 9 of the call, at equal arguments. -/
theorem agree9 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v105 (F := Ideal) (m ((c.tc : Thread Cert.Kernel2Ideal.nD Cert.Kernel2Ideal.τ).loc Cert.Kernel2Ideal.main_arg7)) = Cert.Kernel2Ideal.Row.result23 m c := by
  rw [Cert.Reference2Ideal.Row.out_v105]
  rfl

/-- Result 10 of the reference is result 10 of the call, at equal arguments. -/
theorem agree10 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v107 (F := Ideal) (m ((c.tc : Thread Cert.Kernel2Ideal.nD Cert.Kernel2Ideal.τ).loc Cert.Kernel2Ideal.main_arg8)) = Cert.Kernel2Ideal.Row.result24 m c := by
  rw [Cert.Reference2Ideal.Row.out_v107]
  rfl

/-- Result 11 of the reference is result 11 of the call, at equal arguments. -/
theorem agree11 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v110 (F := Ideal) (m ((c.tc : Thread Cert.Kernel2Ideal.nD Cert.Kernel2Ideal.τ).loc Cert.Kernel2Ideal.main_arg6)) = Cert.Kernel2Ideal.Row.result25 m c := by
  rw [Cert.Reference2Ideal.Row.out_v110]
  rfl

/-- Result 12 of the reference is result 12 of the call, at equal arguments. -/
theorem agree12 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v112 (F := Ideal) (m ((c.tc : Thread Cert.Kernel2Ideal.nD Cert.Kernel2Ideal.τ).loc Cert.Kernel2Ideal.main_arg9)) = Cert.Kernel2Ideal.Row.result26 m c := by
  rw [Cert.Reference2Ideal.Row.out_v112]
  rfl

/-- Result 13 of the reference is result 13 of the call, at equal arguments. -/
theorem agree13 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v114 (F := Ideal) (m ((c.tc : Thread Cert.Kernel2Ideal.nD Cert.Kernel2Ideal.τ).loc Cert.Kernel2Ideal.main_arg10)) = Cert.Kernel2Ideal.Row.result27 m c := by
  rw [Cert.Reference2Ideal.Row.out_v114]
  rfl

/-- Result 14 of the reference is result 14 of the call, at equal arguments. -/
theorem agree14 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v116 (F := Ideal) (m ((c.tc : Thread Cert.Kernel2Ideal.nD Cert.Kernel2Ideal.τ).loc Cert.Kernel2Ideal.main_arg11)) = Cert.Kernel2Ideal.Row.result28 m c := by
  rw [Cert.Reference2Ideal.Row.out_v116]
  rfl

/-- Result 15 of the reference is result 15 of the call, at equal arguments. -/
theorem agree15 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v118 (F := Ideal) (m ((c.tc : Thread Cert.Kernel2Ideal.nD Cert.Kernel2Ideal.τ).loc Cert.Kernel2Ideal.main_arg12)) = Cert.Kernel2Ideal.Row.result29 m c := by
  rw [Cert.Reference2Ideal.Row.out_v118]
  rfl

/-- On the extended reals the call and its reference compute the same sixteen arrays. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Row.result14 m c, fun c => Cert.Kernel2Ideal.Row.result15 m c, fun c => Cert.Kernel2Ideal.Row.result16 m c, fun c => Cert.Kernel2Ideal.Row.result17 m c, fun c => Cert.Kernel2Ideal.Row.result18 m c, fun c => Cert.Kernel2Ideal.Row.result19 m c, fun c => Cert.Kernel2Ideal.Row.result20 m c, fun c => Cert.Kernel2Ideal.Row.result21 m c, fun c => Cert.Kernel2Ideal.Row.result22 m c, fun c => Cert.Kernel2Ideal.Row.result23 m c, fun c => Cert.Kernel2Ideal.Row.result24 m c, fun c => Cert.Kernel2Ideal.Row.result25 m c, fun c => Cert.Kernel2Ideal.Row.result26 m c, fun c => Cert.Kernel2Ideal.Row.result27 m c, fun c => Cert.Kernel2Ideal.Row.result28 m c, fun c => Cert.Kernel2Ideal.Row.result29 m c, ?_, ?_⟩
  · exact (θ_run Cert.Kernel2Ideal.defs _ _).mono
      (fun r h c => ⟨((h.1 c).1 14).trans (Cert.Kernel2Ideal.Row.final14 m c),
        ((h.1 c).1 15).trans (Cert.Kernel2Ideal.Row.final15 m c),
        ((h.1 c).1 16).trans (Cert.Kernel2Ideal.Row.final16 m c),
        ((h.1 c).1 17).trans (Cert.Kernel2Ideal.Row.final17 m c),
        ((h.1 c).1 18).trans (Cert.Kernel2Ideal.Row.final18 m c),
        ((h.1 c).1 19).trans (Cert.Kernel2Ideal.Row.final19 m c),
        ((h.1 c).1 20).trans (Cert.Kernel2Ideal.Row.final20 m c),
        ((h.1 c).1 21).trans (Cert.Kernel2Ideal.Row.final21 m c),
        ((h.1 c).1 22).trans (Cert.Kernel2Ideal.Row.final22 m c),
        ((h.1 c).1 23).trans (Cert.Kernel2Ideal.Row.final23 m c),
        ((h.1 c).1 24).trans (Cert.Kernel2Ideal.Row.final24 m c),
        ((h.1 c).1 25).trans (Cert.Kernel2Ideal.Row.final25 m c),
        ((h.1 c).1 26).trans (Cert.Kernel2Ideal.Row.final26 m c),
        ((h.1 c).1 27).trans (Cert.Kernel2Ideal.Row.final27 m c),
        ((h.1 c).1 28).trans (Cert.Kernel2Ideal.Row.final28 m c),
        ((h.1 c).1 29).trans (Cert.Kernel2Ideal.Row.final29 m c),
        h.2.1 c⟩)
      (θ_run_and (Cert.Kernel2Ideal.Proj.run (F := Ideal) m ρ) (Cert.Kernel2Ideal.Proj.run_frame (F := Ideal) m ρ))
  · refine (θ_run Cert.Reference2Ideal.defs _ _).mono (fun r h c => ?_)
      (Cert.Reference2Ideal.Value.run (F := Ideal) m' ρ')
    obtain ⟨h0, h1, h2, h3, h4, h5, h6, h7, h8, h9, h10, h11, h12⟩ := hagree c
    obtain ⟨r0, r1, r2, r3, r4, r5, r6, r7, r8, r9, r10, r11, r12, r13, r14, r15, kept⟩ := h c
    rw [Cert.Reference2Ideal.Read.val_main_v24_eq] at r0
    rw [h0, h2, h3, h4] at r0
    rw [Cert.Reference2Ideal.Read.val_main_v103_eq] at r1
    rw [h0, h2, h3, h4, h5, h6] at r1
    rw [Cert.Reference2Ideal.Read.val_main_v48_eq] at r2
    rw [h0, h2, h3, h4, h5, h6] at r2
    rw [Cert.Reference2Ideal.Read.val_main_v49_eq] at r3
    rw [h0, h2, h3, h4, h5, h6] at r3
    rw [Cert.Reference2Ideal.Read.val_main_v50_eq] at r4
    rw [h0, h2, h3, h4, h5, h6] at r4
    rw [Cert.Reference2Ideal.Read.val_main_v93_eq] at r5
    rw [h1, h2, h3, h4, h5, h6] at r5
    rw [Cert.Reference2Ideal.Read.val_main_v99_eq] at r6
    rw [h1, h2, h3, h4, h5, h6] at r6
    rw [Cert.Reference2Ideal.Read.val_main_v100_eq] at r7
    rw [h1, h2, h3, h4, h5, h6] at r7
    rw [Cert.Reference2Ideal.Read.val_main_v101_eq] at r8
    rw [h1, h2, h3, h4, h5, h6] at r8
    rw [Cert.Reference2Ideal.Read.val_main_v105_eq] at r9
    rw [h7] at r9
    rw [Cert.Reference2Ideal.Read.val_main_v107_eq] at r10
    rw [h8] at r10
    rw [Cert.Reference2Ideal.Read.val_main_v110_eq] at r11
    rw [h6] at r11
    rw [Cert.Reference2Ideal.Read.val_main_v112_eq] at r12
    rw [h9] at r12
    rw [Cert.Reference2Ideal.Read.val_main_v114_eq] at r13
    rw [h10] at r13
    rw [Cert.Reference2Ideal.Read.val_main_v116_eq] at r14
    rw [h11] at r14
    rw [Cert.Reference2Ideal.Read.val_main_v118_eq] at r15
    rw [h12] at r15
    exact ⟨r0.trans (agree0 m c),
      r1.trans (agree1 m c),
      r2.trans (agree2 m c),
      r3.trans (agree3 m c),
      r4.trans (agree4 m c),
      r5.trans (agree5 m c),
      r6.trans (agree6 m c),
      r7.trans (agree7 m c),
      r8.trans (agree8 m c),
      r9.trans (agree9 m c),
      r10.trans (agree10 m c),
      r11.trans (agree11 m c),
      r12.trans (agree12 m c),
      r13.trans (agree13 m c),
      r14.trans (agree14 m c),
      r15.trans (agree15 m c), kept⟩

end Proj

end
-- ==== Proof.SetupSlab.lean ====
module

public import proofs.«01_k».proof.Proof.Gen.Kernel5Ideal.Skeleton
public import Idealize.ShloMosaic.Lib.ValueLayout
public import Idealize.ShloMosaic.Lib.Pipeline.Value
public import Idealize.ShloMosaic.Lib.Pointwise

/-!
The block-diagonal slabs the set-up call writes, entry by entry.

A slab pairs 128 channels with 256 states: entry `(r, k)` holds a value where channel and state are of one group, and zero elsewhere.
-/

@[expose] public section

set_option maxRecDepth 16384

noncomputable section

namespace Cert.Kernel5Ideal.Setup

open Cert.Kernel5Ideal Cert.Kernel5Ideal.Gen Idealize.ShloMosaic

/-- Where channel `ch0 + r` and state `st0 + k` are of one group: 16 channels and 64 states to a group. -/
def mask (ch0 st0 : BitVec 32) : IVec S128x256 1 :=
  cmpi .eq (shrsi (addi (iota .tc S128x256 32 [0] iota_S128x256_d0_w32) (broadcast S128x256 ch0)) (broadcast S128x256 4#32))
    (shrsi (addi (iota .tc S128x256 32 [1] iota_S128x256_d1_w32) (broadcast S128x256 st0)) (broadcast S128x256 6#32))

/-- The mask at one entry. -/
def bit (ch0 st0 : BitVec 32) (r k : Nat) : BitVec 1 :=
  IntOp.cmpi .eq (IntOp.shrsi .vector (IntOp.addi (BitVec.ofNat 32 r) ch0) 4#32) (IntOp.shrsi .vector (IntOp.addi (BitVec.ofNat 32 k) st0) 6#32)

theorem mask_apply (ch0 st0 : BitVec 32) (r : Fin 128) (k : Fin 256) : mask ch0 st0 (ix2 r k) = bit ch0 st0 r.val k.val := by
  pointwise [mask, bit]

/-- A slab of the input weights: eight copies of 16 rows of the states `off … off + 255`, kept where the mask says so. -/
def wslab (ch0 st0 : BitVec 32) (off : Nat) (h : S16x2048.Slices ![0, off] S16x256) (x : FVec Ideal S16x2048 .f32) : FVec Ideal S1x128x256 .bf16 :=
  shapeCast S1x128x256 (truncf .bf16 (select (mask ch0 st0)
    (concatenate S128x256 0 (List.replicate 8 ⟨S16x256, extractStridedSlice S16x256 ![0, off] x h⟩) concatenates_S16x256_S16x256_S16x256_S16x256_S16x256_S16x256_S16x256_S16x256_S128x256_d0)
    (broadcast S128x256 (Scalar.ofBits .f32 0x00000000#32))) bitsLt_bf16_f32) shapeCasts_S128x256_S1x128x256

theorem wslab_apply (ch0 st0 : BitVec 32) (off : Nat) (h : S16x2048.Slices ![0, off] S16x256) (x : FVec Ideal S16x2048 .f32)
    (r : Fin 128) (k : Fin 256) (q : Fin 16) (hq : q.val = r.val % 16) (n : Fin 2048) (hn : n.val = off + k.val) :
    wslab ch0 st0 off h x (ix3 (0 : Fin 1) r k) = Scalar.select (bit ch0 st0 r.val k.val) (x (ix2 q n)) (Scalar.ofBits (F := Ideal) .f32 0x00000000#32) := by
  unfold wslab
  refine (ValueIdx.shapeCast_ab_1ab_apply _ _ 0 r k).trans ?_
  show Scalar.select (mask ch0 st0 (ix2 r k)) _ _ = _
  rw [mask_apply]
  congr 1
  refine (concatenate_replicate_apply (s₁ := S16x256) (t := S128x256) 0 8 _ _ rfl (ix2 r k) (ix2 q k) hq (fun b hb => by
    match b with
    | ⟨0, _⟩ => exact absurd rfl hb
    | ⟨1, _⟩ => rfl)).trans ?_
  exact ValueIdx.slice2_axis1_apply off x h q k n hn

/-- A slab of the output weights: four copies of 128 rows times a sign, kept where the mask says so. -/
def cslab (ch0 st0 : BitVec 32) (sgn : Ideal .f32) (x : FVec Ideal S128x64 .f32) : FVec Ideal S1x128x256 .bf16 :=
  shapeCast S1x128x256 (truncf .bf16 (select (mask ch0 st0)
    (concatenate S128x256 1 (List.replicate 4 ⟨S128x64, mulf (shapeCast S128x64 x shapeCasts_S128x64_S128x64) (broadcast S128x64 sgn)⟩) concatenates_S128x64_S128x64_S128x64_S128x64_S128x256_d1)
    (broadcast S128x256 (Scalar.ofBits .f32 0x00000000#32))) bitsLt_bf16_f32) shapeCasts_S128x256_S1x128x256

theorem cslab_apply (ch0 st0 : BitVec 32) (sgn : Ideal .f32) (x : FVec Ideal S128x64 .f32)
    (r : Fin 128) (k : Fin 256) (q : Fin 64) (hq : q.val = k.val % 64) :
    cslab ch0 st0 sgn x (ix3 (0 : Fin 1) r k)
      = Scalar.select (bit ch0 st0 r.val k.val) (FloatOps.mulf (x (ix2 r q)) sgn) (Scalar.ofBits (F := Ideal) .f32 0x00000000#32) := by
  unfold cslab
  refine (ValueIdx.shapeCast_ab_1ab_apply _ _ 0 r k).trans ?_
  show Scalar.select (mask ch0 st0 (ix2 r k)) _ _ = _
  rw [mask_apply]
  congr 1
  refine (concatenate_replicate_apply (s₁ := S128x64) (t := S128x256) 1 4 _ _ rfl (ix2 r k) (ix2 r q) hq (fun b hb => by
    match b with
    | ⟨0, _⟩ => rfl
    | ⟨1, _⟩ => exact absurd rfl hb)).trans ?_
  rw [shapeCast_self]
  rfl

end Cert.Kernel5Ideal.Setup

end
-- ==== Proof.SetupReference.lean ====
module

public import proofs.«01_k».proof.Proof.SetupSlab
public import proofs.«01_k».proof.Proof.Gen.Reference5Ideal.Read

/-!
The reference of the set-up call, read entry by entry.

A state `64 g + s` is state `s` of group `g`; its discretised eigenvalue and input weight are functions of the
eigenvalue, of the group's logarithmic step and of the input weight given.
-/

@[expose] public section

set_option maxRecDepth 16384

noncomputable section

namespace Cert.Setup

open Idealize.ShloMosaic Cert.Reference5Ideal.Read
open Cert.Kernel5Ideal.Setup (bit)

/-- The real part of an eigenvalue, kept below a small negative number. -/
def rate (a : Ideal .f32) : Ideal .f32 := FloatOps.minimumf a (Scalar.ofBits .f32 0xB8D1B717#32)

/-- The modulus of the eigenvalue over one step. -/
def gain (a l : Ideal .f32) : Ideal .f32 := FloatOps.exp (FloatOps.mulf (rate a) (FloatOps.exp l))

/-- The real part of the eigenvalue over one step. -/
def lbre (a b l : Ideal .f32) : Ideal .f32 := FloatOps.mulf (gain a l) (FloatOps.cos (FloatOps.mulf b (FloatOps.exp l)))

/-- The imaginary part of the eigenvalue over one step. -/
def lbim (a b l : Ideal .f32) : Ideal .f32 := FloatOps.mulf (gain a l) (FloatOps.sin (FloatOps.mulf b (FloatOps.exp l)))

/-- The squared modulus of the eigenvalue. -/
def den (a b : Ideal .f32) : Ideal .f32 := FloatOps.addf (FloatOps.mulf (rate a) (rate a)) (FloatOps.mulf b b)

/-- The real part over one step, less one. -/
def nre (a b l : Ideal .f32) : Ideal .f32 := FloatOps.subf (lbre a b l) (Scalar.ofBits .f32 0x3F800000#32)

/-- The real part of the factor on the input weights. -/
def fre (a b l : Ideal .f32) : Ideal .f32 :=
  FloatOps.divf (FloatOps.addf (FloatOps.mulf (nre a b l) (rate a)) (FloatOps.mulf (lbim a b l) b)) (den a b)

/-- The imaginary part of the factor on the input weights. -/
def fim (a b l : Ideal .f32) : Ideal .f32 :=
  FloatOps.divf (FloatOps.subf (FloatOps.mulf (lbim a b l) (rate a)) (FloatOps.mulf (nre a b l) b)) (den a b)

/-- The real part of an input weight times the factor. -/
def bbre (a b l p q : Ideal .f32) : Ideal .f32 := FloatOps.subf (FloatOps.mulf (fre a b l) p) (FloatOps.mulf (fim a b l) q)

/-- The imaginary part of an input weight times the factor. -/
def bbim (a b l p q : Ideal .f32) : Ideal .f32 := FloatOps.addf (FloatOps.mulf (fre a b l) q) (FloatOps.mulf (fim a b l) p)

/-- An entry of a slab: the value where channel and state are of one group, zero elsewhere. -/
def entry (j r k : Nat) (v : Ideal .f32) : Ideal .bf16 :=
  Scalar.select (bit (BitVec.ofNat 32 (128 * (j / 2))) (BitVec.ofNat 32 (256 * j)) r k) v (Scalar.ofBits (F := Ideal) .f32 0x00000000#32)

variable (x0 x1 : (⟨⟨3, ![1, 32, 64]⟩, .f32⟩ : BufTy).Contents (Elt Ideal)) (x2 : (⟨⟨2, ![1, 32]⟩, .f32⟩ : BufTy).Contents (Elt Ideal))
variable (x6 x7 : (⟨⟨4, ![1, 32, 64, 16]⟩, .f32⟩ : BufTy).Contents (Elt Ideal))
variable (x8 x9 : (⟨⟨4, ![1, 32, 16, 64]⟩, .f32⟩ : BufTy).Contents (Elt Ideal))

theorem v16_at (g : Fin 32) (s : Fin 64) : val_main_v16 (F := Ideal) x0 (ix2 g s) = x0 (ix3 (0 : Fin 1) g s) :=
  ValueIdx.shapeCast_1ab_ab_apply x0 _ g s

theorem v17_at (g : Fin 32) (s : Fin 64) : val_main_v17 (F := Ideal) x1 (ix2 g s) = x1 (ix3 (0 : Fin 1) g s) :=
  ValueIdx.shapeCast_1ab_ab_apply x1 _ g s

theorem v18_at (g : Fin 32) : val_main_v18 (F := Ideal) x2 (ix1 g) = x2 (ix2 (0 : Fin 1) g) :=
  ValueIdx.shapeCast_1a_a_apply x2 _ g

/-- The step of a group, spread over its states. -/
theorem step_at (g : Fin 32) (s : Fin 64) : val_main_v26 (F := Ideal) x2 (ix2 g s) = (FloatOps.exp (x2 (ix2 (0 : Fin 1) g) : Ideal .f32) : Ideal .f32) := by
  rw [← v18_at x2 g, val_main_v26_apply, val_main_v23_apply, val_main_v22_apply]
  rfl

theorem v32_at (g : Fin 32) (s : Fin 64) : val_main_v32 (F := Ideal) x0 x1 x2 (ix2 g s)
    = lbre (x0 (ix3 (0 : Fin 1) g s)) (x1 (ix3 (0 : Fin 1) g s)) (x2 (ix2 (0 : Fin 1) g)) := by
  rw [← v16_at x0, ← v17_at x1]
  unfold lbre gain
  rw [← step_at x2 g s]
  rfl

theorem v36_at (g : Fin 32) (s : Fin 64) : val_main_v36 (F := Ideal) x0 x1 x2 (ix2 g s)
    = lbim (x0 (ix3 (0 : Fin 1) g s)) (x1 (ix3 (0 : Fin 1) g s)) (x2 (ix2 (0 : Fin 1) g)) := by
  rw [← v16_at x0, ← v17_at x1]
  unfold lbim gain
  rw [← step_at x2 g s]
  rfl

theorem v45_at (g : Fin 32) (s : Fin 64) : val_main_v45 (F := Ideal) x0 x1 x2 (ix2 g s)
    = fre (x0 (ix3 (0 : Fin 1) g s)) (x1 (ix3 (0 : Fin 1) g s)) (x2 (ix2 (0 : Fin 1) g)) := by
  unfold fre nre
  rw [← v32_at x0 x1 x2, ← v36_at x0 x1 x2, ← v16_at x0, ← v17_at x1]
  rfl

theorem v49_at (g : Fin 32) (s : Fin 64) : val_main_v49 (F := Ideal) x0 x1 x2 (ix2 g s)
    = fim (x0 (ix3 (0 : Fin 1) g s)) (x1 (ix3 (0 : Fin 1) g s)) (x2 (ix2 (0 : Fin 1) g)) := by
  unfold fim nre
  rw [← v32_at x0 x1 x2, ← v36_at x0 x1 x2, ← v16_at x0, ← v17_at x1]
  rfl

theorem v51_at (g : Fin 32) (s : Fin 64) (q : Fin 16) : val_main_v51 (F := Ideal) x6 (ix3 g s q) = x6 (ix4 (0 : Fin 1) g s q) :=
  ValueIdx.shapeCast_1abc_abc_apply x6 _ g s q

theorem v52_at (g : Fin 32) (s : Fin 64) (q : Fin 16) : val_main_v52 (F := Ideal) x0 x1 x2 (ix3 g s q) = val_main_v45 (F := Ideal) x0 x1 x2 (ix2 g s) := by
  rw [val_main_v52_apply, val_main_v50_apply]
  refine congrArg _ (funext fun a => ?_)
  match a with
  | ⟨0, _⟩ => rfl
  | ⟨1, _⟩ => rfl

theorem v56_at (g : Fin 32) (s : Fin 64) (q : Fin 16) : val_main_v56 (F := Ideal) x0 x1 x2 (ix3 g s q) = val_main_v49 (F := Ideal) x0 x1 x2 (ix2 g s) := by
  rw [val_main_v56_apply, val_main_v54_apply]
  refine congrArg _ (funext fun a => ?_)
  match a with
  | ⟨0, _⟩ => rfl
  | ⟨1, _⟩ => rfl

theorem v58_at (g : Fin 32) (s : Fin 64) (q : Fin 16) : val_main_v58 (F := Ideal) x0 x1 x2 x6 x7 (ix3 g s q)
    = bbre (x0 (ix3 (0 : Fin 1) g s)) (x1 (ix3 (0 : Fin 1) g s)) (x2 (ix2 (0 : Fin 1) g)) (x6 (ix4 (0 : Fin 1) g s q)) (x7 (ix4 (0 : Fin 1) g s q)) := by
  unfold bbre
  rw [← v45_at x0 x1 x2, ← v49_at x0 x1 x2, ← v51_at x6, ← v51_at x7, ← v52_at x0 x1 x2 g s q, ← v56_at x0 x1 x2 g s q]
  rfl

theorem v67_at (g : Fin 32) (s : Fin 64) (q : Fin 16) : val_main_v67 (F := Ideal) x0 x1 x2 x6 x7 (ix3 g s q)
    = bbim (x0 (ix3 (0 : Fin 1) g s)) (x1 (ix3 (0 : Fin 1) g s)) (x2 (ix2 (0 : Fin 1) g)) (x6 (ix4 (0 : Fin 1) g s q)) (x7 (ix4 (0 : Fin 1) g s q)) := by
  unfold bbim
  rw [← v45_at x0 x1 x2, ← v49_at x0 x1 x2, ← v51_at x6, ← v51_at x7, ← v52_at x0 x1 x2 g s q, ← v56_at x0 x1 x2 g s q]
  rfl

theorem v68_at (n : Fin 2048) (g : Fin 32) (s : Fin 64) (hn : n.val = 64 * g.val + s.val) : val_main_v68 (F := Ideal) x0 x1 x2 (ix2 (0 : Fin 1) n)
    = lbre (x0 (ix3 (0 : Fin 1) g s)) (x1 (ix3 (0 : Fin 1) g s)) (x2 (ix2 (0 : Fin 1) g)) := by
  rw [← v32_at x0 x1 x2, val_main_v68_apply]
  refine congrArg _ (funext fun a => ?_)
  match a with
  | ⟨0, _⟩ => exact Fin.ext (by show (0 * 2048 + n.val) / 64 = g.val; omega)
  | ⟨1, _⟩ => exact Fin.ext (by show (0 * 2048 + n.val) % 64 = s.val; omega)

theorem v69_at (n : Fin 2048) (g : Fin 32) (s : Fin 64) (hn : n.val = 64 * g.val + s.val) : val_main_v69 (F := Ideal) x0 x1 x2 (ix2 (0 : Fin 1) n)
    = lbim (x0 (ix3 (0 : Fin 1) g s)) (x1 (ix3 (0 : Fin 1) g s)) (x2 (ix2 (0 : Fin 1) g)) := by
  rw [← v36_at x0 x1 x2, val_main_v69_apply]
  refine congrArg _ (funext fun a => ?_)
  match a with
  | ⟨0, _⟩ => exact Fin.ext (by show (0 * 2048 + n.val) / 64 = g.val; omega)
  | ⟨1, _⟩ => exact Fin.ext (by show (0 * 2048 + n.val) % 64 = s.val; omega)

theorem shift4 (x : BitVec 32) : IntOp.shrsi .host x 4#32 = IntOp.shrsi .vector x 4#32 := by
  unfold IntOp.shrsi
  rw [if_pos (by decide), if_pos (by decide)]

theorem shift6 (x : BitVec 32) : IntOp.shrsi .host x 6#32 = IntOp.shrsi .vector x 6#32 := by
  unfold IntOp.shrsi
  rw [if_pos (by decide), if_pos (by decide)]

theorem chan0 (j : Fin 8) : IntOp.muli (IntOp.shrsi .host (BitVec.ofNat 32 j.val) 1#32) 128#32 = BitVec.ofNat 32 (128 * (j.val / 2)) := by
  unfold IntOp.shrsi
  rw [if_pos (by decide)]
  revert j; decide

theorem state0 (j : Fin 8) : IntOp.muli (BitVec.ofNat 32 j.val) 256#32 = BitVec.ofNat 32 (256 * j.val) := by
  revert j; decide

/-- The mask of the reference at one entry. -/
theorem mask_at (j : Fin 8) (r : Fin 128) (k : Fin 256) : val_main_v15 (F := Ideal) (ix3 j r k)
    = bit (BitVec.ofNat 32 (128 * (j.val / 2))) (BitVec.ofNat 32 (256 * j.val)) r.val k.val := by
  show IntOp.cmpi .eq
    (IntOp.shrsi .host (IntOp.addi (BitVec.ofNat 32 r.val) (IntOp.muli (IntOp.shrsi .host (BitVec.ofNat 32 j.val) 1#32) 128#32)) 4#32)
    (IntOp.shrsi .host (IntOp.addi (BitVec.ofNat 32 k.val) (IntOp.muli (BitVec.ofNat 32 j.val) 256#32)) 6#32) = _
  rw [shift4, shift6, chan0, state0]
  rfl

theorem mid_of (g s q : Nat) (hs : s < 64) (hq : q < 16) : ((64 * g + s) * 16 + q) / 16 % 64 = s := by
  have e : ((64 * g + s) * 16 + q) / 16 = 64 * g + s := by omega
  rw [e]; omega

theorem pick_at (j : Fin 8) (r : Fin 128) (k : Fin 256) (g : Fin 32) (s : Fin 64) (q : Fin 16)
    (hg : 256 * j.val + k.val = 64 * g.val + s.val) (hq : q.val = r.val % 16) :
    idx_main_v70 (idx_main_v71 (idx_main_v72 (idx_main_v73 (ix3 j r k)))) = ix3 g s q := by
  have hj := j.isLt; have hr := r.isLt; have hk := k.isLt; have hs := s.isLt
  have h0 : ((j.val * 128 + r.val) * 256 + k.val) / 32768 = j.val := by omega
  have h2 : ((j.val * 128 + r.val) * 256 + k.val) / 256 % 16 = q.val := by omega
  have h3 : ((j.val * 128 + r.val) * 256 + k.val) % 256 = k.val := by omega
  have e : (((((j.val * 128 + r.val) * 256 + k.val) / 32768) * 1 + 0) * 256 + ((j.val * 128 + r.val) * 256 + k.val) % 256) * 16
      + ((j.val * 128 + r.val) * 256 + k.val) / 256 % 16 = (64 * g.val + s.val) * 16 + q.val := by
    rw [h0, h2, h3]; omega
  have hq' := q.isLt
  refine funext fun a => ?_
  match a with
  | ⟨0, _⟩ => exact Fin.ext ((congrArg (· / 1024) e).trans (by show ((64 * g.val + s.val) * 16 + q.val) / 1024 = g.val; omega))
  | ⟨1, _⟩ => exact Fin.ext ((congrArg (· / 16 % 64) e).trans (mid_of g.val s.val q.val hs hq'))
  | ⟨2, _⟩ => exact Fin.ext ((congrArg (· % 16) e).trans (by show ((64 * g.val + s.val) * 16 + q.val) % 16 = q.val; omega))

theorem v75_at (j : Fin 8) (r : Fin 128) (k : Fin 256) (g : Fin 32) (s : Fin 64) (q : Fin 16)
    (hg : 256 * j.val + k.val = 64 * g.val + s.val) (hq : q.val = r.val % 16) :
    val_main_v75 (F := Ideal) x0 x1 x2 x6 x7 (ix3 j r k)
      = entry j.val r.val k.val (bbre (x0 (ix3 (0 : Fin 1) g s)) (x1 (ix3 (0 : Fin 1) g s)) (x2 (ix2 (0 : Fin 1) g)) (x6 (ix4 (0 : Fin 1) g s q)) (x7 (ix4 (0 : Fin 1) g s q))) := by
  unfold entry
  rw [← v58_at, ← mask_at, ← pick_at j r k g s q hg hq, ← val_main_v70_apply, ← val_main_v71_apply, ← val_main_v72_apply, ← val_main_v73_apply]
  rfl

theorem v81_at (j : Fin 8) (r : Fin 128) (k : Fin 256) (g : Fin 32) (s : Fin 64) (q : Fin 16)
    (hg : 256 * j.val + k.val = 64 * g.val + s.val) (hq : q.val = r.val % 16) :
    val_main_v81 (F := Ideal) x0 x1 x2 x6 x7 (ix3 j r k)
      = entry j.val r.val k.val (bbim (x0 (ix3 (0 : Fin 1) g s)) (x1 (ix3 (0 : Fin 1) g s)) (x2 (ix2 (0 : Fin 1) g)) (x6 (ix4 (0 : Fin 1) g s q)) (x7 (ix4 (0 : Fin 1) g s q))) := by
  unfold entry
  rw [← v67_at, ← mask_at, ← pick_at j r k g s q hg hq]
  refine Eq.trans ?_ (congrArg (fun z => Scalar.select (val_main_v15 (F := Ideal) (ix3 j r k)) z (Scalar.ofBits (F := Ideal) .f32 0x00000000#32))
    ((val_main_v79_apply x0 x1 x2 x6 x7 _).trans ((val_main_v78_apply x0 x1 x2 x6 x7 _).trans ((val_main_v77_apply x0 x1 x2 x6 x7 _).trans (val_main_v76_apply x0 x1 x2 x6 x7 _)))))
  rfl

/-- The second set of states is discretised as the first is. -/
theorem v128_eq : val_main_v128 (F := Ideal) x0 x1 x2 = val_main_v68 x0 x1 x2 := rfl
theorem v129_eq : val_main_v129 (F := Ideal) x0 x1 x2 = val_main_v69 x0 x1 x2 := rfl
theorem v135_eq : val_main_v135 (F := Ideal) x0 x1 x2 x6 x7 = val_main_v75 x0 x1 x2 x6 x7 := rfl
theorem v141_eq : val_main_v141 (F := Ideal) x0 x1 x2 x6 x7 = val_main_v81 x0 x1 x2 x6 x7 := rfl

theorem v142_at (g : Fin 32) (c : Fin 16) (s : Fin 64) : val_main_v142 (F := Ideal) x8 (ix3 g c s) = x8 (ix4 (0 : Fin 1) g c s) :=
  ValueIdx.shapeCast_1abc_abc_apply x8 _ g c s

theorem pickc_at (j : Fin 8) (r : Fin 128) (k : Fin 256) (g : Fin 32) (c : Fin 16) (s : Fin 64)
    (hg : 128 * (j.val / 2) + r.val = 16 * g.val + c.val) (hs : s.val = k.val % 64) :
    idx_main_v143 (idx_main_v144 (idx_main_v145 (ix3 j r k))) = ix3 g c s := by
  have hj := j.isLt; have hr := r.isLt; have hk := k.isLt; have hc := c.isLt
  have h0 : ((j.val * 128 + r.val) * 256 + k.val) / 65536 = j.val / 2 := by omega
  have h2 : ((j.val * 128 + r.val) * 256 + k.val) / 256 % 128 = r.val := by omega
  have h3 : ((j.val * 128 + r.val) * 256 + k.val) % 64 = s.val := by omega
  have e : ((((((j.val * 128 + r.val) * 256 + k.val) / 65536) * 1 + 0) * 128 + ((j.val * 128 + r.val) * 256 + k.val) / 256 % 128) * 1 + 0) * 64
      + ((j.val * 128 + r.val) * 256 + k.val) % 64 = (16 * g.val + c.val) * 64 + s.val := by
    rw [h0, h2, h3]; omega
  have hs' := s.isLt
  refine funext fun a => ?_
  match a with
  | ⟨0, _⟩ => exact Fin.ext ((congrArg (· / 1024) e).trans (by show ((16 * g.val + c.val) * 64 + s.val) / 1024 = g.val; omega))
  | ⟨1, _⟩ => exact Fin.ext ((congrArg (· / 64 % 16) e).trans (by show ((16 * g.val + c.val) * 64 + s.val) / 64 % 16 = c.val; omega))
  | ⟨2, _⟩ => exact Fin.ext ((congrArg (· % 64) e).trans (by show ((16 * g.val + c.val) * 64 + s.val) % 64 = s.val; omega))

theorem v147_at (j : Fin 8) (r : Fin 128) (k : Fin 256) (g : Fin 32) (c : Fin 16) (s : Fin 64)
    (hg : 128 * (j.val / 2) + r.val = 16 * g.val + c.val) (hs : s.val = k.val % 64) :
    val_main_v147 (F := Ideal) x8 (ix3 j r k) = entry j.val r.val k.val (x8 (ix4 (0 : Fin 1) g c s)) := by
  unfold entry
  rw [← v142_at x8, ← mask_at, ← pickc_at j r k g c s hg hs, ← val_main_v143_apply, ← val_main_v144_apply, ← val_main_v145_apply]
  rfl

theorem v154_at (j : Fin 8) (r : Fin 128) (k : Fin 256) (g : Fin 32) (c : Fin 16) (s : Fin 64)
    (hg : 128 * (j.val / 2) + r.val = 16 * g.val + c.val) (hs : s.val = k.val % 64) :
    val_main_v154 (F := Ideal) x9 (ix3 j r k) = entry j.val r.val k.val (-(x9 (ix4 (0 : Fin 1) g c s) : EReal)) := by
  unfold entry
  rw [← v142_at x9, ← mask_at, ← pickc_at j r k g c s hg hs]
  refine Eq.trans ?_ (congrArg (fun z => Scalar.select (val_main_v15 (F := Ideal) (ix3 j r k)) z (Scalar.ofBits (F := Ideal) .f32 0x00000000#32))
    ((val_main_v152_apply x9 _).trans ((val_main_v151_apply x9 _).trans (val_main_v150_apply x9 _))))
  rfl

end Cert.Setup

end
-- ==== Proof.SetupPay.lean ====
module

public import proofs.«01_k».proof.Proof.SetupReference

/-!
What the set-up call stores, entry by entry: the discretised eigenvalues, the input weights times their factor, and
the slabs of both.
-/

@[expose] public section

set_option maxRecDepth 16384

noncomputable section

namespace Cert.Kernel5Ideal.Setup

open Cert.Kernel5Ideal Cert.Kernel5Ideal.Gen Idealize.ShloMosaic Cert.Setup

section

variable (w p q : FVec Ideal S16x2048 .f32) (f e : FVec Ideal S1x2048 .f32) (c : FVec Ideal S128x64 .f32)

theorem fre0 : k0_pay15 (F := Ideal) w = wslab 0#32 0#32 0 slices_S16x2048_o0_0_S16x256 w := rfl
theorem fre1 : k0_pay19 (F := Ideal) w k0_pay17 (iota .tc S128x256 32 [1] iota_S128x256_d1_w32) 256#32 = wslab 0#32 256#32 256 slices_S16x2048_o0_256_S16x256 w := rfl
theorem fre2 : k0_pay23 (F := Ideal) (k0_pay22 w) = wslab 128#32 512#32 512 slices_S16x2048_o0_512_S16x256 w := rfl
theorem fre3 : k0_pay26 (F := Ideal) w = wslab 128#32 768#32 768 slices_S16x2048_o0_768_S16x256 w := rfl
theorem fre4 : k0_pay30 (F := Ideal) w (iota .tc S128x256 32 [0] iota_S128x256_d0_w32) k0_pay28 = wslab 256#32 1024#32 1024 slices_S16x2048_o0_1024_S16x256 w := rfl
theorem fre5 : k0_pay34 (F := Ideal) (k0_pay33 w) = wslab 256#32 1280#32 1280 slices_S16x2048_o0_1280_S16x256 w := rfl
theorem fre6 : k0_pay37 (F := Ideal) w = wslab 384#32 1536#32 1536 slices_S16x2048_o0_1536_S16x256 w := rfl
theorem fre7 : k0_pay40 (F := Ideal) w = wslab 384#32 1792#32 1792 slices_S16x2048_o0_1792_S16x256 w := rfl
theorem fim0 : k0_pay16 (F := Ideal) f e p q = wslab 0#32 0#32 0 slices_S16x2048_o0_0_S16x256 (k0_pay13 f e p q) := rfl
theorem fim1 : k0_pay20 (F := Ideal) w k0_pay17 (iota .tc S128x256 32 [1] iota_S128x256_d1_w32) 256#32 = wslab 0#32 256#32 256 slices_S16x2048_o0_256_S16x256 w := rfl
theorem fim2 : k0_pay24 (F := Ideal) w k0_pay21 = wslab 128#32 512#32 512 slices_S16x2048_o0_512_S16x256 w := rfl
theorem fim3 : k0_pay27 (F := Ideal) w = wslab 128#32 768#32 768 slices_S16x2048_o0_768_S16x256 w := rfl
theorem fim4 : k0_pay31 (F := Ideal) w (iota .tc S128x256 32 [0] iota_S128x256_d0_w32) k0_pay28 = wslab 256#32 1024#32 1024 slices_S16x2048_o0_1024_S16x256 w := rfl
theorem fim5 : k0_pay35 (F := Ideal) w k0_pay32 = wslab 256#32 1280#32 1280 slices_S16x2048_o0_1280_S16x256 w := rfl
theorem fim6 : k0_pay38 (F := Ideal) w = wslab 384#32 1536#32 1536 slices_S16x2048_o0_1536_S16x256 w := rfl
theorem fim7 : k0_pay41 (F := Ideal) w = wslab 384#32 1792#32 1792 slices_S16x2048_o0_1792_S16x256 w := rfl
theorem bre0 : k0_pay58 (F := Ideal) w k0_pay55 (iota .tc S128x256 32 [1] iota_S128x256_d1_w32) k0_pay56 = wslab 0#32 0#32 0 slices_S16x2048_o0_0_S16x256 w := rfl
theorem bre1 : k0_pay62 (F := Ideal) (k0_pay61 w) = wslab 0#32 256#32 256 slices_S16x2048_o0_256_S16x256 w := rfl
theorem bre2 : k0_pay65 (F := Ideal) w = wslab 128#32 512#32 512 slices_S16x2048_o0_512_S16x256 w := rfl
theorem bre3 : k0_pay69 (F := Ideal) w k0_pay67 = wslab 128#32 768#32 768 slices_S16x2048_o0_768_S16x256 w := rfl
theorem bre4 : k0_pay73 (F := Ideal) (k0_pay72 w) = wslab 256#32 1024#32 1024 slices_S16x2048_o0_1024_S16x256 w := rfl
theorem bre5 : k0_pay76 (F := Ideal) w = wslab 256#32 1280#32 1280 slices_S16x2048_o0_1280_S16x256 w := rfl
theorem bre6 : k0_pay79 (F := Ideal) w (iota .tc S128x256 32 [0] iota_S128x256_d0_w32) = wslab 384#32 1536#32 1536 slices_S16x2048_o0_1536_S16x256 w := rfl
theorem bre7 : k0_pay83 (F := Ideal) (k0_pay82 w) = wslab 384#32 1792#32 1792 slices_S16x2048_o0_1792_S16x256 w := rfl
theorem bim0 : k0_pay59 (F := Ideal) w k0_pay55 (iota .tc S128x256 32 [1] iota_S128x256_d1_w32) k0_pay56 = wslab 0#32 0#32 0 slices_S16x2048_o0_0_S16x256 w := rfl
theorem bim1 : k0_pay63 (F := Ideal) w k0_pay60 = wslab 0#32 256#32 256 slices_S16x2048_o0_256_S16x256 w := rfl
theorem bim2 : k0_pay66 (F := Ideal) w = wslab 128#32 512#32 512 slices_S16x2048_o0_512_S16x256 w := rfl
theorem bim3 : k0_pay70 (F := Ideal) w k0_pay67 = wslab 128#32 768#32 768 slices_S16x2048_o0_768_S16x256 w := rfl
theorem bim4 : k0_pay74 (F := Ideal) w k0_pay71 = wslab 256#32 1024#32 1024 slices_S16x2048_o0_1024_S16x256 w := rfl
theorem bim5 : k0_pay77 (F := Ideal) w = wslab 256#32 1280#32 1280 slices_S16x2048_o0_1280_S16x256 w := rfl
theorem bim6 : k0_pay80 (F := Ideal) w (iota .tc S128x256 32 [0] iota_S128x256_d0_w32) = wslab 384#32 1536#32 1536 slices_S16x2048_o0_1536_S16x256 w := rfl
theorem bim7 : k0_pay84 (F := Ideal) w k0_pay81 = wslab 384#32 1792#32 1792 slices_S16x2048_o0_1792_S16x256 w := rfl
theorem cre0 : k0_pay86 (F := Ideal) c = cslab 0#32 0#32 (Scalar.ofBits .f32 0x3F800000#32) c := rfl
theorem cre1 : k0_pay90 (F := Ideal) c = cslab 0#32 256#32 (Scalar.ofBits .f32 0x3F800000#32) c := rfl
theorem cre2 : k0_pay94 (F := Ideal) c = cslab 128#32 512#32 (Scalar.ofBits .f32 0x3F800000#32) c := rfl
theorem cre3 : k0_pay97 (F := Ideal) c = cslab 128#32 768#32 (Scalar.ofBits .f32 0x3F800000#32) c := rfl
theorem cre4 : k0_pay102 (F := Ideal) k0_pay99 (iota .tc S128x256 32 [1] iota_S128x256_d1_w32) k0_pay100 c = cslab 256#32 1024#32 (Scalar.ofBits .f32 0x3F800000#32) c := rfl
theorem cre5 : k0_pay107 (F := Ideal) k0_pay104 k0_pay105 c = cslab 256#32 1280#32 (Scalar.ofBits .f32 0x3F800000#32) c := rfl
theorem cre6 : k0_pay112 (F := Ideal) k0_pay109 (k0_pay110 c) k0_pay111 = cslab 384#32 1536#32 (Scalar.ofBits .f32 0x3F800000#32) c := rfl
theorem cre7 : k0_pay116 (F := Ideal) (k0_pay115 c) = cslab 384#32 1792#32 (Scalar.ofBits .f32 0x3F800000#32) c := rfl
theorem cim0 : k0_pay88 (F := Ideal) k0_pay85 (k0_pay87 c) (Scalar.ofBits .f32 0xBF800000#32) = cslab 0#32 0#32 (Scalar.ofBits .f32 0xBF800000#32) c := rfl
theorem cim1 : k0_pay92 (F := Ideal) (k0_pay91 c) = cslab 0#32 256#32 (Scalar.ofBits .f32 0xBF800000#32) c := rfl
theorem cim2 : k0_pay95 (F := Ideal) c = cslab 128#32 512#32 (Scalar.ofBits .f32 0xBF800000#32) c := rfl
theorem cim3 : k0_pay98 (F := Ideal) c = cslab 128#32 768#32 (Scalar.ofBits .f32 0xBF800000#32) c := rfl
theorem cim4 : k0_pay103 (F := Ideal) k0_pay99 (iota .tc S128x256 32 [1] iota_S128x256_d1_w32) k0_pay100 c = cslab 256#32 1024#32 (Scalar.ofBits .f32 0xBF800000#32) c := rfl
theorem cim5 : k0_pay108 (F := Ideal) k0_pay104 k0_pay105 c = cslab 256#32 1280#32 (Scalar.ofBits .f32 0xBF800000#32) c := rfl
theorem cim6 : k0_pay113 (F := Ideal) k0_pay109 c = cslab 384#32 1536#32 (Scalar.ofBits .f32 0xBF800000#32) c := rfl
theorem cim7 : k0_pay117 (F := Ideal) k0_pay114 c = cslab 384#32 1792#32 (Scalar.ofBits .f32 0xBF800000#32) c := rfl

end

section

variable (l a b : Vec Ideal S1x2048 .f32) (p q : Vec Ideal S16x2048 .f32)

theorem pay2_eq : k0_pay2 (F := Ideal) l = fun i => (FloatOps.exp (l i : Ideal .f32) : Ideal .f32) := by
  unfold k0_pay2
  dsimp only
  rw [shapeCast_self]
  rfl

theorem pay3_eq : k0_pay3 (F := Ideal) a = fun i => rate (a i) := by
  unfold k0_pay3
  dsimp only
  rw [shapeCast_self]
  rfl

theorem pay4_eq : k0_pay4 (F := Ideal) b = b := by
  unfold k0_pay4
  dsimp only
  rw [shapeCast_self]

theorem pay6_eq : k0_pay6 (F := Ideal) l a b = fun i => lbre (a i) (b i) (l i) := by
  unfold k0_pay6 k0_pay5
  dsimp only
  rw [pay2_eq, pay3_eq, pay4_eq]
  rfl

theorem pay7_eq : k0_pay7 (F := Ideal) l a b = fun i => lbim (a i) (b i) (l i) := by
  unfold k0_pay7 k0_pay5
  dsimp only
  rw [pay2_eq, pay3_eq, pay4_eq]
  rfl

theorem pay10_eq : k0_pay10 (F := Ideal) l a b = fun i => fre (a i) (b i) (l i) := by
  unfold k0_pay10 k0_pay9 k0_pay8
  dsimp only
  rw [pay6_eq, pay7_eq, pay3_eq, pay4_eq]
  rfl

theorem pay11_eq : k0_pay11 (F := Ideal) l a b = fun i => fim (a i) (b i) (l i) := by
  unfold k0_pay11 k0_pay9 k0_pay8
  dsimp only
  rw [pay6_eq, pay7_eq, pay3_eq, pay4_eq]
  rfl

/-- A row spread over 16 rows. -/
theorem spread (x : FVec Ideal S1x2048 .f32) (r : Fin 16) (n : Fin 2048) :
    broadcastTo S16x2048 x broadcasts_S1x2048_S16x2048 (ix2 r n) = x (ix2 (0 : Fin 1) n) := by
  pointwise

theorem pay12_apply (r : Fin 16) (n : Fin 2048) : k0_pay12 (F := Ideal) l a b p q (ix2 r n)
    = bbre (a (ix2 (0 : Fin 1) n)) (b (ix2 (0 : Fin 1) n)) (l (ix2 (0 : Fin 1) n)) (p (ix2 r n)) (q (ix2 r n)) := by
  unfold k0_pay12
  rw [shapeCast_self, shapeCast_self, pay10_eq, pay11_eq]
  show FloatOps.subf (FloatOps.mulf (broadcastTo S16x2048 _ _ (ix2 r n)) _) (FloatOps.mulf (broadcastTo S16x2048 _ _ (ix2 r n)) _) = _
  rw [spread, spread]
  rfl

theorem pay13_apply (r : Fin 16) (n : Fin 2048) : k0_pay13 (F := Ideal) (k0_pay10 l a b) (k0_pay11 l a b) q p (ix2 r n)
    = bbim (a (ix2 (0 : Fin 1) n)) (b (ix2 (0 : Fin 1) n)) (l (ix2 (0 : Fin 1) n)) (p (ix2 r n)) (q (ix2 r n)) := by
  unfold k0_pay13
  rw [shapeCast_self, shapeCast_self, pay10_eq, pay11_eq]
  show FloatOps.addf (FloatOps.mulf (broadcastTo S16x2048 _ _ (ix2 r n)) _) (FloatOps.mulf (broadcastTo S16x2048 _ _ (ix2 r n)) _) = _
  rw [spread, spread]
  rfl

/-- The second set of states is treated as the first is. -/
theorem pay47_eq : k0_pay47 (F := Ideal) (k0_pay45 l a) (k0_pay46 l b) = k0_pay6 l a b := rfl
theorem pay48_eq : k0_pay48 (F := Ideal) (k0_pay42 l) (k0_pay44 b) (k0_pay45 l a) = k0_pay7 l a b := rfl
theorem pay53_eq : k0_pay53 (F := Ideal) (k0_pay42 l) (k0_pay43 a) (k0_pay44 b) (k0_pay45 l a) (k0_pay46 l b) p q = k0_pay12 l a b p q := rfl
theorem pay54_eq : k0_pay54 (F := Ideal) (k0_pay42 l) (k0_pay43 a) (k0_pay44 b) (k0_pay45 l a) (k0_pay46 l b) q p
    = k0_pay13 (k0_pay10 l a b) (k0_pay11 l a b) q p := rfl

end

end Cert.Kernel5Ideal.Setup

end
-- ==== Proof.SetupOut.lean ====
module

public import proofs.«01_k».proof.Proof.SetupPay
public import proofs.«01_k».proof.Proof.Gen.Kernel5Ideal.Frame
public import Idealize.ShloMosaic.Lib.WholeRead
public import Idealize.ShloMosaic.Lib.Pipeline.ValueKit.Tiles

/-!
What the one point of the set-up call leaves in each output, as a function of what it reads.
-/

@[expose] public section

set_option maxRecDepth 16384

noncomputable section

namespace Cert.Kernel5Ideal.Setup

open Cert.Kernel5Ideal Cert.Kernel5Ideal.Gen Idealize.ShloMosaic Idealize.ShloMosaic.TcCoe Idealize.SL.Sem Cert.Setup

theorem entry_of (j : Nat) (ch st : BitVec 32) (r k : Nat) (v : Ideal .f32) (hc : BitVec.ofNat 32 (128 * (j / 2)) = ch) (hs : BitVec.ofNat 32 (256 * j) = st) :
    entry j r k v = Scalar.select (bit ch st r k) v (Scalar.ofBits (F := Ideal) .f32 0x00000000#32) := by
  subst hc; subst hs; rfl

/-- The eight input slabs of one array of weights. -/
def wslabs (w : FVec Ideal S16x2048 .f32) : Fin 8 → FVec Ideal S1x128x256 .bf16
  | ⟨0, _⟩ => wslab 0#32 0#32 0 slices_S16x2048_o0_0_S16x256 w
  | ⟨1, _⟩ => wslab 0#32 256#32 256 slices_S16x2048_o0_256_S16x256 w
  | ⟨2, _⟩ => wslab 128#32 512#32 512 slices_S16x2048_o0_512_S16x256 w
  | ⟨3, _⟩ => wslab 128#32 768#32 768 slices_S16x2048_o0_768_S16x256 w
  | ⟨4, _⟩ => wslab 256#32 1024#32 1024 slices_S16x2048_o0_1024_S16x256 w
  | ⟨5, _⟩ => wslab 256#32 1280#32 1280 slices_S16x2048_o0_1280_S16x256 w
  | ⟨6, _⟩ => wslab 384#32 1536#32 1536 slices_S16x2048_o0_1536_S16x256 w
  | ⟨7, _⟩ => wslab 384#32 1792#32 1792 slices_S16x2048_o0_1792_S16x256 w

theorem wslabs_at (w : FVec Ideal S16x2048 .f32) (j : Fin 8) (r : Fin 128) (k : Fin 256) (q : Fin 16) (hq : q.val = r.val % 16)
    (n : Fin 2048) (hn : n.val = 256 * j.val + k.val) : wslabs w j (ix3 (0 : Fin 1) r k) = entry j.val r.val k.val (w (ix2 q n)) := by
  match j with
  | ⟨0, _⟩ => rw [entry_of 0 0#32 0#32 r.val k.val _ (by decide) (by decide)]; exact wslab_apply 0#32 0#32 0 slices_S16x2048_o0_0_S16x256 w r k q hq n hn
  | ⟨1, _⟩ => rw [entry_of 1 0#32 256#32 r.val k.val _ (by decide) (by decide)]; exact wslab_apply 0#32 256#32 256 slices_S16x2048_o0_256_S16x256 w r k q hq n hn
  | ⟨2, _⟩ => rw [entry_of 2 128#32 512#32 r.val k.val _ (by decide) (by decide)]; exact wslab_apply 128#32 512#32 512 slices_S16x2048_o0_512_S16x256 w r k q hq n hn
  | ⟨3, _⟩ => rw [entry_of 3 128#32 768#32 r.val k.val _ (by decide) (by decide)]; exact wslab_apply 128#32 768#32 768 slices_S16x2048_o0_768_S16x256 w r k q hq n hn
  | ⟨4, _⟩ => rw [entry_of 4 256#32 1024#32 r.val k.val _ (by decide) (by decide)]; exact wslab_apply 256#32 1024#32 1024 slices_S16x2048_o0_1024_S16x256 w r k q hq n hn
  | ⟨5, _⟩ => rw [entry_of 5 256#32 1280#32 r.val k.val _ (by decide) (by decide)]; exact wslab_apply 256#32 1280#32 1280 slices_S16x2048_o0_1280_S16x256 w r k q hq n hn
  | ⟨6, _⟩ => rw [entry_of 6 384#32 1536#32 r.val k.val _ (by decide) (by decide)]; exact wslab_apply 384#32 1536#32 1536 slices_S16x2048_o0_1536_S16x256 w r k q hq n hn
  | ⟨7, _⟩ => rw [entry_of 7 384#32 1792#32 r.val k.val _ (by decide) (by decide)]; exact wslab_apply 384#32 1792#32 1792 slices_S16x2048_o0_1792_S16x256 w r k q hq n hn

/-- The eight output slabs of one array of weights, a slab's rows loaded first. -/
def cslabs (sgn : Ideal .f32) (x : Fin 8 → FVec Ideal S128x64 .f32) : Fin 8 → FVec Ideal S1x128x256 .bf16
  | ⟨0, _⟩ => cslab 0#32 0#32 sgn (x 0)
  | ⟨1, _⟩ => cslab 0#32 256#32 sgn (x 1)
  | ⟨2, _⟩ => cslab 128#32 512#32 sgn (x 2)
  | ⟨3, _⟩ => cslab 128#32 768#32 sgn (x 3)
  | ⟨4, _⟩ => cslab 256#32 1024#32 sgn (x 4)
  | ⟨5, _⟩ => cslab 256#32 1280#32 sgn (x 5)
  | ⟨6, _⟩ => cslab 384#32 1536#32 sgn (x 6)
  | ⟨7, _⟩ => cslab 384#32 1792#32 sgn (x 7)

theorem cslabs_at (sgn : Ideal .f32) (x : Fin 8 → FVec Ideal S128x64 .f32) (j : Fin 8) (r : Fin 128) (k : Fin 256) (q : Fin 64) (hq : q.val = k.val % 64) :
    cslabs sgn x j (ix3 (0 : Fin 1) r k) = entry j.val r.val k.val (FloatOps.mulf (x j (ix2 r q)) sgn) := by
  match j with
  | ⟨0, _⟩ => rw [entry_of 0 0#32 0#32 r.val k.val _ (by decide) (by decide)]; exact cslab_apply 0#32 0#32 sgn (x 0) r k q hq
  | ⟨1, _⟩ => rw [entry_of 1 0#32 256#32 r.val k.val _ (by decide) (by decide)]; exact cslab_apply 0#32 256#32 sgn (x 1) r k q hq
  | ⟨2, _⟩ => rw [entry_of 2 128#32 512#32 r.val k.val _ (by decide) (by decide)]; exact cslab_apply 128#32 512#32 sgn (x 2) r k q hq
  | ⟨3, _⟩ => rw [entry_of 3 128#32 768#32 r.val k.val _ (by decide) (by decide)]; exact cslab_apply 128#32 768#32 sgn (x 3) r k q hq
  | ⟨4, _⟩ => rw [entry_of 4 256#32 1024#32 r.val k.val _ (by decide) (by decide)]; exact cslab_apply 256#32 1024#32 sgn (x 4) r k q hq
  | ⟨5, _⟩ => rw [entry_of 5 256#32 1280#32 r.val k.val _ (by decide) (by decide)]; exact cslab_apply 256#32 1280#32 sgn (x 5) r k q hq
  | ⟨6, _⟩ => rw [entry_of 6 384#32 1536#32 r.val k.val _ (by decide) (by decide)]; exact cslab_apply 384#32 1536#32 sgn (x 6) r k q hq
  | ⟨7, _⟩ => rw [entry_of 7 384#32 1792#32 r.val k.val _ (by decide) (by decide)]; exact cslab_apply 384#32 1792#32 sgn (x 7) r k q hq

/-- The stores of eight slabs, the last one first. -/
def slabList (P : Fin 8 → FVec Ideal S1x128x256 .bf16) : List (View.Piece (Elt Ideal) S8x128x256 .bf16) :=
  [⟨Rect.unit (s := S8x128x256) ![7, 0, 0] S1x128x256.size inb_S8x128x256_S1x128x256_7_0_0, P 7⟩,
    ⟨Rect.unit (s := S8x128x256) ![6, 0, 0] S1x128x256.size inb_S8x128x256_S1x128x256_6_0_0, P 6⟩,
    ⟨Rect.unit (s := S8x128x256) ![5, 0, 0] S1x128x256.size inb_S8x128x256_S1x128x256_5_0_0, P 5⟩,
    ⟨Rect.unit (s := S8x128x256) ![4, 0, 0] S1x128x256.size inb_S8x128x256_S1x128x256_4_0_0, P 4⟩,
    ⟨Rect.unit (s := S8x128x256) ![3, 0, 0] S1x128x256.size inb_S8x128x256_S1x128x256_3_0_0, P 3⟩,
    ⟨Rect.unit (s := S8x128x256) ![2, 0, 0] S1x128x256.size inb_S8x128x256_S1x128x256_2_0_0, P 2⟩,
    ⟨Rect.unit (s := S8x128x256) ![1, 0, 0] S1x128x256.size inb_S8x128x256_S1x128x256_1_0_0, P 1⟩,
    ⟨Rect.unit (s := S8x128x256) ![0, 0, 0] S1x128x256.size inb_S8x128x256_S1x128x256_0_0_0, P 0⟩]

theorem slab_tile (P : Fin 8 → FVec Ideal S1x128x256 .bf16) (n j : Fin 8) (r : Fin 128) (k : Fin 256) :
    View.TileAt (Val := Elt Ideal) (S := S8x128x256) (e := .bf16) (ix3 j r k) ![n.val, 0, 0] S1x128x256.size (P n) (P j (ix3 (0 : Fin 1) r k)) := by
  intro x hx
  have e0 : j.val = n.val + (x 0).val := hx 0
  have e1 : r.val = 0 + (x 1).val := hx 1
  have e2 : k.val = 0 + (x 2).val := hx 2
  have l0 : (x 0).val < 1 := (x 0).isLt
  have ej : n = j := Fin.ext (by omega)
  subst ej
  refine congrArg (P n) (funext fun a => Fin.ext ?_)
  match a with
  | ⟨0, _⟩ => show (x 0).val = 0; omega
  | ⟨1, _⟩ => show (x 1).val = r.val; omega
  | ⟨2, _⟩ => show (x 2).val = k.val; omega

/-- Eight slabs read back, entry by entry. -/
theorem canon_slabs (P : Fin 8 → FVec Ideal S1x128x256 .bf16) (j : Fin 8) (r : Fin 128) (k : Fin 256) :
    View.canon (slabList P) (ix3 j r k) = P j (ix3 (0 : Fin 1) r k) := by
  refine View.canon_eq_of_allAt _ _ _ (View.cover_of_tiledL (slabList P) S1x128x256.size (by sl_kernel_rfl) _) ?_
  unfold slabList
  refine View.allAt_cons_unit _ _ _ _ _ (slab_tile P 7 j r k) ?_
  refine View.allAt_cons_unit _ _ _ _ _ (slab_tile P 6 j r k) ?_
  refine View.allAt_cons_unit _ _ _ _ _ (slab_tile P 5 j r k) ?_
  refine View.allAt_cons_unit _ _ _ _ _ (slab_tile P 4 j r k) ?_
  refine View.allAt_cons_unit _ _ _ _ _ (slab_tile P 3 j r k) ?_
  refine View.allAt_cons_unit _ _ _ _ _ (slab_tile P 2 j r k) ?_
  refine View.allAt_cons_unit _ _ _ _ _ (slab_tile P 1 j r k) ?_
  refine View.allAt_cons_unit _ _ _ _ _ (slab_tile P 0 j r k) ?_
  exact View.allAt_nil _ _

/-- A load of a whole array reads the array. -/
theorem rd {S : Shape} {e : EltTy} {M : Memref sig .tc .vmem S e} (h : M.IsWhole) (X : S.Idx → Elt Ideal e) (off : Fin S.rank → Nat)
    (inb : ∀ a, off a + S.size a ≤ S.size a) (hz : off = fun _ => 0) :
    View.readAt (Elt Ideal) M.view (Rect.unit (s := S) off S.size inb).toLoadRect (h.unread X) = X := by
  subst hz
  funext x
  refine (h.readAt_unread X _ x).trans (congrArg X (funext fun a => Fin.ext ?_))
  show 0 + 1 * (x a).val = (x a).val
  omega

theorem z2 : (![0, 0] : Fin 2 → Nat) = fun _ => 0 := funext fun a => by fin_cases a <;> rfl

/-- The rows of one slab of the output weights. -/
def rows (x : Vec Ideal S512x64 .f32) (j : Fin 8) : FVec Ideal S128x64 .f32 := fun i =>
  x (ix2 (⟨128 * (j.val / 2) + (i 0).val, by
    have h0 : (i 0).val < 128 := (i 0).isLt
    have hj := j.isLt
    omega⟩ : Fin 512) (i 1))

/-- A load of 128 rows reads those rows. -/
theorem rd_rows {M : Memref sig .tc .vmem S512x64 .f32} (h : M.IsWhole) (X : S512x64.Idx → Elt Ideal .f32) (j : Fin 8) (n : Nat) (hn : n = 128 * (j.val / 2))
    (inb : ∀ a, (![n, 0] : Fin 2 → Nat) a + S128x64.size a ≤ S512x64.size a) :
    View.readAt (Elt Ideal) M.view (Rect.unit (s := S512x64) ![n, 0] S128x64.size inb).toLoadRect (h.unread X) = rows X j := by
  subst hn
  funext x
  refine (h.readAt_unread X _ x).trans (congrArg X (funext fun a => Fin.ext ?_))
  match a with
  | ⟨0, _⟩ => show 128 * (j.val / 2) + 1 * (x 0).val = 128 * (j.val / 2) + (x 0).val; omega
  | ⟨1, _⟩ => show 0 + 1 * (x 1).val = (x 1).val; omega

/-- A whole array stored at once reads back. -/
theorem canon_row (v : FVec Ideal S1x2048 .f32) :
    View.canon (Val := Elt Ideal) (s := S1x2048) (e := .f32) [⟨Rect.unit (s := S1x2048) ![0, 0] S1x2048.size inb_S1x2048_S1x2048_0_0, v⟩] = v :=
  View.canon_unit_zero z2 _ _

theorem list12 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).1 = [⟨Rect.unit (s := S1x2048) ![0, 0] S1x2048.size inb_S1x2048_S1x2048_0_0, k0_pay6 (View.readAt (Elt Ideal) arg3.view (Rect.unit (s := S1x2048) ![0, 0] S1x2048.size inb_S1x2048_S1x2048_0_0).toLoadRect (harg3.unread x2)) (View.readAt (Elt Ideal) arg1.view (Rect.unit (s := S1x2048) ![0, 0] S1x2048.size inb_S1x2048_S1x2048_0_0).toLoadRect (harg1.unread x0)) (View.readAt (Elt Ideal) arg2.view (Rect.unit (s := S1x2048) ![0, 0] S1x2048.size inb_S1x2048_S1x2048_0_0).toLoadRect (harg2.unread x1))⟩] := by
  unfold kernelRun0_A
  dsimp only
  rfl

theorem out12 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = k0_pay6 x2 x0 x1 := by
  unfold out0_A_12
  rw [View.read_writes_junk_eq_canon, list12]
  rw [rd harg1 x0 _ _ z2, rd harg2 x1 _ _ z2, rd harg3 x2 _ _ z2]; exact canon_row _

theorem list13 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.1 = [⟨Rect.unit (s := S1x2048) ![0, 0] S1x2048.size inb_S1x2048_S1x2048_0_0, k0_pay7 (View.readAt (Elt Ideal) arg3.view (Rect.unit (s := S1x2048) ![0, 0] S1x2048.size inb_S1x2048_S1x2048_0_0).toLoadRect (harg3.unread x2)) (View.readAt (Elt Ideal) arg1.view (Rect.unit (s := S1x2048) ![0, 0] S1x2048.size inb_S1x2048_S1x2048_0_0).toLoadRect (harg1.unread x0)) (View.readAt (Elt Ideal) arg2.view (Rect.unit (s := S1x2048) ![0, 0] S1x2048.size inb_S1x2048_S1x2048_0_0).toLoadRect (harg2.unread x1))⟩] := by
  unfold kernelRun0_A
  dsimp only
  rfl

theorem out13 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = k0_pay7 x2 x0 x1 := by
  unfold out0_A_13
  rw [View.read_writes_junk_eq_canon, list13]
  rw [rd harg1 x0 _ _ z2, rd harg2 x1 _ _ z2, rd harg3 x2 _ _ z2]; exact canon_row _

theorem list14 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.1 = slabList (wslabs (k0_pay12 (View.readAt (Elt Ideal) arg3.view (Rect.unit (s := S1x2048) ![0, 0] S1x2048.size inb_S1x2048_S1x2048_0_0).toLoadRect (harg3.unread x2)) (View.readAt (Elt Ideal) arg1.view (Rect.unit (s := S1x2048) ![0, 0] S1x2048.size inb_S1x2048_S1x2048_0_0).toLoadRect (harg1.unread x0)) (View.readAt (Elt Ideal) arg2.view (Rect.unit (s := S1x2048) ![0, 0] S1x2048.size inb_S1x2048_S1x2048_0_0).toLoadRect (harg2.unread x1)) (View.readAt (Elt Ideal) arg7.view (Rect.unit (s := S16x2048) ![0, 0] S16x2048.size inb_S16x2048_S16x2048_0_0).toLoadRect (harg7.unread x6)) (View.readAt (Elt Ideal) arg8.view (Rect.unit (s := S16x2048) ![0, 0] S16x2048.size inb_S16x2048_S16x2048_0_0).toLoadRect (harg8.unread x7)))) := by
  unfold kernelRun0_A
  dsimp only
  rfl

theorem out14 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = View.canon (slabList (wslabs (k0_pay12 x2 x0 x1 x6 x7))) := by
  unfold out0_A_14
  rw [View.read_writes_junk_eq_canon, list14]
  rw [rd harg1 x0 _ _ z2, rd harg2 x1 _ _ z2, rd harg3 x2 _ _ z2, rd harg7 x6 _ _ z2, rd harg8 x7 _ _ z2]

theorem list15 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.1 = slabList (wslabs (k0_pay13 (k0_pay10 (View.readAt (Elt Ideal) arg3.view (Rect.unit (s := S1x2048) ![0, 0] S1x2048.size inb_S1x2048_S1x2048_0_0).toLoadRect (harg3.unread x2)) (View.readAt (Elt Ideal) arg1.view (Rect.unit (s := S1x2048) ![0, 0] S1x2048.size inb_S1x2048_S1x2048_0_0).toLoadRect (harg1.unread x0)) (View.readAt (Elt Ideal) arg2.view (Rect.unit (s := S1x2048) ![0, 0] S1x2048.size inb_S1x2048_S1x2048_0_0).toLoadRect (harg2.unread x1))) (k0_pay11 (View.readAt (Elt Ideal) arg3.view (Rect.unit (s := S1x2048) ![0, 0] S1x2048.size inb_S1x2048_S1x2048_0_0).toLoadRect (harg3.unread x2)) (View.readAt (Elt Ideal) arg1.view (Rect.unit (s := S1x2048) ![0, 0] S1x2048.size inb_S1x2048_S1x2048_0_0).toLoadRect (harg1.unread x0)) (View.readAt (Elt Ideal) arg2.view (Rect.unit (s := S1x2048) ![0, 0] S1x2048.size inb_S1x2048_S1x2048_0_0).toLoadRect (harg2.unread x1))) (View.readAt (Elt Ideal) arg8.view (Rect.unit (s := S16x2048) ![0, 0] S16x2048.size inb_S16x2048_S16x2048_0_0).toLoadRect (harg8.unread x7)) (View.readAt (Elt Ideal) arg7.view (Rect.unit (s := S16x2048) ![0, 0] S16x2048.size inb_S16x2048_S16x2048_0_0).toLoadRect (harg7.unread x6)))) := by
  unfold kernelRun0_A
  dsimp only
  rfl

theorem out15 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = View.canon (slabList (wslabs (k0_pay13 (k0_pay10 x2 x0 x1) (k0_pay11 x2 x0 x1) x7 x6))) := by
  unfold out0_A_15
  rw [View.read_writes_junk_eq_canon, list15]
  rw [rd harg1 x0 _ _ z2, rd harg2 x1 _ _ z2, rd harg3 x2 _ _ z2, rd harg7 x6 _ _ z2, rd harg8 x7 _ _ z2]

theorem list16 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.2.1 = [⟨Rect.unit (s := S1x2048) ![0, 0] S1x2048.size inb_S1x2048_S1x2048_0_0, k0_pay6 (View.readAt (Elt Ideal) arg6.view (Rect.unit (s := S1x2048) ![0, 0] S1x2048.size inb_S1x2048_S1x2048_0_0).toLoadRect (harg6.unread x5)) (View.readAt (Elt Ideal) arg4.view (Rect.unit (s := S1x2048) ![0, 0] S1x2048.size inb_S1x2048_S1x2048_0_0).toLoadRect (harg4.unread x3)) (View.readAt (Elt Ideal) arg5.view (Rect.unit (s := S1x2048) ![0, 0] S1x2048.size inb_S1x2048_S1x2048_0_0).toLoadRect (harg5.unread x4))⟩] := by
  unfold kernelRun0_A
  dsimp only
  rfl

theorem out16 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = k0_pay6 x5 x3 x4 := by
  unfold out0_A_16
  rw [View.read_writes_junk_eq_canon, list16]
  rw [rd harg4 x3 _ _ z2, rd harg5 x4 _ _ z2, rd harg6 x5 _ _ z2]; exact canon_row _

theorem list17 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.2.2.1 = [⟨Rect.unit (s := S1x2048) ![0, 0] S1x2048.size inb_S1x2048_S1x2048_0_0, k0_pay7 (View.readAt (Elt Ideal) arg6.view (Rect.unit (s := S1x2048) ![0, 0] S1x2048.size inb_S1x2048_S1x2048_0_0).toLoadRect (harg6.unread x5)) (View.readAt (Elt Ideal) arg4.view (Rect.unit (s := S1x2048) ![0, 0] S1x2048.size inb_S1x2048_S1x2048_0_0).toLoadRect (harg4.unread x3)) (View.readAt (Elt Ideal) arg5.view (Rect.unit (s := S1x2048) ![0, 0] S1x2048.size inb_S1x2048_S1x2048_0_0).toLoadRect (harg5.unread x4))⟩] := by
  unfold kernelRun0_A
  dsimp only
  rfl

theorem out17 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = k0_pay7 x5 x3 x4 := by
  unfold out0_A_17
  rw [View.read_writes_junk_eq_canon, list17]
  rw [rd harg4 x3 _ _ z2, rd harg5 x4 _ _ z2, rd harg6 x5 _ _ z2]; exact canon_row _

theorem list18 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.2.2.2.1 = slabList (wslabs (k0_pay12 (View.readAt (Elt Ideal) arg6.view (Rect.unit (s := S1x2048) ![0, 0] S1x2048.size inb_S1x2048_S1x2048_0_0).toLoadRect (harg6.unread x5)) (View.readAt (Elt Ideal) arg4.view (Rect.unit (s := S1x2048) ![0, 0] S1x2048.size inb_S1x2048_S1x2048_0_0).toLoadRect (harg4.unread x3)) (View.readAt (Elt Ideal) arg5.view (Rect.unit (s := S1x2048) ![0, 0] S1x2048.size inb_S1x2048_S1x2048_0_0).toLoadRect (harg5.unread x4)) (View.readAt (Elt Ideal) arg7.view (Rect.unit (s := S16x2048) ![0, 0] S16x2048.size inb_S16x2048_S16x2048_0_0).toLoadRect (harg7.unread x6)) (View.readAt (Elt Ideal) arg8.view (Rect.unit (s := S16x2048) ![0, 0] S16x2048.size inb_S16x2048_S16x2048_0_0).toLoadRect (harg8.unread x7)))) := by
  unfold kernelRun0_A
  dsimp only
  rfl

theorem out18 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = View.canon (slabList (wslabs (k0_pay12 x5 x3 x4 x6 x7))) := by
  unfold out0_A_18
  rw [View.read_writes_junk_eq_canon, list18]
  rw [rd harg4 x3 _ _ z2, rd harg5 x4 _ _ z2, rd harg6 x5 _ _ z2, rd harg7 x6 _ _ z2, rd harg8 x7 _ _ z2]

theorem list19 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.2.2.2.2.1 = slabList (wslabs (k0_pay13 (k0_pay10 (View.readAt (Elt Ideal) arg6.view (Rect.unit (s := S1x2048) ![0, 0] S1x2048.size inb_S1x2048_S1x2048_0_0).toLoadRect (harg6.unread x5)) (View.readAt (Elt Ideal) arg4.view (Rect.unit (s := S1x2048) ![0, 0] S1x2048.size inb_S1x2048_S1x2048_0_0).toLoadRect (harg4.unread x3)) (View.readAt (Elt Ideal) arg5.view (Rect.unit (s := S1x2048) ![0, 0] S1x2048.size inb_S1x2048_S1x2048_0_0).toLoadRect (harg5.unread x4))) (k0_pay11 (View.readAt (Elt Ideal) arg6.view (Rect.unit (s := S1x2048) ![0, 0] S1x2048.size inb_S1x2048_S1x2048_0_0).toLoadRect (harg6.unread x5)) (View.readAt (Elt Ideal) arg4.view (Rect.unit (s := S1x2048) ![0, 0] S1x2048.size inb_S1x2048_S1x2048_0_0).toLoadRect (harg4.unread x3)) (View.readAt (Elt Ideal) arg5.view (Rect.unit (s := S1x2048) ![0, 0] S1x2048.size inb_S1x2048_S1x2048_0_0).toLoadRect (harg5.unread x4))) (View.readAt (Elt Ideal) arg8.view (Rect.unit (s := S16x2048) ![0, 0] S16x2048.size inb_S16x2048_S16x2048_0_0).toLoadRect (harg8.unread x7)) (View.readAt (Elt Ideal) arg7.view (Rect.unit (s := S16x2048) ![0, 0] S16x2048.size inb_S16x2048_S16x2048_0_0).toLoadRect (harg7.unread x6)))) := by
  unfold kernelRun0_A
  dsimp only
  rfl

theorem out19 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = View.canon (slabList (wslabs (k0_pay13 (k0_pay10 x5 x3 x4) (k0_pay11 x5 x3 x4) x7 x6))) := by
  unfold out0_A_19
  rw [View.read_writes_junk_eq_canon, list19]
  rw [rd harg4 x3 _ _ z2, rd harg5 x4 _ _ z2, rd harg6 x5 _ _ z2, rd harg7 x6 _ _ z2, rd harg8 x7 _ _ z2]

theorem list20 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.2.2.2.2.2.1 = slabList (cslabs (Scalar.ofBits .f32 0x3F800000#32) (fun j : Fin 8 => match j with
      | ⟨0, _⟩ => View.readAt (Elt Ideal) arg9.view (Rect.unit (s := S512x64) ![0, 0] S128x64.size inb_S512x64_S128x64_0_0).toLoadRect (harg9.unread x8)
      | ⟨1, _⟩ => View.readAt (Elt Ideal) arg9.view (Rect.unit (s := S512x64) ![0, 0] S128x64.size inb_S512x64_S128x64_0_0).toLoadRect (harg9.unread x8)
      | ⟨2, _⟩ => View.readAt (Elt Ideal) arg9.view (Rect.unit (s := S512x64) ![128, 0] S128x64.size inb_S512x64_S128x64_128_0).toLoadRect (harg9.unread x8)
      | ⟨3, _⟩ => View.readAt (Elt Ideal) arg9.view (Rect.unit (s := S512x64) ![128, 0] S128x64.size inb_S512x64_S128x64_128_0).toLoadRect (harg9.unread x8)
      | ⟨4, _⟩ => View.readAt (Elt Ideal) arg9.view (Rect.unit (s := S512x64) ![256, 0] S128x64.size inb_S512x64_S128x64_256_0).toLoadRect (harg9.unread x8)
      | ⟨5, _⟩ => View.readAt (Elt Ideal) arg9.view (Rect.unit (s := S512x64) ![256, 0] S128x64.size inb_S512x64_S128x64_256_0).toLoadRect (harg9.unread x8)
      | ⟨6, _⟩ => View.readAt (Elt Ideal) arg9.view (Rect.unit (s := S512x64) ![384, 0] S128x64.size inb_S512x64_S128x64_384_0).toLoadRect (harg9.unread x8)
      | ⟨7, _⟩ => View.readAt (Elt Ideal) arg9.view (Rect.unit (s := S512x64) ![384, 0] S128x64.size inb_S512x64_S128x64_384_0).toLoadRect (harg9.unread x8))) := by
  unfold kernelRun0_A
  dsimp only
  rfl

theorem out20 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = View.canon (slabList (cslabs (Scalar.ofBits .f32 0x3F800000#32) (rows x8))) := by
  unfold out0_A_20
  rw [View.read_writes_junk_eq_canon, list20]
  refine congrArg (fun f => View.canon (slabList (cslabs _ f))) (funext fun j => ?_)
  match j with
  | ⟨0, _⟩ => exact rd_rows harg9 x8 0 0 rfl _
  | ⟨1, _⟩ => exact rd_rows harg9 x8 1 0 rfl _
  | ⟨2, _⟩ => exact rd_rows harg9 x8 2 128 rfl _
  | ⟨3, _⟩ => exact rd_rows harg9 x8 3 128 rfl _
  | ⟨4, _⟩ => exact rd_rows harg9 x8 4 256 rfl _
  | ⟨5, _⟩ => exact rd_rows harg9 x8 5 256 rfl _
  | ⟨6, _⟩ => exact rd_rows harg9 x8 6 384 rfl _
  | ⟨7, _⟩ => exact rd_rows harg9 x8 7 384 rfl _

theorem list21 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11).2.2.2.2.2.2.2.2.2.1 = slabList (cslabs (Scalar.ofBits .f32 0xBF800000#32) (fun j : Fin 8 => match j with
      | ⟨0, _⟩ => View.readAt (Elt Ideal) arg10.view (Rect.unit (s := S512x64) ![0, 0] S128x64.size inb_S512x64_S128x64_0_0).toLoadRect (harg10.unread x9)
      | ⟨1, _⟩ => View.readAt (Elt Ideal) arg10.view (Rect.unit (s := S512x64) ![0, 0] S128x64.size inb_S512x64_S128x64_0_0).toLoadRect (harg10.unread x9)
      | ⟨2, _⟩ => View.readAt (Elt Ideal) arg10.view (Rect.unit (s := S512x64) ![128, 0] S128x64.size inb_S512x64_S128x64_128_0).toLoadRect (harg10.unread x9)
      | ⟨3, _⟩ => View.readAt (Elt Ideal) arg10.view (Rect.unit (s := S512x64) ![128, 0] S128x64.size inb_S512x64_S128x64_128_0).toLoadRect (harg10.unread x9)
      | ⟨4, _⟩ => View.readAt (Elt Ideal) arg10.view (Rect.unit (s := S512x64) ![256, 0] S128x64.size inb_S512x64_S128x64_256_0).toLoadRect (harg10.unread x9)
      | ⟨5, _⟩ => View.readAt (Elt Ideal) arg10.view (Rect.unit (s := S512x64) ![256, 0] S128x64.size inb_S512x64_S128x64_256_0).toLoadRect (harg10.unread x9)
      | ⟨6, _⟩ => View.readAt (Elt Ideal) arg10.view (Rect.unit (s := S512x64) ![384, 0] S128x64.size inb_S512x64_S128x64_384_0).toLoadRect (harg10.unread x9)
      | ⟨7, _⟩ => View.readAt (Elt Ideal) arg10.view (Rect.unit (s := S512x64) ![384, 0] S128x64.size inb_S512x64_S128x64_384_0).toLoadRect (harg10.unread x9))) := by
  unfold kernelRun0_A
  dsimp only
  rfl

theorem out21 (c : Dev nD) (i : grid0.Coords) (arg1 : Memref sig .tc .vmem S1x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S256x512 .f32) (harg11 : arg11.IsWhole) (arg12 : Memref sig .tc .vmem S16x4096 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S8x128x256 .bf16) (harg15 : arg15.IsWhole) (arg16 : Memref sig .tc .vmem S8x128x256 .bf16) (harg16 : arg16.IsWhole) (arg17 : Memref sig .tc .vmem S1x2048 .f32) (harg17 : arg17.IsWhole) (arg18 : Memref sig .tc .vmem S1x2048 .f32) (harg18 : arg18.IsWhole) (arg19 : Memref sig .tc .vmem S8x128x256 .bf16) (harg19 : arg19.IsWhole) (arg20 : Memref sig .tc .vmem S8x128x256 .bf16) (harg20 : arg20.IsWhole) (arg21 : Memref sig .tc .vmem S8x128x256 .bf16) (harg21 : arg21.IsWhole) (arg22 : Memref sig .tc .vmem S8x128x256 .bf16) (harg22 : arg22.IsWhole) (arg23 : Memref sig .tc .vmem S256x512 .f32) (harg23 : arg23.IsWhole) (arg24 : Memref sig .tc .vmem S16x4096 .f32) (harg24 : arg24.IsWhole) (arg25 : Memref sig .tc .vmem S8x256x256 .f32) (harg25 : arg25.IsWhole) (arg26 : Memref sig .tc .vmem S8x256x256 .f32) (harg26 : arg26.IsWhole) (arg27 : Memref sig .tc .vmem S16x2048 .f32) (harg27 : arg27.IsWhole) (arg28 : Memref sig .tc .vmem S16x2048 .f32) (harg28 : arg28.IsWhole) (hc0 : cond0_0 i)
    (x0 : Vec Ideal S1x2048 .f32) (x1 : Vec Ideal S1x2048 .f32) (x2 : Vec Ideal S1x2048 .f32) (x3 : Vec Ideal S1x2048 .f32) (x4 : Vec Ideal S1x2048 .f32) (x5 : Vec Ideal S1x2048 .f32) (x6 : Vec Ideal S16x2048 .f32) (x7 : Vec Ideal S16x2048 .f32) (x8 : Vec Ideal S512x64 .f32) (x9 : Vec Ideal S512x64 .f32) (x10 : Vec Ideal S256x512 .f32) (x11 : Vec Ideal S16x4096 .f32)  :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 = View.canon (slabList (cslabs (Scalar.ofBits .f32 0xBF800000#32) (rows x9))) := by
  unfold out0_A_21
  rw [View.read_writes_junk_eq_canon, list21]
  refine congrArg (fun f => View.canon (slabList (cslabs _ f))) (funext fun j => ?_)
  match j with
  | ⟨0, _⟩ => exact rd_rows harg10 x9 0 0 rfl _
  | ⟨1, _⟩ => exact rd_rows harg10 x9 1 0 rfl _
  | ⟨2, _⟩ => exact rd_rows harg10 x9 2 128 rfl _
  | ⟨3, _⟩ => exact rd_rows harg10 x9 3 128 rfl _
  | ⟨4, _⟩ => exact rd_rows harg10 x9 4 256 rfl _
  | ⟨5, _⟩ => exact rd_rows harg10 x9 5 256 rfl _
  | ⟨6, _⟩ => exact rd_rows harg10 x9 6 384 rfl _
  | ⟨7, _⟩ => exact rd_rows harg10 x9 7 384 rfl _

end Cert.Kernel5Ideal.Setup

end
-- ==== Proof.SetupArray.lean ====
module

public import proofs.«01_k».proof.Proof.SetupOut
public import Idealize.ShloMosaic.Lib.Pointwise

/-!
The arrays the set-up call leaves, as functions of its arguments: the discretised eigenvalues of both directions, and
the slabs of the input and of the output weights.
-/

@[expose] public section

set_option maxRecDepth 16384

noncomputable section

namespace Cert.Kernel5Ideal.Setup

open Cert.Kernel5Ideal Cert.Kernel5Ideal.Gen Idealize.ShloMosaic Idealize.ShloMosaic.TcCoe Idealize.SL.Sem Cert.Setup

section

variable {α : Type} (x : S1x32x64.Idx → α) (y : S1x32.Idx → α) (w : S1x32x64x16.Idx → α) (v : S1x32x16x64.Idx → α)

/-- The states in one row. -/
def flat : S1x2048.Idx → α := shapeCast S1x2048 (shapeCast S32x64 x shapeCasts_S1x32x64_S32x64) shapeCasts_S32x64_S1x2048

theorem flat_at (n : Fin 2048) (g : Fin 32) (s : Fin 64) (hn : n.val = 64 * g.val + s.val) : flat x (ix2 (0 : Fin 1) n) = x (ix3 (0 : Fin 1) g s) := by
  refine (shapeCast_apply _ shapeCasts_S32x64_S1x2048 (ix2 (0 : Fin 1) n) (ix2 g s) ?_).trans (ValueIdx.shapeCast_1ab_ab_apply x _ g s)
  rw [Shape.rowMajor_val_two, Shape.rowMajor_val_two]
  show g.val * 64 + s.val = 0 * 2048 + n.val
  omega

/-- A value of a group, repeated for its states, in one row. -/
def flatStep : S1x2048.Idx → α := shapeCast S1x2048 (shapeCast S2048
  (broadcastInDim S32x64 ![0] bcast_S32_S32x64_0 (shapeCast S32 y shapeCasts_S1x32_S32)) shapeCasts_S32x64_S2048) shapeCasts_S2048_S1x2048

theorem flatStep_at (n : Fin 2048) (g : Fin 32) (s : Fin 64) (hn : n.val = 64 * g.val + s.val) : flatStep y (ix2 (0 : Fin 1) n) = y (ix2 (0 : Fin 1) g) := by
  refine (shapeCast_apply _ shapeCasts_S2048_S1x2048 (ix2 (0 : Fin 1) n) (ix1 n) ?_).trans ?_
  · rw [Shape.rowMajor_val_one, Shape.rowMajor_val_two]
    show n.val = 0 * 2048 + n.val
    omega
  refine (shapeCast_apply _ shapeCasts_S32x64_S2048 (ix1 n) (ix2 g s) ?_).trans ?_
  · rw [Shape.rowMajor_val_one, Shape.rowMajor_val_two]
    show g.val * 64 + s.val = n.val
    omega
  refine (broadcastInDim_apply _ bcast_S32_S32x64_0 _ (ix2 g s) (ix1 g) (fun a => match a with
    | ⟨0, _⟩ => by show g.val = if (32 : Nat) = 1 then 0 else g.val; rw [if_neg (by decide)])).trans ?_
  exact ValueIdx.shapeCast_1a_a_apply y _ g

/-- The input weights, a channel of the group to a row. -/
def flatIn : S16x2048.Idx → α := transpose S16x2048 [1, 0]
  (shapeCast S2048x16 (shapeCast S32x64x16 w shapeCasts_S1x32x64x16_S32x64x16) shapeCasts_S32x64x16_S2048x16) transposes_S2048x16_S16x2048_1_0

theorem flatIn_at (q : Fin 16) (n : Fin 2048) (g : Fin 32) (s : Fin 64) (hn : n.val = 64 * g.val + s.val) :
    flatIn w (ix2 q n) = w (ix4 (0 : Fin 1) g s q) := by
  refine (transpose_apply [1, 0] _ transposes_S2048x16_S16x2048_1_0 (ix2 q n) (ix2 n q) (fun a => match a with
    | ⟨0, _⟩ => rfl
    | ⟨1, _⟩ => rfl)).trans ?_
  refine (shapeCast_apply _ shapeCasts_S32x64x16_S2048x16 (ix2 n q) (ix3 g s q) ?_).trans (ValueIdx.shapeCast_1abc_abc_apply w _ g s q)
  rw [Shape.rowMajor_val_three, Shape.rowMajor_val_two]
  show (g.val * 64 + s.val) * 16 + q.val = n.val * 16 + q.val
  omega

/-- The output weights, a channel to a row. -/
def flatOut : S512x64.Idx → α := shapeCast S512x64 (shapeCast S32x16x64 v shapeCasts_S1x32x16x64_S32x16x64) shapeCasts_S32x16x64_S512x64

theorem flatOut_at (n : Fin 512) (s : Fin 64) (g : Fin 32) (c : Fin 16) (hn : n.val = 16 * g.val + c.val) :
    flatOut v (ix2 n s) = v (ix4 (0 : Fin 1) g c s) := by
  refine (shapeCast_apply _ shapeCasts_S32x16x64_S512x64 (ix2 n s) (ix3 g c s) ?_).trans (ValueIdx.shapeCast_1abc_abc_apply v _ g c s)
  rw [Shape.rowMajor_val_three, Shape.rowMajor_val_two]
  show (g.val * 16 + c.val) * 64 + s.val = n.val * 64 + s.val
  omega

end

theorem row_form (i : S1x2048.Idx) : ∃ n : Fin 2048, i = ix2 (0 : Fin 1) n := by
  refine ⟨i 1, funext fun a => ?_⟩
  match a with
  | ⟨0, _⟩ =>
    refine Fin.ext ?_
    have h : (i 0).val < 1 := (i 0).isLt
    show (i 0).val = 0
    omega
  | ⟨1, _⟩ => rfl

theorem ofBits_neg_one : Ideal.ofBits .f32 0xBF800000#32 = ((-1 : ℝ) : EReal) := by
  simp [Ideal.ofBits, Ideal.ieee, -EReal.coe_mul]
  norm_num

theorem times_one (x : EReal) : FloatOps.mulf (F := Ideal) (φ := .f32) x (Scalar.ofBits .f32 0x3F800000#32) = x := by
  pointwise

theorem times_neg_one (x : EReal) : FloatOps.mulf (F := Ideal) (φ := .f32) x (Scalar.ofBits .f32 0xBF800000#32) = -x := by
  show x * Ideal.ofBits .f32 0xBF800000#32 = -x
  rw [ofBits_neg_one, EReal.coe_neg, EReal.coe_one, mul_neg, mul_one]

variable (m : (ℓ : Loc nD τ sig) → Buf (Elt Ideal) ℓ) (c : Dev nD)

theorem in0 : (V m c main_v10 : S1x2048.Idx → EReal) = flat (m ((c : Thread nD τ).loc main_arg0)) := by
  unfold flat
  simp only [V, hostOps0]
  after_results_simp
  rfl

theorem idx0 : ∀ t : Fin cfg0.N, ∀ a, win0_0.index t a = 0 := (by decide +kernel : ∀ t : Fin grid0.N, ∀ a, win0_0.index t a = 0)

theorem blk0 (t : Fin cfg0.N) : (iblk m c 0 t : S1x2048.Idx → EReal) = flat (m ((c : Thread nD τ).loc main_arg0)) := by
  rw [← in0 m c]
  funext j
  show V m c main_v10 ((win0_0.rect t).idx j) = _
  refine congrArg _ (funext fun a => Fin.ext ?_)
  show win0_0.index t a * _ + 1 * (j a).val = (j a).val
  rw [idx0 t a]; omega

theorem in1 : (V m c main_v12 : S1x2048.Idx → EReal) = flat (m ((c : Thread nD τ).loc main_arg1)) := by
  unfold flat
  simp only [V, hostOps0]
  after_results_simp
  rfl

theorem idx1 : ∀ t : Fin cfg0.N, ∀ a, win0_1.index t a = 0 := (by decide +kernel : ∀ t : Fin grid0.N, ∀ a, win0_1.index t a = 0)

theorem blk1 (t : Fin cfg0.N) : (iblk m c 1 t : S1x2048.Idx → EReal) = flat (m ((c : Thread nD τ).loc main_arg1)) := by
  rw [← in1 m c]
  funext j
  show V m c main_v12 ((win0_1.rect t).idx j) = _
  refine congrArg _ (funext fun a => Fin.ext ?_)
  show win0_1.index t a * _ + 1 * (j a).val = (j a).val
  rw [idx1 t a]; omega

theorem in2 : (V m c main_v16 : S1x2048.Idx → EReal) = flatStep (m ((c : Thread nD τ).loc main_arg2)) := by
  unfold flatStep
  simp only [V, hostOps0]
  after_results_simp
  rfl

theorem idx2 : ∀ t : Fin cfg0.N, ∀ a, win0_2.index t a = 0 := (by decide +kernel : ∀ t : Fin grid0.N, ∀ a, win0_2.index t a = 0)

theorem blk2 (t : Fin cfg0.N) : (iblk m c 2 t : S1x2048.Idx → EReal) = flatStep (m ((c : Thread nD τ).loc main_arg2)) := by
  rw [← in2 m c]
  funext j
  show V m c main_v16 ((win0_2.rect t).idx j) = _
  refine congrArg _ (funext fun a => Fin.ext ?_)
  show win0_2.index t a * _ + 1 * (j a).val = (j a).val
  rw [idx2 t a]; omega

theorem in3 : (V m c main_v18 : S1x2048.Idx → EReal) = flat (m ((c : Thread nD τ).loc main_arg3)) := by
  unfold flat
  simp only [V, hostOps0]
  after_results_simp
  rfl

theorem idx3 : ∀ t : Fin cfg0.N, ∀ a, win0_3.index t a = 0 := (by decide +kernel : ∀ t : Fin grid0.N, ∀ a, win0_3.index t a = 0)

theorem blk3 (t : Fin cfg0.N) : (iblk m c 3 t : S1x2048.Idx → EReal) = flat (m ((c : Thread nD τ).loc main_arg3)) := by
  rw [← in3 m c]
  funext j
  show V m c main_v18 ((win0_3.rect t).idx j) = _
  refine congrArg _ (funext fun a => Fin.ext ?_)
  show win0_3.index t a * _ + 1 * (j a).val = (j a).val
  rw [idx3 t a]; omega

theorem in4 : (V m c main_v20 : S1x2048.Idx → EReal) = flat (m ((c : Thread nD τ).loc main_arg4)) := by
  unfold flat
  simp only [V, hostOps0]
  after_results_simp
  rfl

theorem idx4 : ∀ t : Fin cfg0.N, ∀ a, win0_4.index t a = 0 := (by decide +kernel : ∀ t : Fin grid0.N, ∀ a, win0_4.index t a = 0)

theorem blk4 (t : Fin cfg0.N) : (iblk m c 4 t : S1x2048.Idx → EReal) = flat (m ((c : Thread nD τ).loc main_arg4)) := by
  rw [← in4 m c]
  funext j
  show V m c main_v20 ((win0_4.rect t).idx j) = _
  refine congrArg _ (funext fun a => Fin.ext ?_)
  show win0_4.index t a * _ + 1 * (j a).val = (j a).val
  rw [idx4 t a]; omega

theorem in5 : (V m c main_v24 : S1x2048.Idx → EReal) = flatStep (m ((c : Thread nD τ).loc main_arg5)) := by
  unfold flatStep
  simp only [V, hostOps0]
  after_results_simp
  rfl

theorem idx5 : ∀ t : Fin cfg0.N, ∀ a, win0_5.index t a = 0 := (by decide +kernel : ∀ t : Fin grid0.N, ∀ a, win0_5.index t a = 0)

theorem blk5 (t : Fin cfg0.N) : (iblk m c 5 t : S1x2048.Idx → EReal) = flatStep (m ((c : Thread nD τ).loc main_arg5)) := by
  rw [← in5 m c]
  funext j
  show V m c main_v24 ((win0_5.rect t).idx j) = _
  refine congrArg _ (funext fun a => Fin.ext ?_)
  show win0_5.index t a * _ + 1 * (j a).val = (j a).val
  rw [idx5 t a]; omega

theorem in6 : (V m c main_v2 : S16x2048.Idx → EReal) = flatIn (m ((c : Thread nD τ).loc main_arg6)) := by
  unfold flatIn
  simp only [V, hostOps0]
  after_results_simp
  rfl

theorem idx6 : ∀ t : Fin cfg0.N, ∀ a, win0_6.index t a = 0 := (by decide +kernel : ∀ t : Fin grid0.N, ∀ a, win0_6.index t a = 0)

theorem blk6 (t : Fin cfg0.N) : (iblk m c 6 t : S16x2048.Idx → EReal) = flatIn (m ((c : Thread nD τ).loc main_arg6)) := by
  rw [← in6 m c]
  funext j
  show V m c main_v2 ((win0_6.rect t).idx j) = _
  refine congrArg _ (funext fun a => Fin.ext ?_)
  show win0_6.index t a * _ + 1 * (j a).val = (j a).val
  rw [idx6 t a]; omega

theorem in7 : (V m c main_v5 : S16x2048.Idx → EReal) = flatIn (m ((c : Thread nD τ).loc main_arg7)) := by
  unfold flatIn
  simp only [V, hostOps0]
  after_results_simp
  rfl

theorem idx7 : ∀ t : Fin cfg0.N, ∀ a, win0_7.index t a = 0 := (by decide +kernel : ∀ t : Fin grid0.N, ∀ a, win0_7.index t a = 0)

theorem blk7 (t : Fin cfg0.N) : (iblk m c 7 t : S16x2048.Idx → EReal) = flatIn (m ((c : Thread nD τ).loc main_arg7)) := by
  rw [← in7 m c]
  funext j
  show V m c main_v5 ((win0_7.rect t).idx j) = _
  refine congrArg _ (funext fun a => Fin.ext ?_)
  show win0_7.index t a * _ + 1 * (j a).val = (j a).val
  rw [idx7 t a]; omega

theorem in8 : (V m c main_v26 : S512x64.Idx → EReal) = flatOut (m ((c : Thread nD τ).loc main_arg8)) := by
  unfold flatOut
  simp only [V, hostOps0]
  after_results_simp
  rfl

theorem idx8 : ∀ t : Fin cfg0.N, ∀ a, win0_8.index t a = 0 := (by decide +kernel : ∀ t : Fin grid0.N, ∀ a, win0_8.index t a = 0)

theorem blk8 (t : Fin cfg0.N) : (iblk m c 8 t : S512x64.Idx → EReal) = flatOut (m ((c : Thread nD τ).loc main_arg8)) := by
  rw [← in8 m c]
  funext j
  show V m c main_v26 ((win0_8.rect t).idx j) = _
  refine congrArg _ (funext fun a => Fin.ext ?_)
  show win0_8.index t a * _ + 1 * (j a).val = (j a).val
  rw [idx8 t a]; omega

theorem in9 : (V m c main_v28 : S512x64.Idx → EReal) = flatOut (m ((c : Thread nD τ).loc main_arg9)) := by
  unfold flatOut
  simp only [V, hostOps0]
  after_results_simp
  rfl

theorem idx9 : ∀ t : Fin cfg0.N, ∀ a, win0_9.index t a = 0 := (by decide +kernel : ∀ t : Fin grid0.N, ∀ a, win0_9.index t a = 0)

theorem blk9 (t : Fin cfg0.N) : (iblk m c 9 t : S512x64.Idx → EReal) = flatOut (m ((c : Thread nD τ).loc main_arg9)) := by
  rw [← in9 m c]
  funext j
  show V m c main_v28 ((win0_9.rect t).idx j) = _
  refine congrArg _ (funext fun a => Fin.ext ?_)
  show win0_9.index t a * _ + 1 * (j a).val = (j a).val
  rw [idx9 t a]; omega

/-- What output 0 is shown to hold. -/
def result12 : Buf (Elt Ideal) ((c : Thread nD τ).loc main_v29_0) := Cert.Reference5Ideal.Read.val_main_v68 (F := Ideal) (m ((c : Thread nD τ).loc main_arg0)) (m ((c : Thread nD τ).loc main_arg1)) (m ((c : Thread nD τ).loc main_arg2))

theorem left12 (t : Fin cfg0.N) : (outsAt0 m c t).1 = result12 m c := by
  unfold outsAt0 result12
  dsimp only
  rw [out12, blk0 m c t, blk1 m c t, blk2 m c t]
  rw [pay6_eq]
  funext i
  obtain ⟨n, rfl⟩ := row_form i
  have hn := n.isLt
  have e : n.val = 64 * (⟨n.val / 64, by omega⟩ : Fin 32).val + (⟨n.val % 64, by omega⟩ : Fin 64).val := by dsimp only; omega
  refine Eq.trans ?_ (v68_at (m ((c : Thread nD τ).loc main_arg0)) (m ((c : Thread nD τ).loc main_arg1)) (m ((c : Thread nD τ).loc main_arg2)) n ⟨n.val / 64, by omega⟩ ⟨n.val % 64, by omega⟩ e).symm
  show lbre (flat (m ((c : Thread nD τ).loc main_arg0)) (ix2 (0 : Fin 1) n)) (flat (m ((c : Thread nD τ).loc main_arg1)) (ix2 (0 : Fin 1) n)) (flatStep (m ((c : Thread nD τ).loc main_arg2)) (ix2 (0 : Fin 1) n)) = _
  rw [flat_at _ n _ _ e, flat_at _ n _ _ e, flatStep_at _ n _ _ e]

theorem idx12 : ∀ t : Fin cfg0.N, ∀ a, win0_12.index t a = 0 := (by decide +kernel : ∀ t : Fin grid0.N, ∀ a, win0_12.index t a = 0)

theorem rect12 (t : Fin cfg0.N) (j : S1x2048.Idx) : (win0_12.rect t).idx j = j := by
  refine funext fun a => Fin.ext ?_
  show win0_12.index t a * _ + 1 * (j a).val = (j a).val
  rw [idx12 t a]; omega

theorem flushed12 (t : Fin cfg0.N) : (dats m 0 c).flushed 12 t = (win0_12.blk t).view.read (Elt Ideal) (result12 m c) := by
  funext j
  show (dats m 0 c).after 12 t j = result12 m c ((win0_12.rect t).idx j)
  rw [after0_12, left12, rect12]

theorem mem12 (t : Fin cfg0.N) (i : S1x2048.Idx) : i ∈ ((cfg0.win 12).blk t).view.set := by
  show i ∈ ((View.whole main_v29_0).slice (win0_12.rect t)).set
  rw [View.set_slice_whole, Rect.mem_set_unit]
  intro a
  show win0_12.index t a * S1x2048.size a ≤ (i a).val ∧ (i a).val < win0_12.index t a * S1x2048.size a + S1x2048.size a
  rw [idx12, Nat.zero_mul, Nat.zero_add]
  exact ⟨Nat.zero_le _, (i a).isLt⟩

theorem cover12 (i : S1x2048.Idx) : ∃ t : Fin cfg0.N, (cfg0.win 12).flush t = true ∧ i ∈ ((cfg0.win 12).blk t).view.set :=
  ⟨⟨0, by show 0 < grid0.N; rw [N_0]; decide⟩, flush0_12 _, mem12 _ i⟩

theorem final12 : (dats m 0 c).arrAt 12 cfg0.N = result12 m c :=
  (dats m 0 c).arrAt_eq_of_cover 12 (result12 m c) (fun t _ => flushed12 m c t) cover12

/-- What output 1 is shown to hold. -/
def result13 : Buf (Elt Ideal) ((c : Thread nD τ).loc main_v29_1) := Cert.Reference5Ideal.Read.val_main_v69 (F := Ideal) (m ((c : Thread nD τ).loc main_arg0)) (m ((c : Thread nD τ).loc main_arg1)) (m ((c : Thread nD τ).loc main_arg2))

theorem left13 (t : Fin cfg0.N) : (outsAt0 m c t).2.1 = result13 m c := by
  unfold outsAt0 result13
  dsimp only
  rw [out13, blk0 m c t, blk1 m c t, blk2 m c t]
  rw [pay7_eq]
  funext i
  obtain ⟨n, rfl⟩ := row_form i
  have hn := n.isLt
  have e : n.val = 64 * (⟨n.val / 64, by omega⟩ : Fin 32).val + (⟨n.val % 64, by omega⟩ : Fin 64).val := by dsimp only; omega
  refine Eq.trans ?_ (v69_at (m ((c : Thread nD τ).loc main_arg0)) (m ((c : Thread nD τ).loc main_arg1)) (m ((c : Thread nD τ).loc main_arg2)) n ⟨n.val / 64, by omega⟩ ⟨n.val % 64, by omega⟩ e).symm
  show lbim (flat (m ((c : Thread nD τ).loc main_arg0)) (ix2 (0 : Fin 1) n)) (flat (m ((c : Thread nD τ).loc main_arg1)) (ix2 (0 : Fin 1) n)) (flatStep (m ((c : Thread nD τ).loc main_arg2)) (ix2 (0 : Fin 1) n)) = _
  rw [flat_at _ n _ _ e, flat_at _ n _ _ e, flatStep_at _ n _ _ e]

theorem idx13 : ∀ t : Fin cfg0.N, ∀ a, win0_13.index t a = 0 := (by decide +kernel : ∀ t : Fin grid0.N, ∀ a, win0_13.index t a = 0)

theorem rect13 (t : Fin cfg0.N) (j : S1x2048.Idx) : (win0_13.rect t).idx j = j := by
  refine funext fun a => Fin.ext ?_
  show win0_13.index t a * _ + 1 * (j a).val = (j a).val
  rw [idx13 t a]; omega

theorem flushed13 (t : Fin cfg0.N) : (dats m 0 c).flushed 13 t = (win0_13.blk t).view.read (Elt Ideal) (result13 m c) := by
  funext j
  show (dats m 0 c).after 13 t j = result13 m c ((win0_13.rect t).idx j)
  rw [after0_13, left13, rect13]

theorem mem13 (t : Fin cfg0.N) (i : S1x2048.Idx) : i ∈ ((cfg0.win 13).blk t).view.set := by
  show i ∈ ((View.whole main_v29_1).slice (win0_13.rect t)).set
  rw [View.set_slice_whole, Rect.mem_set_unit]
  intro a
  show win0_13.index t a * S1x2048.size a ≤ (i a).val ∧ (i a).val < win0_13.index t a * S1x2048.size a + S1x2048.size a
  rw [idx13, Nat.zero_mul, Nat.zero_add]
  exact ⟨Nat.zero_le _, (i a).isLt⟩

theorem cover13 (i : S1x2048.Idx) : ∃ t : Fin cfg0.N, (cfg0.win 13).flush t = true ∧ i ∈ ((cfg0.win 13).blk t).view.set :=
  ⟨⟨0, by show 0 < grid0.N; rw [N_0]; decide⟩, flush0_13 _, mem13 _ i⟩

theorem final13 : (dats m 0 c).arrAt 13 cfg0.N = result13 m c :=
  (dats m 0 c).arrAt_eq_of_cover 13 (result13 m c) (fun t _ => flushed13 m c t) cover13

/-- What output 2 is shown to hold. -/
def result14 : Buf (Elt Ideal) ((c : Thread nD τ).loc main_v29_2) := Cert.Reference5Ideal.Read.val_main_v75 (F := Ideal) (m ((c : Thread nD τ).loc main_arg0)) (m ((c : Thread nD τ).loc main_arg1)) (m ((c : Thread nD τ).loc main_arg2)) (m ((c : Thread nD τ).loc main_arg6)) (m ((c : Thread nD τ).loc main_arg7))

theorem left14 (t : Fin cfg0.N) : (outsAt0 m c t).2.2.1 = result14 m c := by
  unfold outsAt0 result14
  dsimp only
  rw [out14, blk0 m c t, blk1 m c t, blk2 m c t, blk6 m c t, blk7 m c t]
  funext i
  obtain ⟨j, r, k, rfl⟩ : ∃ (j : Fin 8) (r : Fin 128) (k : Fin 256), i = ix3 j r k := ⟨i 0, i 1, i 2, eq_ix3 (n0 := 8) (n1 := 128) (n2 := 256) i⟩
  have hj := j.isLt
  have hk := k.isLt
  have e : 256 * j.val + k.val = 64 * (⟨(256 * j.val + k.val) / 64, by omega⟩ : Fin 32).val + (⟨(256 * j.val + k.val) % 64, by omega⟩ : Fin 64).val := by dsimp only; omega
  refine Eq.trans ?_ (v75_at (m ((c : Thread nD τ).loc main_arg0)) (m ((c : Thread nD τ).loc main_arg1)) (m ((c : Thread nD τ).loc main_arg2)) (m ((c : Thread nD τ).loc main_arg6)) (m ((c : Thread nD τ).loc main_arg7)) j r k ⟨(256 * j.val + k.val) / 64, by omega⟩ ⟨(256 * j.val + k.val) % 64, by omega⟩ ⟨r.val % 16, by omega⟩ e rfl).symm
  have e' : (⟨256 * j.val + k.val, by omega⟩ : Fin 2048).val = 64 * (⟨(256 * j.val + k.val) / 64, by omega⟩ : Fin 32).val + (⟨(256 * j.val + k.val) % 64, by omega⟩ : Fin 64).val := e
  refine (canon_slabs _ j r k).trans ((wslabs_at _ j r k ⟨r.val % 16, by omega⟩ rfl ⟨256 * j.val + k.val, by omega⟩ rfl).trans (congrArg (entry j.val r.val k.val) ?_))
  rw [pay12_apply, flat_at _ _ _ _ e', flat_at _ _ _ _ e', flatStep_at _ _ _ _ e', flatIn_at _ _ _ _ _ e', flatIn_at _ _ _ _ _ e']

theorem idx14 : ∀ t : Fin cfg0.N, ∀ a, win0_14.index t a = 0 := (by decide +kernel : ∀ t : Fin grid0.N, ∀ a, win0_14.index t a = 0)

theorem rect14 (t : Fin cfg0.N) (j : S8x128x256.Idx) : (win0_14.rect t).idx j = j := by
  refine funext fun a => Fin.ext ?_
  show win0_14.index t a * _ + 1 * (j a).val = (j a).val
  rw [idx14 t a]; omega

theorem flushed14 (t : Fin cfg0.N) : (dats m 0 c).flushed 14 t = (win0_14.blk t).view.read (Elt Ideal) (result14 m c) := by
  funext j
  show (dats m 0 c).after 14 t j = result14 m c ((win0_14.rect t).idx j)
  rw [after0_14, left14, rect14]

theorem mem14 (t : Fin cfg0.N) (i : S8x128x256.Idx) : i ∈ ((cfg0.win 14).blk t).view.set := by
  show i ∈ ((View.whole main_v29_2).slice (win0_14.rect t)).set
  rw [View.set_slice_whole, Rect.mem_set_unit]
  intro a
  show win0_14.index t a * S8x128x256.size a ≤ (i a).val ∧ (i a).val < win0_14.index t a * S8x128x256.size a + S8x128x256.size a
  rw [idx14, Nat.zero_mul, Nat.zero_add]
  exact ⟨Nat.zero_le _, (i a).isLt⟩

theorem cover14 (i : S8x128x256.Idx) : ∃ t : Fin cfg0.N, (cfg0.win 14).flush t = true ∧ i ∈ ((cfg0.win 14).blk t).view.set :=
  ⟨⟨0, by show 0 < grid0.N; rw [N_0]; decide⟩, flush0_14 _, mem14 _ i⟩

theorem final14 : (dats m 0 c).arrAt 14 cfg0.N = result14 m c :=
  (dats m 0 c).arrAt_eq_of_cover 14 (result14 m c) (fun t _ => flushed14 m c t) cover14

/-- What output 3 is shown to hold. -/
def result15 : Buf (Elt Ideal) ((c : Thread nD τ).loc main_v29_3) := Cert.Reference5Ideal.Read.val_main_v81 (F := Ideal) (m ((c : Thread nD τ).loc main_arg0)) (m ((c : Thread nD τ).loc main_arg1)) (m ((c : Thread nD τ).loc main_arg2)) (m ((c : Thread nD τ).loc main_arg6)) (m ((c : Thread nD τ).loc main_arg7))

theorem left15 (t : Fin cfg0.N) : (outsAt0 m c t).2.2.2.1 = result15 m c := by
  unfold outsAt0 result15
  dsimp only
  rw [out15, blk0 m c t, blk1 m c t, blk2 m c t, blk6 m c t, blk7 m c t]
  funext i
  obtain ⟨j, r, k, rfl⟩ : ∃ (j : Fin 8) (r : Fin 128) (k : Fin 256), i = ix3 j r k := ⟨i 0, i 1, i 2, eq_ix3 (n0 := 8) (n1 := 128) (n2 := 256) i⟩
  have hj := j.isLt
  have hk := k.isLt
  have e : 256 * j.val + k.val = 64 * (⟨(256 * j.val + k.val) / 64, by omega⟩ : Fin 32).val + (⟨(256 * j.val + k.val) % 64, by omega⟩ : Fin 64).val := by dsimp only; omega
  refine Eq.trans ?_ (v81_at (m ((c : Thread nD τ).loc main_arg0)) (m ((c : Thread nD τ).loc main_arg1)) (m ((c : Thread nD τ).loc main_arg2)) (m ((c : Thread nD τ).loc main_arg6)) (m ((c : Thread nD τ).loc main_arg7)) j r k ⟨(256 * j.val + k.val) / 64, by omega⟩ ⟨(256 * j.val + k.val) % 64, by omega⟩ ⟨r.val % 16, by omega⟩ e rfl).symm
  have e' : (⟨256 * j.val + k.val, by omega⟩ : Fin 2048).val = 64 * (⟨(256 * j.val + k.val) / 64, by omega⟩ : Fin 32).val + (⟨(256 * j.val + k.val) % 64, by omega⟩ : Fin 64).val := e
  refine (canon_slabs _ j r k).trans ((wslabs_at _ j r k ⟨r.val % 16, by omega⟩ rfl ⟨256 * j.val + k.val, by omega⟩ rfl).trans (congrArg (entry j.val r.val k.val) ?_))
  rw [pay13_apply, flat_at _ _ _ _ e', flat_at _ _ _ _ e', flatStep_at _ _ _ _ e', flatIn_at _ _ _ _ _ e', flatIn_at _ _ _ _ _ e']

theorem idx15 : ∀ t : Fin cfg0.N, ∀ a, win0_15.index t a = 0 := (by decide +kernel : ∀ t : Fin grid0.N, ∀ a, win0_15.index t a = 0)

theorem rect15 (t : Fin cfg0.N) (j : S8x128x256.Idx) : (win0_15.rect t).idx j = j := by
  refine funext fun a => Fin.ext ?_
  show win0_15.index t a * _ + 1 * (j a).val = (j a).val
  rw [idx15 t a]; omega

theorem flushed15 (t : Fin cfg0.N) : (dats m 0 c).flushed 15 t = (win0_15.blk t).view.read (Elt Ideal) (result15 m c) := by
  funext j
  show (dats m 0 c).after 15 t j = result15 m c ((win0_15.rect t).idx j)
  rw [after0_15, left15, rect15]

theorem mem15 (t : Fin cfg0.N) (i : S8x128x256.Idx) : i ∈ ((cfg0.win 15).blk t).view.set := by
  show i ∈ ((View.whole main_v29_3).slice (win0_15.rect t)).set
  rw [View.set_slice_whole, Rect.mem_set_unit]
  intro a
  show win0_15.index t a * S8x128x256.size a ≤ (i a).val ∧ (i a).val < win0_15.index t a * S8x128x256.size a + S8x128x256.size a
  rw [idx15, Nat.zero_mul, Nat.zero_add]
  exact ⟨Nat.zero_le _, (i a).isLt⟩

theorem cover15 (i : S8x128x256.Idx) : ∃ t : Fin cfg0.N, (cfg0.win 15).flush t = true ∧ i ∈ ((cfg0.win 15).blk t).view.set :=
  ⟨⟨0, by show 0 < grid0.N; rw [N_0]; decide⟩, flush0_15 _, mem15 _ i⟩

theorem final15 : (dats m 0 c).arrAt 15 cfg0.N = result15 m c :=
  (dats m 0 c).arrAt_eq_of_cover 15 (result15 m c) (fun t _ => flushed15 m c t) cover15

/-- What output 4 is shown to hold. -/
def result16 : Buf (Elt Ideal) ((c : Thread nD τ).loc main_v29_4) := Cert.Reference5Ideal.Read.val_main_v128 (F := Ideal) (m ((c : Thread nD τ).loc main_arg3)) (m ((c : Thread nD τ).loc main_arg4)) (m ((c : Thread nD τ).loc main_arg5))

theorem left16 (t : Fin cfg0.N) : (outsAt0 m c t).2.2.2.2.1 = result16 m c := by
  unfold outsAt0 result16
  dsimp only
  rw [out16, blk3 m c t, blk4 m c t, blk5 m c t]
  rw [v128_eq]
  rw [pay6_eq]
  funext i
  obtain ⟨n, rfl⟩ := row_form i
  have hn := n.isLt
  have e : n.val = 64 * (⟨n.val / 64, by omega⟩ : Fin 32).val + (⟨n.val % 64, by omega⟩ : Fin 64).val := by dsimp only; omega
  refine Eq.trans ?_ (v68_at (m ((c : Thread nD τ).loc main_arg3)) (m ((c : Thread nD τ).loc main_arg4)) (m ((c : Thread nD τ).loc main_arg5)) n ⟨n.val / 64, by omega⟩ ⟨n.val % 64, by omega⟩ e).symm
  show lbre (flat (m ((c : Thread nD τ).loc main_arg3)) (ix2 (0 : Fin 1) n)) (flat (m ((c : Thread nD τ).loc main_arg4)) (ix2 (0 : Fin 1) n)) (flatStep (m ((c : Thread nD τ).loc main_arg5)) (ix2 (0 : Fin 1) n)) = _
  rw [flat_at _ n _ _ e, flat_at _ n _ _ e, flatStep_at _ n _ _ e]

theorem idx16 : ∀ t : Fin cfg0.N, ∀ a, win0_16.index t a = 0 := (by decide +kernel : ∀ t : Fin grid0.N, ∀ a, win0_16.index t a = 0)

theorem rect16 (t : Fin cfg0.N) (j : S1x2048.Idx) : (win0_16.rect t).idx j = j := by
  refine funext fun a => Fin.ext ?_
  show win0_16.index t a * _ + 1 * (j a).val = (j a).val
  rw [idx16 t a]; omega

theorem flushed16 (t : Fin cfg0.N) : (dats m 0 c).flushed 16 t = (win0_16.blk t).view.read (Elt Ideal) (result16 m c) := by
  funext j
  show (dats m 0 c).after 16 t j = result16 m c ((win0_16.rect t).idx j)
  rw [after0_16, left16, rect16]

theorem mem16 (t : Fin cfg0.N) (i : S1x2048.Idx) : i ∈ ((cfg0.win 16).blk t).view.set := by
  show i ∈ ((View.whole main_v29_4).slice (win0_16.rect t)).set
  rw [View.set_slice_whole, Rect.mem_set_unit]
  intro a
  show win0_16.index t a * S1x2048.size a ≤ (i a).val ∧ (i a).val < win0_16.index t a * S1x2048.size a + S1x2048.size a
  rw [idx16, Nat.zero_mul, Nat.zero_add]
  exact ⟨Nat.zero_le _, (i a).isLt⟩

theorem cover16 (i : S1x2048.Idx) : ∃ t : Fin cfg0.N, (cfg0.win 16).flush t = true ∧ i ∈ ((cfg0.win 16).blk t).view.set :=
  ⟨⟨0, by show 0 < grid0.N; rw [N_0]; decide⟩, flush0_16 _, mem16 _ i⟩

theorem final16 : (dats m 0 c).arrAt 16 cfg0.N = result16 m c :=
  (dats m 0 c).arrAt_eq_of_cover 16 (result16 m c) (fun t _ => flushed16 m c t) cover16

/-- What output 5 is shown to hold. -/
def result17 : Buf (Elt Ideal) ((c : Thread nD τ).loc main_v29_5) := Cert.Reference5Ideal.Read.val_main_v129 (F := Ideal) (m ((c : Thread nD τ).loc main_arg3)) (m ((c : Thread nD τ).loc main_arg4)) (m ((c : Thread nD τ).loc main_arg5))

theorem left17 (t : Fin cfg0.N) : (outsAt0 m c t).2.2.2.2.2.1 = result17 m c := by
  unfold outsAt0 result17
  dsimp only
  rw [out17, blk3 m c t, blk4 m c t, blk5 m c t]
  rw [v129_eq]
  rw [pay7_eq]
  funext i
  obtain ⟨n, rfl⟩ := row_form i
  have hn := n.isLt
  have e : n.val = 64 * (⟨n.val / 64, by omega⟩ : Fin 32).val + (⟨n.val % 64, by omega⟩ : Fin 64).val := by dsimp only; omega
  refine Eq.trans ?_ (v69_at (m ((c : Thread nD τ).loc main_arg3)) (m ((c : Thread nD τ).loc main_arg4)) (m ((c : Thread nD τ).loc main_arg5)) n ⟨n.val / 64, by omega⟩ ⟨n.val % 64, by omega⟩ e).symm
  show lbim (flat (m ((c : Thread nD τ).loc main_arg3)) (ix2 (0 : Fin 1) n)) (flat (m ((c : Thread nD τ).loc main_arg4)) (ix2 (0 : Fin 1) n)) (flatStep (m ((c : Thread nD τ).loc main_arg5)) (ix2 (0 : Fin 1) n)) = _
  rw [flat_at _ n _ _ e, flat_at _ n _ _ e, flatStep_at _ n _ _ e]

theorem idx17 : ∀ t : Fin cfg0.N, ∀ a, win0_17.index t a = 0 := (by decide +kernel : ∀ t : Fin grid0.N, ∀ a, win0_17.index t a = 0)

theorem rect17 (t : Fin cfg0.N) (j : S1x2048.Idx) : (win0_17.rect t).idx j = j := by
  refine funext fun a => Fin.ext ?_
  show win0_17.index t a * _ + 1 * (j a).val = (j a).val
  rw [idx17 t a]; omega

theorem flushed17 (t : Fin cfg0.N) : (dats m 0 c).flushed 17 t = (win0_17.blk t).view.read (Elt Ideal) (result17 m c) := by
  funext j
  show (dats m 0 c).after 17 t j = result17 m c ((win0_17.rect t).idx j)
  rw [after0_17, left17, rect17]

theorem mem17 (t : Fin cfg0.N) (i : S1x2048.Idx) : i ∈ ((cfg0.win 17).blk t).view.set := by
  show i ∈ ((View.whole main_v29_5).slice (win0_17.rect t)).set
  rw [View.set_slice_whole, Rect.mem_set_unit]
  intro a
  show win0_17.index t a * S1x2048.size a ≤ (i a).val ∧ (i a).val < win0_17.index t a * S1x2048.size a + S1x2048.size a
  rw [idx17, Nat.zero_mul, Nat.zero_add]
  exact ⟨Nat.zero_le _, (i a).isLt⟩

theorem cover17 (i : S1x2048.Idx) : ∃ t : Fin cfg0.N, (cfg0.win 17).flush t = true ∧ i ∈ ((cfg0.win 17).blk t).view.set :=
  ⟨⟨0, by show 0 < grid0.N; rw [N_0]; decide⟩, flush0_17 _, mem17 _ i⟩

theorem final17 : (dats m 0 c).arrAt 17 cfg0.N = result17 m c :=
  (dats m 0 c).arrAt_eq_of_cover 17 (result17 m c) (fun t _ => flushed17 m c t) cover17

/-- What output 6 is shown to hold. -/
def result18 : Buf (Elt Ideal) ((c : Thread nD τ).loc main_v29_6) := Cert.Reference5Ideal.Read.val_main_v135 (F := Ideal) (m ((c : Thread nD τ).loc main_arg3)) (m ((c : Thread nD τ).loc main_arg4)) (m ((c : Thread nD τ).loc main_arg5)) (m ((c : Thread nD τ).loc main_arg6)) (m ((c : Thread nD τ).loc main_arg7))

theorem left18 (t : Fin cfg0.N) : (outsAt0 m c t).2.2.2.2.2.2.1 = result18 m c := by
  unfold outsAt0 result18
  dsimp only
  rw [out18, blk3 m c t, blk4 m c t, blk5 m c t, blk6 m c t, blk7 m c t]
  rw [v135_eq]
  funext i
  obtain ⟨j, r, k, rfl⟩ : ∃ (j : Fin 8) (r : Fin 128) (k : Fin 256), i = ix3 j r k := ⟨i 0, i 1, i 2, eq_ix3 (n0 := 8) (n1 := 128) (n2 := 256) i⟩
  have hj := j.isLt
  have hk := k.isLt
  have e : 256 * j.val + k.val = 64 * (⟨(256 * j.val + k.val) / 64, by omega⟩ : Fin 32).val + (⟨(256 * j.val + k.val) % 64, by omega⟩ : Fin 64).val := by dsimp only; omega
  refine Eq.trans ?_ (v75_at (m ((c : Thread nD τ).loc main_arg3)) (m ((c : Thread nD τ).loc main_arg4)) (m ((c : Thread nD τ).loc main_arg5)) (m ((c : Thread nD τ).loc main_arg6)) (m ((c : Thread nD τ).loc main_arg7)) j r k ⟨(256 * j.val + k.val) / 64, by omega⟩ ⟨(256 * j.val + k.val) % 64, by omega⟩ ⟨r.val % 16, by omega⟩ e rfl).symm
  have e' : (⟨256 * j.val + k.val, by omega⟩ : Fin 2048).val = 64 * (⟨(256 * j.val + k.val) / 64, by omega⟩ : Fin 32).val + (⟨(256 * j.val + k.val) % 64, by omega⟩ : Fin 64).val := e
  refine (canon_slabs _ j r k).trans ((wslabs_at _ j r k ⟨r.val % 16, by omega⟩ rfl ⟨256 * j.val + k.val, by omega⟩ rfl).trans (congrArg (entry j.val r.val k.val) ?_))
  rw [pay12_apply, flat_at _ _ _ _ e', flat_at _ _ _ _ e', flatStep_at _ _ _ _ e', flatIn_at _ _ _ _ _ e', flatIn_at _ _ _ _ _ e']

theorem idx18 : ∀ t : Fin cfg0.N, ∀ a, win0_18.index t a = 0 := (by decide +kernel : ∀ t : Fin grid0.N, ∀ a, win0_18.index t a = 0)

theorem rect18 (t : Fin cfg0.N) (j : S8x128x256.Idx) : (win0_18.rect t).idx j = j := by
  refine funext fun a => Fin.ext ?_
  show win0_18.index t a * _ + 1 * (j a).val = (j a).val
  rw [idx18 t a]; omega

theorem flushed18 (t : Fin cfg0.N) : (dats m 0 c).flushed 18 t = (win0_18.blk t).view.read (Elt Ideal) (result18 m c) := by
  funext j
  show (dats m 0 c).after 18 t j = result18 m c ((win0_18.rect t).idx j)
  rw [after0_18, left18, rect18]

theorem mem18 (t : Fin cfg0.N) (i : S8x128x256.Idx) : i ∈ ((cfg0.win 18).blk t).view.set := by
  show i ∈ ((View.whole main_v29_6).slice (win0_18.rect t)).set
  rw [View.set_slice_whole, Rect.mem_set_unit]
  intro a
  show win0_18.index t a * S8x128x256.size a ≤ (i a).val ∧ (i a).val < win0_18.index t a * S8x128x256.size a + S8x128x256.size a
  rw [idx18, Nat.zero_mul, Nat.zero_add]
  exact ⟨Nat.zero_le _, (i a).isLt⟩

theorem cover18 (i : S8x128x256.Idx) : ∃ t : Fin cfg0.N, (cfg0.win 18).flush t = true ∧ i ∈ ((cfg0.win 18).blk t).view.set :=
  ⟨⟨0, by show 0 < grid0.N; rw [N_0]; decide⟩, flush0_18 _, mem18 _ i⟩

theorem final18 : (dats m 0 c).arrAt 18 cfg0.N = result18 m c :=
  (dats m 0 c).arrAt_eq_of_cover 18 (result18 m c) (fun t _ => flushed18 m c t) cover18

/-- What output 7 is shown to hold. -/
def result19 : Buf (Elt Ideal) ((c : Thread nD τ).loc main_v29_7) := Cert.Reference5Ideal.Read.val_main_v141 (F := Ideal) (m ((c : Thread nD τ).loc main_arg3)) (m ((c : Thread nD τ).loc main_arg4)) (m ((c : Thread nD τ).loc main_arg5)) (m ((c : Thread nD τ).loc main_arg6)) (m ((c : Thread nD τ).loc main_arg7))

theorem left19 (t : Fin cfg0.N) : (outsAt0 m c t).2.2.2.2.2.2.2.1 = result19 m c := by
  unfold outsAt0 result19
  dsimp only
  rw [out19, blk3 m c t, blk4 m c t, blk5 m c t, blk6 m c t, blk7 m c t]
  rw [v141_eq]
  funext i
  obtain ⟨j, r, k, rfl⟩ : ∃ (j : Fin 8) (r : Fin 128) (k : Fin 256), i = ix3 j r k := ⟨i 0, i 1, i 2, eq_ix3 (n0 := 8) (n1 := 128) (n2 := 256) i⟩
  have hj := j.isLt
  have hk := k.isLt
  have e : 256 * j.val + k.val = 64 * (⟨(256 * j.val + k.val) / 64, by omega⟩ : Fin 32).val + (⟨(256 * j.val + k.val) % 64, by omega⟩ : Fin 64).val := by dsimp only; omega
  refine Eq.trans ?_ (v81_at (m ((c : Thread nD τ).loc main_arg3)) (m ((c : Thread nD τ).loc main_arg4)) (m ((c : Thread nD τ).loc main_arg5)) (m ((c : Thread nD τ).loc main_arg6)) (m ((c : Thread nD τ).loc main_arg7)) j r k ⟨(256 * j.val + k.val) / 64, by omega⟩ ⟨(256 * j.val + k.val) % 64, by omega⟩ ⟨r.val % 16, by omega⟩ e rfl).symm
  have e' : (⟨256 * j.val + k.val, by omega⟩ : Fin 2048).val = 64 * (⟨(256 * j.val + k.val) / 64, by omega⟩ : Fin 32).val + (⟨(256 * j.val + k.val) % 64, by omega⟩ : Fin 64).val := e
  refine (canon_slabs _ j r k).trans ((wslabs_at _ j r k ⟨r.val % 16, by omega⟩ rfl ⟨256 * j.val + k.val, by omega⟩ rfl).trans (congrArg (entry j.val r.val k.val) ?_))
  rw [pay13_apply, flat_at _ _ _ _ e', flat_at _ _ _ _ e', flatStep_at _ _ _ _ e', flatIn_at _ _ _ _ _ e', flatIn_at _ _ _ _ _ e']

theorem idx19 : ∀ t : Fin cfg0.N, ∀ a, win0_19.index t a = 0 := (by decide +kernel : ∀ t : Fin grid0.N, ∀ a, win0_19.index t a = 0)

theorem rect19 (t : Fin cfg0.N) (j : S8x128x256.Idx) : (win0_19.rect t).idx j = j := by
  refine funext fun a => Fin.ext ?_
  show win0_19.index t a * _ + 1 * (j a).val = (j a).val
  rw [idx19 t a]; omega

theorem flushed19 (t : Fin cfg0.N) : (dats m 0 c).flushed 19 t = (win0_19.blk t).view.read (Elt Ideal) (result19 m c) := by
  funext j
  show (dats m 0 c).after 19 t j = result19 m c ((win0_19.rect t).idx j)
  rw [after0_19, left19, rect19]

theorem mem19 (t : Fin cfg0.N) (i : S8x128x256.Idx) : i ∈ ((cfg0.win 19).blk t).view.set := by
  show i ∈ ((View.whole main_v29_7).slice (win0_19.rect t)).set
  rw [View.set_slice_whole, Rect.mem_set_unit]
  intro a
  show win0_19.index t a * S8x128x256.size a ≤ (i a).val ∧ (i a).val < win0_19.index t a * S8x128x256.size a + S8x128x256.size a
  rw [idx19, Nat.zero_mul, Nat.zero_add]
  exact ⟨Nat.zero_le _, (i a).isLt⟩

theorem cover19 (i : S8x128x256.Idx) : ∃ t : Fin cfg0.N, (cfg0.win 19).flush t = true ∧ i ∈ ((cfg0.win 19).blk t).view.set :=
  ⟨⟨0, by show 0 < grid0.N; rw [N_0]; decide⟩, flush0_19 _, mem19 _ i⟩

theorem final19 : (dats m 0 c).arrAt 19 cfg0.N = result19 m c :=
  (dats m 0 c).arrAt_eq_of_cover 19 (result19 m c) (fun t _ => flushed19 m c t) cover19

/-- What output 8 is shown to hold. -/
def result20 : Buf (Elt Ideal) ((c : Thread nD τ).loc main_v29_8) := Cert.Reference5Ideal.Read.val_main_v147 (F := Ideal) (m ((c : Thread nD τ).loc main_arg8))

theorem left20 (t : Fin cfg0.N) : (outsAt0 m c t).2.2.2.2.2.2.2.2.1 = result20 m c := by
  unfold outsAt0 result20
  dsimp only
  rw [out20, blk8 m c t]
  funext i
  obtain ⟨j, r, k, rfl⟩ : ∃ (j : Fin 8) (r : Fin 128) (k : Fin 256), i = ix3 j r k := ⟨i 0, i 1, i 2, eq_ix3 (n0 := 8) (n1 := 128) (n2 := 256) i⟩
  have hj := j.isLt
  have hr := r.isLt
  have e : 128 * (j.val / 2) + r.val = 16 * (⟨(128 * (j.val / 2) + r.val) / 16, by omega⟩ : Fin 32).val + (⟨(128 * (j.val / 2) + r.val) % 16, by omega⟩ : Fin 16).val := by dsimp only; omega
  refine Eq.trans ?_ (v147_at (m ((c : Thread nD τ).loc main_arg8)) j r k ⟨(128 * (j.val / 2) + r.val) / 16, by omega⟩ ⟨(128 * (j.val / 2) + r.val) % 16, by omega⟩ ⟨k.val % 64, by omega⟩ e rfl).symm
  refine (canon_slabs _ j r k).trans ((cslabs_at _ _ j r k ⟨k.val % 64, by omega⟩ rfl).trans (congrArg (entry j.val r.val k.val) ?_))
  refine (times_one _).trans ?_
  refine flatOut_at _ (⟨128 * (j.val / 2) + r.val, by omega⟩ : Fin 512) _ _ _ e

theorem idx20 : ∀ t : Fin cfg0.N, ∀ a, win0_20.index t a = 0 := (by decide +kernel : ∀ t : Fin grid0.N, ∀ a, win0_20.index t a = 0)

theorem rect20 (t : Fin cfg0.N) (j : S8x128x256.Idx) : (win0_20.rect t).idx j = j := by
  refine funext fun a => Fin.ext ?_
  show win0_20.index t a * _ + 1 * (j a).val = (j a).val
  rw [idx20 t a]; omega

theorem flushed20 (t : Fin cfg0.N) : (dats m 0 c).flushed 20 t = (win0_20.blk t).view.read (Elt Ideal) (result20 m c) := by
  funext j
  show (dats m 0 c).after 20 t j = result20 m c ((win0_20.rect t).idx j)
  rw [after0_20, left20, rect20]

theorem mem20 (t : Fin cfg0.N) (i : S8x128x256.Idx) : i ∈ ((cfg0.win 20).blk t).view.set := by
  show i ∈ ((View.whole main_v29_8).slice (win0_20.rect t)).set
  rw [View.set_slice_whole, Rect.mem_set_unit]
  intro a
  show win0_20.index t a * S8x128x256.size a ≤ (i a).val ∧ (i a).val < win0_20.index t a * S8x128x256.size a + S8x128x256.size a
  rw [idx20, Nat.zero_mul, Nat.zero_add]
  exact ⟨Nat.zero_le _, (i a).isLt⟩

theorem cover20 (i : S8x128x256.Idx) : ∃ t : Fin cfg0.N, (cfg0.win 20).flush t = true ∧ i ∈ ((cfg0.win 20).blk t).view.set :=
  ⟨⟨0, by show 0 < grid0.N; rw [N_0]; decide⟩, flush0_20 _, mem20 _ i⟩

theorem final20 : (dats m 0 c).arrAt 20 cfg0.N = result20 m c :=
  (dats m 0 c).arrAt_eq_of_cover 20 (result20 m c) (fun t _ => flushed20 m c t) cover20

/-- What output 9 is shown to hold. -/
def result21 : Buf (Elt Ideal) ((c : Thread nD τ).loc main_v29_9) := Cert.Reference5Ideal.Read.val_main_v154 (F := Ideal) (m ((c : Thread nD τ).loc main_arg9))

theorem left21 (t : Fin cfg0.N) : (outsAt0 m c t).2.2.2.2.2.2.2.2.2.1 = result21 m c := by
  unfold outsAt0 result21
  dsimp only
  rw [out21, blk9 m c t]
  funext i
  obtain ⟨j, r, k, rfl⟩ : ∃ (j : Fin 8) (r : Fin 128) (k : Fin 256), i = ix3 j r k := ⟨i 0, i 1, i 2, eq_ix3 (n0 := 8) (n1 := 128) (n2 := 256) i⟩
  have hj := j.isLt
  have hr := r.isLt
  have e : 128 * (j.val / 2) + r.val = 16 * (⟨(128 * (j.val / 2) + r.val) / 16, by omega⟩ : Fin 32).val + (⟨(128 * (j.val / 2) + r.val) % 16, by omega⟩ : Fin 16).val := by dsimp only; omega
  refine Eq.trans ?_ (v154_at (m ((c : Thread nD τ).loc main_arg9)) j r k ⟨(128 * (j.val / 2) + r.val) / 16, by omega⟩ ⟨(128 * (j.val / 2) + r.val) % 16, by omega⟩ ⟨k.val % 64, by omega⟩ e rfl).symm
  refine (canon_slabs _ j r k).trans ((cslabs_at _ _ j r k ⟨k.val % 64, by omega⟩ rfl).trans (congrArg (entry j.val r.val k.val) ?_))
  refine (times_neg_one _).trans ?_
  refine congrArg (fun z : EReal => -z) (?_ : (_ : EReal) = _)
  exact flatOut_at _ (⟨128 * (j.val / 2) + r.val, by omega⟩ : Fin 512) _ _ _ e

theorem idx21 : ∀ t : Fin cfg0.N, ∀ a, win0_21.index t a = 0 := (by decide +kernel : ∀ t : Fin grid0.N, ∀ a, win0_21.index t a = 0)

theorem rect21 (t : Fin cfg0.N) (j : S8x128x256.Idx) : (win0_21.rect t).idx j = j := by
  refine funext fun a => Fin.ext ?_
  show win0_21.index t a * _ + 1 * (j a).val = (j a).val
  rw [idx21 t a]; omega

theorem flushed21 (t : Fin cfg0.N) : (dats m 0 c).flushed 21 t = (win0_21.blk t).view.read (Elt Ideal) (result21 m c) := by
  funext j
  show (dats m 0 c).after 21 t j = result21 m c ((win0_21.rect t).idx j)
  rw [after0_21, left21, rect21]

theorem mem21 (t : Fin cfg0.N) (i : S8x128x256.Idx) : i ∈ ((cfg0.win 21).blk t).view.set := by
  show i ∈ ((View.whole main_v29_9).slice (win0_21.rect t)).set
  rw [View.set_slice_whole, Rect.mem_set_unit]
  intro a
  show win0_21.index t a * S8x128x256.size a ≤ (i a).val ∧ (i a).val < win0_21.index t a * S8x128x256.size a + S8x128x256.size a
  rw [idx21, Nat.zero_mul, Nat.zero_add]
  exact ⟨Nat.zero_le _, (i a).isLt⟩

theorem cover21 (i : S8x128x256.Idx) : ∃ t : Fin cfg0.N, (cfg0.win 21).flush t = true ∧ i ∈ ((cfg0.win 21).blk t).view.set :=
  ⟨⟨0, by show 0 < grid0.N; rw [N_0]; decide⟩, flush0_21 _, mem21 _ i⟩

theorem final21 : (dats m 0 c).arrAt 21 cfg0.N = result21 m c :=
  (dats m 0 c).arrAt_eq_of_cover 21 (result21 m c) (fun t _ => flushed21 m c t) cover21

end Cert.Kernel5Ideal.Setup

end
-- ==== Proof.Setup.lean ====
module

public import proofs.«01_k».proof.Defs
public import proofs.«01_k».proof.Proof.SetupArray
public import proofs.«01_k».proof.Proof.Gen.Reference5Ideal.Run
public import Idealize.ShloMosaic.Lib.Claim
public import Idealize.ShloMosaic.Lib.Quiescent

/-!
The claims about the set-up call of the recurrence.
-/

@[expose] public section

set_option maxRecDepth 16384
set_option maxHeartbeats 2000000

noncomputable section

namespace Setup

open Idealize.ShloMosaic Idealize.ShloMosaic.TcCoe Idealize.SL.Sem

/-- The reference terminates with its arguments unchanged and its counters at zero. -/
theorem reference_frame : Cert.quiescent_Reference5Ideal (hReference5Ideal := Cert.Reference5Ideal.Gen.facts) :=
  fun m ρ _ => (θ_run Cert.Reference5Ideal.defs _ _).mono
    (fun r h => ⟨fun c => (h c).2.2.2.2.2.2.2.2.2.2, sem_eq_zero_of_no_sems (by decide) r.2⟩)
    (Cert.Reference5Ideal.Value.run (F := Ideal) m ρ)

/-- The call and the reference end with the same ten arrays, at equal arguments. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨Cert.Kernel5Ideal.Setup.result12 m, Cert.Kernel5Ideal.Setup.result13 m, Cert.Kernel5Ideal.Setup.result14 m, Cert.Kernel5Ideal.Setup.result15 m, Cert.Kernel5Ideal.Setup.result16 m, Cert.Kernel5Ideal.Setup.result17 m, Cert.Kernel5Ideal.Setup.result18 m, Cert.Kernel5Ideal.Setup.result19 m, Cert.Kernel5Ideal.Setup.result20 m, Cert.Kernel5Ideal.Setup.result21 m, ?_, ?_⟩
  · exact (θ_run Cert.Kernel5Ideal.defs _ _).mono (fun r h c => ⟨
        ((h.1 c).1 12).trans (Cert.Kernel5Ideal.Setup.final12 m c),
        ((h.1 c).1 13).trans (Cert.Kernel5Ideal.Setup.final13 m c),
        ((h.1 c).1 14).trans (Cert.Kernel5Ideal.Setup.final14 m c),
        ((h.1 c).1 15).trans (Cert.Kernel5Ideal.Setup.final15 m c),
        ((h.1 c).1 16).trans (Cert.Kernel5Ideal.Setup.final16 m c),
        ((h.1 c).1 17).trans (Cert.Kernel5Ideal.Setup.final17 m c),
        ((h.1 c).1 18).trans (Cert.Kernel5Ideal.Setup.final18 m c),
        ((h.1 c).1 19).trans (Cert.Kernel5Ideal.Setup.final19 m c),
        ((h.1 c).1 20).trans (Cert.Kernel5Ideal.Setup.final20 m c),
        ((h.1 c).1 21).trans (Cert.Kernel5Ideal.Setup.final21 m c),
        h.2 c⟩)
      (θ_run_and (Cert.Kernel5Ideal.Gen.run_main m ρ) (Cert.Kernel5Ideal.Gen.unchanged m ρ))
  · refine (θ_run Cert.Reference5Ideal.defs _ _).mono (fun r h c => ?_)
      (Cert.Reference5Ideal.Value.run (F := Ideal) m' ρ')
    obtain ⟨h0, h1, h2, h3, h4, h5, h6, h7, h8, h9, h10⟩ := hagree c
    obtain ⟨r0, r1, r2, r3, r4, r5, r6, r7, r8, r9, kept⟩ := h c
    refine ⟨(r0.trans (Cert.Reference5Ideal.Read.val_main_v68_eq (StableHlo.launchContents m' c))).trans ?_,
      (r1.trans (Cert.Reference5Ideal.Read.val_main_v69_eq (StableHlo.launchContents m' c))).trans ?_,
      (r2.trans (Cert.Reference5Ideal.Read.val_main_v75_eq (StableHlo.launchContents m' c))).trans ?_,
      (r3.trans (Cert.Reference5Ideal.Read.val_main_v81_eq (StableHlo.launchContents m' c))).trans ?_,
      (r4.trans (Cert.Reference5Ideal.Read.val_main_v128_eq (StableHlo.launchContents m' c))).trans ?_,
      (r5.trans (Cert.Reference5Ideal.Read.val_main_v129_eq (StableHlo.launchContents m' c))).trans ?_,
      (r6.trans (Cert.Reference5Ideal.Read.val_main_v135_eq (StableHlo.launchContents m' c))).trans ?_,
      (r7.trans (Cert.Reference5Ideal.Read.val_main_v141_eq (StableHlo.launchContents m' c))).trans ?_,
      (r8.trans (Cert.Reference5Ideal.Read.val_main_v147_eq (StableHlo.launchContents m' c))).trans ?_,
      (r9.trans (Cert.Reference5Ideal.Read.val_main_v154_eq (StableHlo.launchContents m' c))).trans ?_, kept⟩
    · show Cert.Reference5Ideal.Read.val_main_v68 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = _
      rw [h0, h1, h2]
      rfl
    · show Cert.Reference5Ideal.Read.val_main_v69 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = _
      rw [h0, h1, h2]
      rfl
    · show Cert.Reference5Ideal.Read.val_main_v75 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = _
      rw [h0, h1, h2, h6, h7]
      rfl
    · show Cert.Reference5Ideal.Read.val_main_v81 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = _
      rw [h0, h1, h2, h6, h7]
      rfl
    · show Cert.Reference5Ideal.Read.val_main_v128 (F := Ideal) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
      rw [h3, h4, h5]
      rfl
    · show Cert.Reference5Ideal.Read.val_main_v129 (F := Ideal) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = _
      rw [h3, h4, h5]
      rfl
    · show Cert.Reference5Ideal.Read.val_main_v135 (F := Ideal) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = _
      rw [h3, h4, h5, h6, h7]
      rfl
    · show Cert.Reference5Ideal.Read.val_main_v141 (F := Ideal) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = _
      rw [h3, h4, h5, h6, h7]
      rfl
    · show Cert.Reference5Ideal.Read.val_main_v147 (F := Ideal) (m' ((c.tc : Thread Cert.Reference5Ideal.nD Cert.Reference5Ideal.τ).loc Cert.Reference5Ideal.main_arg8)) = _
      rw [h8]
      rfl
    · show Cert.Reference5Ideal.Read.val_main_v154 (F := Ideal) (m' ((c.tc : Thread Cert.Reference5Ideal.nD Cert.Reference5Ideal.τ).loc Cert.Reference5Ideal.main_arg9)) = _
      rw [h9]
      rfl

end Setup

end
-- ==== Proof.lean ====
module

public import proofs.«01_k».proof.Defs
public import proofs.«01_k».proof.Proof.Ffn
public import proofs.«01_k».proof.Proof.Merge
public import proofs.«01_k».proof.Proof.Proj
public import proofs.«01_k».proof.Proof.Setup
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem Cert.Kernel

/-- Each of four calls and its reference terminate with their arguments unchanged and every counter at zero, and on
    the extended reals each call computes its reference's results; the recurrence with the attention terminates with its
    arguments unchanged and every counter at zero. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, Ffn.reference_frame,
  fun m ρ _ => Cert.Kernel2.Proj.run_frame m ρ, fun m ρ _ => Cert.Kernel2Ideal.Proj.run_frame m ρ, Proj.reference_frame,
  fun m ρ _ => Cert.Kernel3.Gen.frame m ρ, fun m ρ _ => Cert.Kernel3Ideal.Gen.frame m ρ, Merge.reference_frame,
  fun m ρ _ => Cert.Kernel4.Gen.frame m ρ, fun m ρ _ => Cert.Kernel4Ideal.Gen.frame m ρ,
  fun m ρ _ => Cert.Kernel5.Gen.frame m ρ, fun m ρ _ => Cert.Kernel5Ideal.Gen.frame m ρ, Setup.reference_frame,
  trivial, Ffn.algebraic, trivial, Proj.algebraic, trivial, Merge.algebraic, trivial,
  trivial, Setup.algebraic⟩

end Cert.Proof

end
